-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Swi (m : (ℓ : Loc Cert.Swi.nD Cert.Swi.τ Cert.Swi.sig) → Buf (Elt Bits) ℓ) : Prop :=
  True

def Pre_SwiIdeal (m : (ℓ : Loc Cert.SwiIdeal.nD Cert.SwiIdeal.τ Cert.SwiIdeal.sig) → Buf (Elt Ideal) ℓ) : Prop :=
  True

def Pre_SwiRefIdeal (m : (ℓ : Loc Cert.SwiRefIdeal.nD Cert.SwiRefIdeal.τ Cert.SwiRefIdeal.sig) → Buf (Elt Ideal) ℓ) : Prop :=
  True

def Pre_Res (m : (ℓ : Loc Cert.Res.nD Cert.Res.τ Cert.Res.sig) → Buf (Elt Bits) ℓ) : Prop :=
  True

def Pre_ResIdeal (m : (ℓ : Loc Cert.ResIdeal.nD Cert.ResIdeal.τ Cert.ResIdeal.sig) → Buf (Elt Ideal) ℓ) : Prop :=
  True

def Pre_ResRefIdeal (m : (ℓ : Loc Cert.ResRefIdeal.nD Cert.ResRefIdeal.τ Cert.ResRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_Swi [hSwi : Cert.Swi.Facts] : Prop :=
  ∀ (m : (ℓ : Loc Cert.Swi.nD Cert.Swi.τ Cert.Swi.sig) → Buf (Elt Bits) ℓ) (g : Dev Cert.Swi.nD → PrngReg), Pre_Swi m →
    θ_run (Cert.Swi.defs (F := Bits)) (onTc (τ := Cert.Swi.τ) (Cert.Swi.main (F := Bits))) ⟨m, fun _ => 0, g⟩ (fun r => (∀ c : Dev Cert.Swi.nD,
      r.2.mem ((c.tc : Thread Cert.Swi.nD Cert.Swi.τ).loc Cert.Swi.main_arg0) = m ((c.tc : Thread Cert.Swi.nD Cert.Swi.τ).loc Cert.Swi.main_arg0)
      ∧ r.2.mem ((c.tc : Thread Cert.Swi.nD Cert.Swi.τ).loc Cert.Swi.main_arg1) = m ((c.tc : Thread Cert.Swi.nD Cert.Swi.τ).loc Cert.Swi.main_arg1)
      ∧ r.2.mem ((c.tc : Thread Cert.Swi.nD Cert.Swi.τ).loc Cert.Swi.main_arg2) = m ((c.tc : Thread Cert.Swi.nD Cert.Swi.τ).loc Cert.Swi.main_arg2)
      ∧ r.2.mem ((c.tc : Thread Cert.Swi.nD Cert.Swi.τ).loc Cert.Swi.main_arg3) = m ((c.tc : Thread Cert.Swi.nD Cert.Swi.τ).loc Cert.Swi.main_arg3)
      ∧ r.2.mem ((c.tc : Thread Cert.Swi.nD Cert.Swi.τ).loc Cert.Swi.main_arg4) = m ((c.tc : Thread Cert.Swi.nD Cert.Swi.τ).loc Cert.Swi.main_arg4))
      ∧ r.2.sem = fun _ => 0)

def quiescent_SwiIdeal [hSwiIdeal : Cert.SwiIdeal.Facts] : Prop :=
  ∀ (m : (ℓ : Loc Cert.SwiIdeal.nD Cert.SwiIdeal.τ Cert.SwiIdeal.sig) → Buf (Elt Ideal) ℓ) (g : Dev Cert.SwiIdeal.nD → PrngReg), Pre_SwiIdeal m →
    θ_run (Cert.SwiIdeal.defs (F := Ideal)) (onTc (τ := Cert.SwiIdeal.τ) (Cert.SwiIdeal.main (F := Ideal))) ⟨m, fun _ => 0, g⟩ (fun r => (∀ c : Dev Cert.SwiIdeal.nD,
      r.2.mem ((c.tc : Thread Cert.SwiIdeal.nD Cert.SwiIdeal.τ).loc Cert.SwiIdeal.main_arg0) = m ((c.tc : Thread Cert.SwiIdeal.nD Cert.SwiIdeal.τ).loc Cert.SwiIdeal.main_arg0)
      ∧ r.2.mem ((c.tc : Thread Cert.SwiIdeal.nD Cert.SwiIdeal.τ).loc Cert.SwiIdeal.main_arg1) = m ((c.tc : Thread Cert.SwiIdeal.nD Cert.SwiIdeal.τ).loc Cert.SwiIdeal.main_arg1)
      ∧ r.2.mem ((c.tc : Thread Cert.SwiIdeal.nD Cert.SwiIdeal.τ).loc Cert.SwiIdeal.main_arg2) = m ((c.tc : Thread Cert.SwiIdeal.nD Cert.SwiIdeal.τ).loc Cert.SwiIdeal.main_arg2)
      ∧ r.2.mem ((c.tc : Thread Cert.SwiIdeal.nD Cert.SwiIdeal.τ).loc Cert.SwiIdeal.main_arg3) = m ((c.tc : Thread Cert.SwiIdeal.nD Cert.SwiIdeal.τ).loc Cert.SwiIdeal.main_arg3)
      ∧ r.2.mem ((c.tc : Thread Cert.SwiIdeal.nD Cert.SwiIdeal.τ).loc Cert.SwiIdeal.main_arg4) = m ((c.tc : Thread Cert.SwiIdeal.nD Cert.SwiIdeal.τ).loc Cert.SwiIdeal.main_arg4))
      ∧ r.2.sem = fun _ => 0)

def quiescent_SwiRefIdeal [hSwiRefIdeal : Cert.SwiRefIdeal.Facts] : Prop :=
  ∀ (m : (ℓ : Loc Cert.SwiRefIdeal.nD Cert.SwiRefIdeal.τ Cert.SwiRefIdeal.sig) → Buf (Elt Ideal) ℓ) (g : Dev Cert.SwiRefIdeal.nD → PrngReg), Pre_SwiRefIdeal m →
    θ_run (Cert.SwiRefIdeal.defs (F := Ideal)) (onTc (τ := Cert.SwiRefIdeal.τ) (Cert.SwiRefIdeal.main (F := Ideal))) ⟨m, fun _ => 0, g⟩ (fun r => (∀ c : Dev Cert.SwiRefIdeal.nD,
      r.2.mem ((c.tc : Thread Cert.SwiRefIdeal.nD Cert.SwiRefIdeal.τ).loc Cert.SwiRefIdeal.main_arg0) = m ((c.tc : Thread Cert.SwiRefIdeal.nD Cert.SwiRefIdeal.τ).loc Cert.SwiRefIdeal.main_arg0)
      ∧ r.2.mem ((c.tc : Thread Cert.SwiRefIdeal.nD Cert.SwiRefIdeal.τ).loc Cert.SwiRefIdeal.main_arg1) = m ((c.tc : Thread Cert.SwiRefIdeal.nD Cert.SwiRefIdeal.τ).loc Cert.SwiRefIdeal.main_arg1)
      ∧ r.2.mem ((c.tc : Thread Cert.SwiRefIdeal.nD Cert.SwiRefIdeal.τ).loc Cert.SwiRefIdeal.main_arg2) = m ((c.tc : Thread Cert.SwiRefIdeal.nD Cert.SwiRefIdeal.τ).loc Cert.SwiRefIdeal.main_arg2)
      ∧ r.2.mem ((c.tc : Thread Cert.SwiRefIdeal.nD Cert.SwiRefIdeal.τ).loc Cert.SwiRefIdeal.main_arg3) = m ((c.tc : Thread Cert.SwiRefIdeal.nD Cert.SwiRefIdeal.τ).loc Cert.SwiRefIdeal.main_arg3)
      ∧ r.2.mem ((c.tc : Thread Cert.SwiRefIdeal.nD Cert.SwiRefIdeal.τ).loc Cert.SwiRefIdeal.main_arg4) = m ((c.tc : Thread Cert.SwiRefIdeal.nD Cert.SwiRefIdeal.τ).loc Cert.SwiRefIdeal.main_arg4))
      ∧ r.2.sem = fun _ => 0)

def quiescent_Res [hRes : Cert.Res.Facts] : Prop :=
  ∀ (m : (ℓ : Loc Cert.Res.nD Cert.Res.τ Cert.Res.sig) → Buf (Elt Bits) ℓ) (g : Dev Cert.Res.nD → PrngReg), Pre_Res m →
    θ_run (Cert.Res.defs (F := Bits)) (onTc (τ := Cert.Res.τ) (Cert.Res.main (F := Bits))) ⟨m, fun _ => 0, g⟩ (fun r => (∀ c : Dev Cert.Res.nD,
      r.2.mem ((c.tc : Thread Cert.Res.nD Cert.Res.τ).loc Cert.Res.main_arg0) = m ((c.tc : Thread Cert.Res.nD Cert.Res.τ).loc Cert.Res.main_arg0)
      ∧ r.2.mem ((c.tc : Thread Cert.Res.nD Cert.Res.τ).loc Cert.Res.main_arg1) = m ((c.tc : Thread Cert.Res.nD Cert.Res.τ).loc Cert.Res.main_arg1)
      ∧ r.2.mem ((c.tc : Thread Cert.Res.nD Cert.Res.τ).loc Cert.Res.main_arg2) = m ((c.tc : Thread Cert.Res.nD Cert.Res.τ).loc Cert.Res.main_arg2)
      ∧ r.2.mem ((c.tc : Thread Cert.Res.nD Cert.Res.τ).loc Cert.Res.main_arg3) = m ((c.tc : Thread Cert.Res.nD Cert.Res.τ).loc Cert.Res.main_arg3))
      ∧ r.2.sem = fun _ => 0)

def quiescent_ResIdeal [hResIdeal : Cert.ResIdeal.Facts] : Prop :=
  ∀ (m : (ℓ : Loc Cert.ResIdeal.nD Cert.ResIdeal.τ Cert.ResIdeal.sig) → Buf (Elt Ideal) ℓ) (g : Dev Cert.ResIdeal.nD → PrngReg), Pre_ResIdeal m →
    θ_run (Cert.ResIdeal.defs (F := Ideal)) (onTc (τ := Cert.ResIdeal.τ) (Cert.ResIdeal.main (F := Ideal))) ⟨m, fun _ => 0, g⟩ (fun r => (∀ c : Dev Cert.ResIdeal.nD,
      r.2.mem ((c.tc : Thread Cert.ResIdeal.nD Cert.ResIdeal.τ).loc Cert.ResIdeal.main_arg0) = m ((c.tc : Thread Cert.ResIdeal.nD Cert.ResIdeal.τ).loc Cert.ResIdeal.main_arg0)
      ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
      ∧ r.2.mem ((c.tc : Thread Cert.ResIdeal.nD Cert.ResIdeal.τ).loc Cert.ResIdeal.main_arg2) = m ((c.tc : Thread Cert.ResIdeal.nD Cert.ResIdeal.τ).loc Cert.ResIdeal.main_arg2)
      ∧ r.2.mem ((c.tc : Thread Cert.ResIdeal.nD Cert.ResIdeal.τ).loc Cert.ResIdeal.main_arg3) = m ((c.tc : Thread Cert.ResIdeal.nD Cert.ResIdeal.τ).loc Cert.ResIdeal.main_arg3))
      ∧ r.2.sem = fun _ => 0)

def quiescent_ResRefIdeal [hResRefIdeal : Cert.ResRefIdeal.Facts] : Prop :=
  ∀ (m : (ℓ : Loc Cert.ResRefIdeal.nD Cert.ResRefIdeal.τ Cert.ResRefIdeal.sig) → Buf (Elt Ideal) ℓ) (g : Dev Cert.ResRefIdeal.nD → PrngReg), Pre_ResRefIdeal m →
    θ_run (Cert.ResRefIdeal.defs (F := Ideal)) (onTc (τ := Cert.ResRefIdeal.τ) (Cert.ResRefIdeal.main (F := Ideal))) ⟨m, fun _ => 0, g⟩ (fun r => (∀ c : Dev Cert.ResRefIdeal.nD,
      r.2.mem ((c.tc : Thread Cert.ResRefIdeal.nD Cert.ResRefIdeal.τ).loc Cert.ResRefIdeal.main_arg0) = m ((c.tc : Thread Cert.ResRefIdeal.nD Cert.ResRefIdeal.τ).loc Cert.ResRefIdeal.main_arg0)
      ∧ r.2.mem ((c.tc : Thread Cert.ResRefIdeal.nD Cert.ResRefIdeal.τ).loc Cert.ResRefIdeal.main_arg1) = m ((c.tc : Thread Cert.ResRefIdeal.nD Cert.ResRefIdeal.τ).loc Cert.ResRefIdeal.main_arg1)
      ∧ r.2.mem ((c.tc : Thread Cert.ResRefIdeal.nD Cert.ResRefIdeal.τ).loc Cert.ResRefIdeal.main_arg2) = m ((c.tc : Thread Cert.ResRefIdeal.nD Cert.ResRefIdeal.τ).loc Cert.ResRefIdeal.main_arg2)
      ∧ r.2.mem ((c.tc : Thread Cert.ResRefIdeal.nD Cert.ResRefIdeal.τ).loc Cert.ResRefIdeal.main_arg3) = m ((c.tc : Thread Cert.ResRefIdeal.nD Cert.ResRefIdeal.τ).loc Cert.ResRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4))
      ∧ r.2.sem = fun _ => 0)

def preserves_Kernel_KernelIdeal : Prop :=
  True

def preserves_Swi_SwiIdeal : Prop :=
  True

def algebraic_SwiIdeal_SwiRefIdeal [hSwiIdeal : Cert.SwiIdeal.Facts] [hSwiRefIdeal : Cert.SwiRefIdeal.Facts] : Prop :=
  ∀ (m : (ℓ : Loc Cert.SwiIdeal.nD Cert.SwiIdeal.τ Cert.SwiIdeal.sig) → Buf (Elt Ideal) ℓ) (g : Dev Cert.SwiIdeal.nD → PrngReg)
    (m' : (ℓ : Loc Cert.SwiRefIdeal.nD Cert.SwiRefIdeal.τ Cert.SwiRefIdeal.sig) → Buf (Elt Ideal) ℓ) (g' : Dev Cert.SwiRefIdeal.nD → PrngReg), Pre_SwiIdeal m →
    (∀ c : Dev Cert.SwiIdeal.nD,
      m' ((c.tc : Thread Cert.SwiRefIdeal.nD Cert.SwiRefIdeal.τ).loc Cert.SwiRefIdeal.main_arg0) = m ((c.tc : Thread Cert.SwiIdeal.nD Cert.SwiIdeal.τ).loc Cert.SwiIdeal.main_arg0)
      ∧ m' ((c.tc : Thread Cert.SwiRefIdeal.nD Cert.SwiRefIdeal.τ).loc Cert.SwiRefIdeal.main_arg1) = m ((c.tc : Thread Cert.SwiIdeal.nD Cert.SwiIdeal.τ).loc Cert.SwiIdeal.main_arg1)
      ∧ m' ((c.tc : Thread Cert.SwiRefIdeal.nD Cert.SwiRefIdeal.τ).loc Cert.SwiRefIdeal.main_arg2) = m ((c.tc : Thread Cert.SwiIdeal.nD Cert.SwiIdeal.τ).loc Cert.SwiIdeal.main_arg2)
      ∧ m' ((c.tc : Thread Cert.SwiRefIdeal.nD Cert.SwiRefIdeal.τ).loc Cert.SwiRefIdeal.main_arg3) = m ((c.tc : Thread Cert.SwiIdeal.nD Cert.SwiIdeal.τ).loc Cert.SwiIdeal.main_arg3)
      ∧ m' ((c.tc : Thread Cert.SwiRefIdeal.nD Cert.SwiRefIdeal.τ).loc Cert.SwiRefIdeal.main_arg4) = m ((c.tc : Thread Cert.SwiIdeal.nD Cert.SwiIdeal.τ).loc Cert.SwiIdeal.main_arg4)) →
    ∃ (v0 : (c : Dev Cert.SwiIdeal.nD) → Buf (Elt Ideal) ((c.tc : Thread Cert.SwiIdeal.nD Cert.SwiIdeal.τ).loc Cert.SwiIdeal.main_v0_0)) (v1 : (c : Dev Cert.SwiIdeal.nD) → Buf (Elt Ideal) ((c.tc : Thread Cert.SwiIdeal.nD Cert.SwiIdeal.τ).loc Cert.SwiIdeal.main_v0_1)),
      θ_run (Cert.SwiIdeal.defs (F := Ideal)) (onTc (τ := Cert.SwiIdeal.τ) (Cert.SwiIdeal.main (F := Ideal))) ⟨m, fun _ => 0, g⟩ (fun r => ∀ c : Dev Cert.SwiIdeal.nD,
          r.2.mem ((c.tc : Thread Cert.SwiIdeal.nD Cert.SwiIdeal.τ).loc Cert.SwiIdeal.main_v0_0) = v0 c
          ∧ r.2.mem ((c.tc : Thread Cert.SwiIdeal.nD Cert.SwiIdeal.τ).loc Cert.SwiIdeal.main_v0_1) = v1 c
          ∧ r.2.mem ((c.tc : Thread Cert.SwiIdeal.nD Cert.SwiIdeal.τ).loc Cert.SwiIdeal.main_arg0) = m ((c.tc : Thread Cert.SwiIdeal.nD Cert.SwiIdeal.τ).loc Cert.SwiIdeal.main_arg0)
          ∧ r.2.mem ((c.tc : Thread Cert.SwiIdeal.nD Cert.SwiIdeal.τ).loc Cert.SwiIdeal.main_arg1) = m ((c.tc : Thread Cert.SwiIdeal.nD Cert.SwiIdeal.τ).loc Cert.SwiIdeal.main_arg1)
          ∧ r.2.mem ((c.tc : Thread Cert.SwiIdeal.nD Cert.SwiIdeal.τ).loc Cert.SwiIdeal.main_arg2) = m ((c.tc : Thread Cert.SwiIdeal.nD Cert.SwiIdeal.τ).loc Cert.SwiIdeal.main_arg2)
          ∧ r.2.mem ((c.tc : Thread Cert.SwiIdeal.nD Cert.SwiIdeal.τ).loc Cert.SwiIdeal.main_arg3) = m ((c.tc : Thread Cert.SwiIdeal.nD Cert.SwiIdeal.τ).loc Cert.SwiIdeal.main_arg3)
          ∧ r.2.mem ((c.tc : Thread Cert.SwiIdeal.nD Cert.SwiIdeal.τ).loc Cert.SwiIdeal.main_arg4) = m ((c.tc : Thread Cert.SwiIdeal.nD Cert.SwiIdeal.τ).loc Cert.SwiIdeal.main_arg4))
      ∧ θ_run (Cert.SwiRefIdeal.defs (F := Ideal)) (onTc (τ := Cert.SwiRefIdeal.τ) (Cert.SwiRefIdeal.main (F := Ideal))) ⟨m', fun _ => 0, g'⟩ (fun r => ∀ c : Dev Cert.SwiRefIdeal.nD,
          r.2.mem ((c.tc : Thread Cert.SwiRefIdeal.nD Cert.SwiRefIdeal.τ).loc Cert.SwiRefIdeal.main_v9) = v0 c
          ∧ r.2.mem ((c.tc : Thread Cert.SwiRefIdeal.nD Cert.SwiRefIdeal.τ).loc Cert.SwiRefIdeal.main_v12) = v1 c
          ∧ r.2.mem ((c.tc : Thread Cert.SwiRefIdeal.nD Cert.SwiRefIdeal.τ).loc Cert.SwiRefIdeal.main_arg0) = m' ((c.tc : Thread Cert.SwiRefIdeal.nD Cert.SwiRefIdeal.τ).loc Cert.SwiRefIdeal.main_arg0)
          ∧ r.2.mem ((c.tc : Thread Cert.SwiRefIdeal.nD Cert.SwiRefIdeal.τ).loc Cert.SwiRefIdeal.main_arg1) = m' ((c.tc : Thread Cert.SwiRefIdeal.nD Cert.SwiRefIdeal.τ).loc Cert.SwiRefIdeal.main_arg1)
          ∧ r.2.mem ((c.tc : Thread Cert.SwiRefIdeal.nD Cert.SwiRefIdeal.τ).loc Cert.SwiRefIdeal.main_arg2) = m' ((c.tc : Thread Cert.SwiRefIdeal.nD Cert.SwiRefIdeal.τ).loc Cert.SwiRefIdeal.main_arg2)
          ∧ r.2.mem ((c.tc : Thread Cert.SwiRefIdeal.nD Cert.SwiRefIdeal.τ).loc Cert.SwiRefIdeal.main_arg3) = m' ((c.tc : Thread Cert.SwiRefIdeal.nD Cert.SwiRefIdeal.τ).loc Cert.SwiRefIdeal.main_arg3)
          ∧ r.2.mem ((c.tc : Thread Cert.SwiRefIdeal.nD Cert.SwiRefIdeal.τ).loc Cert.SwiRefIdeal.main_arg4) = m' ((c.tc : Thread Cert.SwiRefIdeal.nD Cert.SwiRefIdeal.τ).loc Cert.SwiRefIdeal.main_arg4))

def preserves_Res_ResIdeal : Prop :=
  True

def algebraic_ResIdeal_ResRefIdeal [hResIdeal : Cert.ResIdeal.Facts] [hResRefIdeal : Cert.ResRefIdeal.Facts] : Prop :=
  ∀ (m : (ℓ : Loc Cert.ResIdeal.nD Cert.ResIdeal.τ Cert.ResIdeal.sig) → Buf (Elt Ideal) ℓ) (g : Dev Cert.ResIdeal.nD → PrngReg)
    (m' : (ℓ : Loc Cert.ResRefIdeal.nD Cert.ResRefIdeal.τ Cert.ResRefIdeal.sig) → Buf (Elt Ideal) ℓ) (g' : Dev Cert.ResRefIdeal.nD → PrngReg), Pre_ResIdeal m →
    (∀ c : Dev Cert.ResIdeal.nD,
      m' ((c.tc : Thread Cert.ResRefIdeal.nD Cert.ResRefIdeal.τ).loc Cert.ResRefIdeal.main_arg0) = m ((c.tc : Thread Cert.ResIdeal.nD Cert.ResIdeal.τ).loc Cert.ResIdeal.main_arg0)
      ∧ m' ((c.tc : Thread Cert.ResRefIdeal.nD Cert.ResRefIdeal.τ).loc Cert.ResRefIdeal.main_arg1) = m ((c.tc : Thread Cert.ResIdeal.nD Cert.ResIdeal.τ).loc Cert.ResIdeal.main_arg1)
      ∧ m' ((c.tc : Thread Cert.ResRefIdeal.nD Cert.ResRefIdeal.τ).loc Cert.ResRefIdeal.main_arg2) = m ((c.tc : Thread Cert.ResIdeal.nD Cert.ResIdeal.τ).loc Cert.ResIdeal.main_arg2)
      ∧ m' ((c.tc : Thread Cert.ResRefIdeal.nD Cert.ResRefIdeal.τ).loc Cert.ResRefIdeal.main_arg3) = m ((c.tc : Thread Cert.ResIdeal.nD Cert.ResIdeal.τ).loc Cert.ResIdeal.main_arg3)) →
    ∃ (v0 : (c : Dev Cert.ResIdeal.nD) → Buf (Elt Ideal) ((c.tc : Thread Cert.ResIdeal.nD Cert.ResIdeal.τ).loc Cert.ResIdeal.main_v1_0)) (v1 : (c : Dev Cert.ResIdeal.nD) → Buf (Elt Ideal) ((c.tc : Thread Cert.ResIdeal.nD Cert.ResIdeal.τ).loc Cert.ResIdeal.main_v1_1)) (v2 : (c : Dev Cert.ResIdeal.nD) → Buf (Elt Ideal) ((c.tc : Thread Cert.ResIdeal.nD Cert.ResIdeal.τ).loc Cert.ResIdeal.main_v1_2)),
      θ_run (Cert.ResIdeal.defs (F := Ideal)) (onTc (τ := Cert.ResIdeal.τ) (Cert.ResIdeal.main (F := Ideal))) ⟨m, fun _ => 0, g⟩ (fun r => ∀ c : Dev Cert.ResIdeal.nD,
          r.2.mem ((c.tc : Thread Cert.ResIdeal.nD Cert.ResIdeal.τ).loc Cert.ResIdeal.main_v1_0) = v0 c
          ∧ r.2.mem ((c.tc : Thread Cert.ResIdeal.nD Cert.ResIdeal.τ).loc Cert.ResIdeal.main_v1_1) = v1 c
          ∧ r.2.mem ((c.tc : Thread Cert.ResIdeal.nD Cert.ResIdeal.τ).loc Cert.ResIdeal.main_v1_2) = v2 c
          ∧ r.2.mem ((c.tc : Thread Cert.ResIdeal.nD Cert.ResIdeal.τ).loc Cert.ResIdeal.main_arg0) = m ((c.tc : Thread Cert.ResIdeal.nD Cert.ResIdeal.τ).loc Cert.ResIdeal.main_arg0)
          ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
          ∧ r.2.mem ((c.tc : Thread Cert.ResIdeal.nD Cert.ResIdeal.τ).loc Cert.ResIdeal.main_arg2) = m ((c.tc : Thread Cert.ResIdeal.nD Cert.ResIdeal.τ).loc Cert.ResIdeal.main_arg2)
          ∧ r.2.mem ((c.tc : Thread Cert.ResIdeal.nD Cert.ResIdeal.τ).loc Cert.ResIdeal.main_arg3) = m ((c.tc : Thread Cert.ResIdeal.nD Cert.ResIdeal.τ).loc Cert.ResIdeal.main_arg3))
      ∧ θ_run (Cert.ResRefIdeal.defs (F := Ideal)) (onTc (τ := Cert.ResRefIdeal.τ) (Cert.ResRefIdeal.main (F := Ideal))) ⟨m', fun _ => 0, g'⟩ (fun r => ∀ c : Dev Cert.ResRefIdeal.nD,
          r.2.mem ((c.tc : Thread Cert.ResRefIdeal.nD Cert.ResRefIdeal.τ).loc Cert.ResRefIdeal.main_v3) = v0 c
          ∧ r.2.mem ((c.tc : Thread Cert.ResRefIdeal.nD Cert.ResRefIdeal.τ).loc Cert.ResRefIdeal.main_v17) = v1 c
          ∧ r.2.mem ((c.tc : Thread Cert.ResRefIdeal.nD Cert.ResRefIdeal.τ).loc Cert.ResRefIdeal.main_v18) = v2 c
          ∧ r.2.mem ((c.tc : Thread Cert.ResRefIdeal.nD Cert.ResRefIdeal.τ).loc Cert.ResRefIdeal.main_arg0) = m' ((c.tc : Thread Cert.ResRefIdeal.nD Cert.ResRefIdeal.τ).loc Cert.ResRefIdeal.main_arg0)
          ∧ r.2.mem ((c.tc : Thread Cert.ResRefIdeal.nD Cert.ResRefIdeal.τ).loc Cert.ResRefIdeal.main_arg1) = m' ((c.tc : Thread Cert.ResRefIdeal.nD Cert.ResRefIdeal.τ).loc Cert.ResRefIdeal.main_arg1)
          ∧ r.2.mem ((c.tc : Thread Cert.ResRefIdeal.nD Cert.ResRefIdeal.τ).loc Cert.ResRefIdeal.main_arg2) = m' ((c.tc : Thread Cert.ResRefIdeal.nD Cert.ResRefIdeal.τ).loc Cert.ResRefIdeal.main_arg2)
          ∧ r.2.mem ((c.tc : Thread Cert.ResRefIdeal.nD Cert.ResRefIdeal.τ).loc Cert.ResRefIdeal.main_arg3) = m' ((c.tc : Thread Cert.ResRefIdeal.nD Cert.ResRefIdeal.τ).loc Cert.ResRefIdeal.main_arg3))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v1_0)) (v1 : (c : Dev Cert.MixIdeal.nD) → Buf (Elt Ideal) ((c.tc : Thread Cert.MixIdeal.nD Cert.MixIdeal.τ).loc Cert.MixIdeal.main_v1_1)) (v2 : (c : Dev Cert.MixIdeal.nD) → Buf (Elt Ideal) ((c.tc : Thread Cert.MixIdeal.nD Cert.MixIdeal.τ).loc Cert.MixIdeal.main_v1_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v1_0) = v0 c
          ∧ r.2.mem ((c.tc : Thread Cert.MixIdeal.nD Cert.MixIdeal.τ).loc Cert.MixIdeal.main_v1_1) = v1 c
          ∧ r.2.mem ((c.tc : Thread Cert.MixIdeal.nD Cert.MixIdeal.τ).loc Cert.MixIdeal.main_v1_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v2) = v0 c
          ∧ r.2.mem ((c.tc : Thread Cert.MixRefIdeal.nD Cert.MixRefIdeal.τ).loc Cert.MixRefIdeal.main_v16) = v1 c
          ∧ r.2.mem ((c.tc : Thread Cert.MixRefIdeal.nD Cert.MixRefIdeal.τ).loc Cert.MixRefIdeal.main_v17) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v25_0)) (v1 : (c : Dev Cert.QkvIdeal.nD) → Buf (Elt Ideal) ((c.tc : Thread Cert.QkvIdeal.nD Cert.QkvIdeal.τ).loc Cert.QkvIdeal.main_v25_1)) (v2 : (c : Dev Cert.QkvIdeal.nD) → Buf (Elt Ideal) ((c.tc : Thread Cert.QkvIdeal.nD Cert.QkvIdeal.τ).loc Cert.QkvIdeal.main_v25_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v25_0) = v0 c
          ∧ r.2.mem ((c.tc : Thread Cert.QkvIdeal.nD Cert.QkvIdeal.τ).loc Cert.QkvIdeal.main_v25_1) = v1 c
          ∧ r.2.mem ((c.tc : Thread Cert.QkvIdeal.nD Cert.QkvIdeal.τ).loc Cert.QkvIdeal.main_v25_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v44) = v0 c
          ∧ r.2.mem ((c.tc : Thread Cert.QkvRefIdeal.nD Cert.QkvRefIdeal.τ).loc Cert.QkvRefIdeal.main_v47) = v1 c
          ∧ r.2.mem ((c.tc : Thread Cert.QkvRefIdeal.nD Cert.QkvRefIdeal.τ).loc Cert.QkvRefIdeal.main_v50) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)
      ∧ m' ((c.tc : Thread Cert.GluRefIdeal.nD Cert.GluRefIdeal.τ).loc Cert.GluRefIdeal.main_arg4) = m ((c.tc : Thread Cert.GluIdeal.nD Cert.GluIdeal.τ).loc Cert.GluIdeal.main_arg4)) →
    ∃ (v0 : (c : Dev Cert.GluIdeal.nD) → Buf (Elt Ideal) ((c.tc : Thread Cert.GluIdeal.nD Cert.GluIdeal.τ).loc Cert.GluIdeal.main_v1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v1) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v237) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3)
          ∧ r.2.mem ((c.tc : Thread Cert.GluRefIdeal.nD Cert.GluRefIdeal.τ).loc Cert.GluRefIdeal.main_arg4) = m' ((c.tc : Thread Cert.GluRefIdeal.nD Cert.GluRefIdeal.τ).loc Cert.GluRefIdeal.main_arg4))

def Claim : Prop :=
  ∃ (hKernel : Cert.Kernel.Facts) (hKernelIdeal : Cert.KernelIdeal.Facts) (hSwi : Cert.Swi.Facts) (hSwiIdeal : Cert.SwiIdeal.Facts) (hSwiRefIdeal : Cert.SwiRefIdeal.Facts) (hRes : Cert.Res.Facts) (hResIdeal : Cert.ResIdeal.Facts) (hResRefIdeal : Cert.ResRefIdeal.Facts) (hMix : Cert.Mix.Facts) (hMixIdeal : Cert.MixIdeal.Facts) (hMixRefIdeal : Cert.MixRefIdeal.Facts) (hQkv : Cert.Qkv.Facts) (hQkvIdeal : Cert.QkvIdeal.Facts) (hQkvRefIdeal : Cert.QkvRefIdeal.Facts) (hGlu : Cert.Glu.Facts) (hGluIdeal : Cert.GluIdeal.Facts) (hGluRefIdeal : Cert.GluRefIdeal.Facts),
    quiescent_Kernel (hKernel := hKernel)
    ∧ quiescent_KernelIdeal (hKernelIdeal := hKernelIdeal)
    ∧ quiescent_Swi (hSwi := hSwi)
    ∧ quiescent_SwiIdeal (hSwiIdeal := hSwiIdeal)
    ∧ quiescent_SwiRefIdeal (hSwiRefIdeal := hSwiRefIdeal)
    ∧ quiescent_Res (hRes := hRes)
    ∧ quiescent_ResIdeal (hResIdeal := hResIdeal)
    ∧ quiescent_ResRefIdeal (hResRefIdeal := hResRefIdeal)
    ∧ quiescent_Mix (hMix := hMix)
    ∧ quiescent_MixIdeal (hMixIdeal := hMixIdeal)
    ∧ quiescent_MixRefIdeal (hMixRefIdeal := hMixRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Glu (hGlu := hGlu)
    ∧ quiescent_GluIdeal (hGluIdeal := hGluIdeal)
    ∧ quiescent_GluRefIdeal (hGluRefIdeal := hGluRefIdeal)
    ∧ preserves_Kernel_KernelIdeal
    ∧ preserves_Swi_SwiIdeal
    ∧ algebraic_SwiIdeal_SwiRefIdeal (hSwiIdeal := hSwiIdeal) (hSwiRefIdeal := hSwiRefIdeal)
    ∧ preserves_Res_ResIdeal
    ∧ algebraic_ResIdeal_ResRefIdeal (hResIdeal := hResIdeal) (hResRefIdeal := hResRefIdeal)
    ∧ preserves_Mix_MixIdeal
    ∧ algebraic_MixIdeal_MixRefIdeal (hMixIdeal := hMixIdeal) (hMixRefIdeal := hMixRefIdeal)
    ∧ preserves_Qkv_QkvIdeal
    ∧ algebraic_QkvIdeal_QkvRefIdeal (hQkvIdeal := hQkvIdeal) (hQkvRefIdeal := hQkvRefIdeal)
    ∧ preserves_Glu_GluIdeal
    ∧ algebraic_GluIdeal_GluRefIdeal (hGluIdeal := hGluIdeal) (hGluRefIdeal := hGluRefIdeal)
-- ==== Kernel.lean ====
abbrev S8192x6144 : Shape := ⟨2, ![8192, 6144]⟩
abbrev S8192x2048 : Shape := ⟨2, ![8192, 2048]⟩
abbrev S2048x128 : Shape := ⟨2, ![2048, 128]⟩
abbrev S128x128 : Shape := ⟨2, ![128, 128]⟩
abbrev S6144x256 : Shape := ⟨2, ![6144, 256]⟩
abbrev S512x128 : Shape := ⟨2, ![512, 128]⟩
abbrev S128x256 : Shape := ⟨2, ![128, 256]⟩
abbrev S256x128 : Shape := ⟨2, ![256, 128]⟩
abbrev S128 : Shape := ⟨1, ![128]⟩
abbrev S128x1 : Shape := ⟨2, ![128, 1]⟩
abbrev S256x256 : Shape := ⟨2, ![256, 256]⟩
abbrev S32x128 : Shape := ⟨2, ![32, 128]⟩

abbrev nBuf : Space → Nat
  | .hbm => 2
  | .vmem => 26
  | .smem => 0
  | _ => 0

abbrev bufTy : (tb : Table) → Fin (tcTables nBuf tb) → BufTy
  | .hbm, ⟨0, _⟩ => ⟨S8192x6144, .f32⟩
  | .hbm, ⟨1, _⟩ => ⟨S8192x2048, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S128x128, .f32⟩
  | .local _ .vmem, ⟨14, _⟩ => ⟨S128x128, .f32⟩
  | .local _ .vmem, ⟨15, _⟩ => ⟨S6144x256, .f32⟩
  | .local _ .vmem, ⟨16, _⟩ => ⟨S6144x256, .bf16⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_scratch10 : Ref sig .tc := ⟨.vmem, 18, rfl⟩
abbrev cc0_scratch11 : Ref sig .tc := ⟨.vmem, 19, rfl⟩
abbrev cc0_scratch12 : Ref sig .tc := ⟨.vmem, 20, rfl⟩
abbrev cc0_scratch13 : Ref sig .tc := ⟨.vmem, 21, rfl⟩
abbrev cc0_scratch14 : Ref sig .tc := ⟨.vmem, 22, rfl⟩
abbrev cc0_scratch15 : Ref sig .tc := ⟨.vmem, 23, rfl⟩
abbrev cc0_scratch16 : Ref sig .tc := ⟨.vmem, 24, rfl⟩
abbrev cc0_scratch17 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32_1285 : BitVec 32 := 0#32
  let c16_i32 : BitVec 32 := 16#32
  let v2094 : BitVec 32 := Scalar.addi c0_i32_1285 c16_i32
  let c1_i32 : BitVec 32 := 1#32
  ⟨c0_i32_1285, v2094, c1_i32⟩
def k0_mult1 (k0_t1 : Fin k0_t1_loop.trips) : BitVec 32 :=
  let c0_i32_1303 : BitVec 32 := 0#32
  let c0_i32_1285 : BitVec 32 := 0#32
  let c1_i32 : BitVec 32 := 1#32
  let arg24 : BitVec 32 := Scf.iv c0_i32_1285 c1_i32 k0_t1
  let c32_i32 : BitVec 32 := 32#32
  let v2111 : BitVec 32 := Scalar.muli arg24 c32_i32
  let v2112 : BitVec 32 := Scalar.addi c0_i32_1303 v2111
  v2112
def k0_off1 (k0_t1 : Fin k0_t1_loop.trips) (c0_i32_1305 : BitVec 32) : Fin 2 → Nat :=
  let c0_i32_1285 : BitVec 32 := 0#32
  let c1_i32 : BitVec 32 := 1#32
  let arg24 : BitVec 32 := Scf.iv c0_i32_1285 c1_i32 k0_t1
  let c32_i32_1304 : BitVec 32 := 32#32
  let v2114 : BitVec 32 := Scalar.muli arg24 c32_i32_1304
  let c4_i32 : BitVec 32 := 4#32
  let v2115 : BitVec 32 := Scalar.muli v2114 c4_i32
  let v2116 : BitVec 32 := Scalar.addi c0_i32_1305 v2115
  let v2117 : Index := Scalar.indexCast v2116
  let c0_1306 : Index := 0#32
  ![v2117.toNat, 0]
def k0_off2 (k0_t1 : Fin k0_t1_loop.trips) (c0_i32_1303 : BitVec 32) : Fin 2 → Nat :=
  let c0_i32_1285 : BitVec 32 := 0#32
  let c1_i32 : BitVec 32 := 1#32
  let arg24 : BitVec 32 := Scf.iv c0_i32_1285 c1_i32 k0_t1
  let c32_i32 : BitVec 32 := 32#32
  let v2111 : BitVec 32 := Scalar.muli arg24 c32_i32
  let v2112 : BitVec 32 := Scalar.addi c0_i32_1303 v2111
  let v2113 : BitVec 32 := v2112
  let v2119 : Index := Scalar.indexCast v2113
  let c0_1307 : Index := 0#32
  ![v2119.toNat, 0]
def k0_mult2 (k0_t1 : Fin k0_t1_loop.trips) : BitVec 32 :=
  let c512_i32 : BitVec 32 := 512#32
  let c0_i32_1285 : BitVec 32 := 0#32
  let c1_i32 : BitVec 32 := 1#32
  let arg24 : BitVec 32 := Scf.iv c0_i32_1285 c1_i32 k0_t1
  let c32_i32_1317 : BitVec 32 := 32#32
  let v2158 : BitVec 32 := Scalar.muli arg24 c32_i32_1317
  let v2159 : BitVec 32 := Scalar.addi c512_i32 v2158
  v2159
def k0_mult3 (k0_t1 : Fin k0_t1_loop.trips) : BitVec 32 :=
  let c1024_i32 : BitVec 32 := 1024#32
  let c0_i32_1285 : BitVec 32 := 0#32
  let c1_i32 : BitVec 32 := 1#32
  let arg24 : BitVec 32 := Scf.iv c0_i32_1285 c1_i32 k0_t1
  let c32_i32_1332 : BitVec 32 := 32#32
  let v2205 : BitVec 32 := Scalar.muli arg24 c32_i32_1332
  let v2206 : BitVec 32 := Scalar.addi c1024_i32 v2205
  v2206
def k0_mult4 (k0_t1 : Fin k0_t1_loop.trips) : BitVec 32 :=
  let c1536_i32 : BitVec 32 := 1536#32
  let c0_i32_1285 : BitVec 32 := 0#32
  let c1_i32 : BitVec 32 := 1#32
  let arg24 : BitVec 32 := Scf.iv c0_i32_1285 c1_i32 k0_t1
  let c32_i32_1346 : BitVec 32 := 32#32
  let v2252 : BitVec 32 := Scalar.muli arg24 c32_i32_1346
  let v2253 : BitVec 32 := Scalar.addi c1536_i32 v2252
  v2253
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Swi.lean ====
abbrev S8192x4096 : Shape := ⟨2, ![8192, 4096]⟩
abbrev S8192x128 : Shape := ⟨2, ![8192, 128]⟩
abbrev S4096x6144 : Shape := ⟨2, ![4096, 6144]⟩
abbrev S4x6144x4096 : Shape := ⟨3, ![4, 6144, 4096]⟩
abbrev S8192x6144 : Shape := ⟨2, ![8192, 6144]⟩
abbrev S6144x4096 : Shape := ⟨2, ![6144, 4096]⟩
abbrev S1024x4096 : Shape := ⟨2, ![1024, 4096]⟩
abbrev S1024x128 : Shape := ⟨2, ![1024, 128]⟩
abbrev S4096x512 : Shape := ⟨2, ![4096, 512]⟩
abbrev S1x512x512 : Shape := ⟨3, ![1, 512, 512]⟩
abbrev S1024x512 : Shape := ⟨2, ![1024, 512]⟩
abbrev S512x512 : Shape := ⟨2, ![512, 512]⟩
abbrev S4096x256 : Shape := ⟨2, ![4096, 256]⟩
abbrev S1024x256 : Shape := ⟨2, ![1024, 256]⟩

abbrev nBuf : Space → Nat
  | .hbm => 7
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S8192x128, .f32⟩
  | .hbm, ⟨2, _⟩ => ⟨S4096x6144, .bf16⟩
  | .hbm, ⟨3, _⟩ => ⟨S4096x6144, .bf16⟩
  | .hbm, ⟨4, _⟩ => ⟨S4x6144x4096, .f32⟩
  | .hbm, ⟨5, _⟩ => ⟨S8192x6144, .bf16⟩
  | .hbm, ⟨6, _⟩ => ⟨S6144x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x128, .f32⟩
  | .local _ .vmem, ⟨3, _⟩ => ⟨S1024x128, .f32⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S1x512x512, .f32⟩
  | .local _ .vmem, ⟨9, _⟩ => ⟨S1x512x512, .f32⟩
  | .local _ .vmem, ⟨10, _⟩ => ⟨S1024x512, .bf16⟩
  | .local _ .vmem, ⟨11, _⟩ => ⟨S1024x512, .bf16⟩
  | .local _ .vmem, ⟨12, _⟩ => ⟨S512x512, .bf16⟩
  | .local _ .vmem, ⟨13, _⟩ => ⟨S512x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c95_i32 : BitVec 32 := 95#32
  let v2 : BitVec 32 := Scalar.minsi v1 c95_i32
  let c8_i32 : BitVec 32 := 8#32
  let v3 : BitVec 32 := Scalar.divsi v2 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v2 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c3_i32 : BitVec 32 := 3#32
  let c0_i32_10 : BitVec 32 := 0#32
  ![c3_i32.toNat, v19.toNat, v29.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c95_i32 : BitVec 32 := 95#32
  let v2 : BitVec 32 := Scalar.minsi v1 c95_i32
  let c8_i32 : BitVec 32 := 8#32
  let v3 : BitVec 32 := Scalar.divsi v2 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v2 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c0_i32_10 : BitVec 32 := 0#32
  ![v19.toNat, v29.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SwiRefIdeal.lean ====
abbrev S8192x4096 : Shape := ⟨2, ![8192, 4096]⟩
abbrev S8192x128 : Shape := ⟨2, ![8192, 128]⟩
abbrev S4096x6144 : Shape := ⟨2, ![4096, 6144]⟩
abbrev S4x6144x4096 : Shape := ⟨3, ![4, 6144, 4096]⟩
abbrev S1x8192x1x128 : Shape := ⟨4, ![1, 8192, 1, 128]⟩
abbrev S1x8192x48x128 : Shape := ⟨4, ![1, 8192, 48, 128]⟩
abbrev S8192x6144 : Shape := ⟨2, ![8192, 6144]⟩
abbrev S_ : Shape := ⟨0, ![]⟩
abbrev S1x6144x4096 : Shape := ⟨3, ![1, 6144, 4096]⟩
abbrev S6144x4096 : Shape := ⟨2, ![6144, 4096]⟩

abbrev nBuf : Space → Nat
  | .hbm => 26
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x128, .f32⟩
  | .hbm, ⟨2, _⟩ => ⟨S4096x6144, .bf16⟩
  | .hbm, ⟨3, _⟩ => ⟨S4096x6144, .bf16⟩
  | .hbm, ⟨4, _⟩ => ⟨S4x6144x4096, .f32⟩
  | .hbm, ⟨5, _⟩ => ⟨S1x8192x1x128, .f32⟩
  | .hbm, ⟨6, _⟩ => ⟨S1x8192x48x128, .f32⟩
  | .hbm, ⟨7, _⟩ => ⟨S8192x6144, .f32⟩
  | .hbm, ⟨8, _⟩ => ⟨S8192x6144, .f32⟩
  | .hbm, ⟨9, _⟩ => ⟨S8192x6144, .f32⟩
  | .hbm, ⟨10, _⟩ => ⟨S8192x6144, .f32⟩
  | .hbm, ⟨11, _⟩ => ⟨S8192x6144, .f32⟩
  | .hbm, ⟨12, _⟩ => ⟨S8192x6144, .f32⟩
  | .hbm, ⟨13, _⟩ => ⟨S8192x6144, .f32⟩
  | .hbm, ⟨14, _⟩ => ⟨S_, .f32⟩
  | .hbm, ⟨15, _⟩ => ⟨S8192x6144, .f32⟩
  | .hbm, ⟨16, _⟩ => ⟨S8192x6144, .f32⟩
  | .hbm, ⟨17, _⟩ => ⟨S_, .f32⟩
  | .hbm, ⟨18, _⟩ => ⟨S8192x6144, .f32⟩
  | .hbm, ⟨19, _⟩ => ⟨S8192x6144, .f32⟩
  | .hbm, ⟨20, _⟩ => ⟨S8192x6144, .f32⟩
  | .hbm, ⟨21, _⟩ => ⟨S8192x6144, .f32⟩
  | .hbm, ⟨22, _⟩ => ⟨S8192x6144, .bf16⟩
  | .hbm, ⟨23, _⟩ => ⟨S1x6144x4096, .f32⟩
  | .hbm, ⟨24, _⟩ => ⟨S6144x4096, .f32⟩
  | .hbm, ⟨25, _⟩ => ⟨S6144x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩

abbrev nD : Nat := 1
abbrev τ : Topo := Topo.v7x

variable {F : FTy → Type} [FloatOps F]
-- ==== Res.lean ====
abbrev S8192x6144 : Shape := ⟨2, ![8192, 6144]⟩
abbrev S6144x4096 : Shape := ⟨2, ![6144, 4096]⟩
abbrev S8192x4096 : Shape := ⟨2, ![8192, 4096]⟩
abbrev S4x4096 : Shape := ⟨2, ![4, 4096]⟩
abbrev S4x1x4096 : Shape := ⟨3, ![4, 1, 4096]⟩
abbrev S8192x128 : Shape := ⟨2, ![8192, 128]⟩
abbrev S1024x6144 : Shape := ⟨2, ![1024, 6144]⟩
abbrev S6144x512 : Shape := ⟨2, ![6144, 512]⟩
abbrev S1024x512 : Shape := ⟨2, ![1024, 512]⟩
abbrev S1x1x512 : Shape := ⟨3, ![1, 1, 512]⟩
abbrev S1024x128 : Shape := ⟨2, ![1024, 128]⟩
abbrev S6144x256 : Shape := ⟨2, ![6144, 256]⟩
abbrev S1024x256 : Shape := ⟨2, ![1024, 256]⟩
abbrev S1x1x256 : Shape := ⟨3, ![1, 1, 256]⟩
abbrev S1x256 : Shape := ⟨2, ![1, 256]⟩
abbrev S1024 : Shape := ⟨1, ![1024]⟩
abbrev S1024x1 : Shape := ⟨2, ![1024, 1]⟩

abbrev nBuf : Space → Nat
  | .hbm => 8
  | .vmem => 15
  | .smem => 0
  | _ => 0

abbrev bufTy : (tb : Table) → Fin (tcTables nBuf tb) → BufTy
  | .hbm, ⟨0, _⟩ => ⟨S8192x6144, .bf16⟩
  | .hbm, ⟨1, _⟩ => ⟨S6144x4096, .bf16⟩
  | .hbm, ⟨2, _⟩ => ⟨S8192x4096, .f32⟩
  | .hbm, ⟨3, _⟩ => ⟨S4x4096, .f32⟩
  | .hbm, ⟨4, _⟩ => ⟨S4x1x4096, .f32⟩
  | .hbm, ⟨5, _⟩ => ⟨S8192x4096, .f32⟩
  | .hbm, ⟨6, _⟩ => ⟨S8192x4096, .bf16⟩
  | .hbm, ⟨7, _⟩ => ⟨S8192x128, .f32⟩
  | .local _ .vmem, ⟨0, _⟩ => ⟨S1024x6144, .bf16⟩
  | .local _ .vmem, ⟨1, _⟩ => ⟨S1024x6144, .bf16⟩
  | .local _ .vmem, ⟨2, _⟩ => ⟨S6144x512, .bf16⟩
  | .local _ .vmem, ⟨3, _⟩ => ⟨S6144x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v48 : BitVec 1 := Scalar.cmpi .eq arg1 c7_i32
  let v49 : BitVec 32 := Scalar.extui v48
  let c0_i32_28 : BitVec 32 := 0#32
  let v50 : BitVec 1 := Scalar.cmpi .ne v49 c0_i32_28
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S6144x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ResRefIdeal.lean ====
abbrev S8192x6144 : Shape := ⟨2, ![8192, 6144]⟩
abbrev S6144x4096 : Shape := ⟨2, ![6144, 4096]⟩
abbrev S8192x4096 : Shape := ⟨2, ![8192, 4096]⟩
abbrev S4x4096 : Shape := ⟨2, ![4, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S4096 : Shape := ⟨1, ![4096]⟩
abbrev S8192x128 : Shape := ⟨2, ![8192, 128]⟩

abbrev nBuf : Space → Nat
  | .hbm => 27
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S6144x4096, .bf16⟩
  | .hbm, ⟨2, _⟩ => ⟨S8192x4096, .f32⟩
  | .hbm, ⟨3, _⟩ => ⟨S4x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S1x4096, .f32⟩
  | .hbm, ⟨21, _⟩ => ⟨S4096, .f32⟩
  | .hbm, ⟨22, _⟩ => ⟨S1x4096, .f32⟩
  | .hbm, ⟨23, _⟩ => ⟨S8192x4096, .f32⟩
  | .hbm, ⟨24, _⟩ => ⟨S8192x4096, .f32⟩
  | .hbm, ⟨25, _⟩ => ⟨S8192x4096, .bf16⟩
  | .hbm, ⟨26, _⟩ => ⟨S8192x128, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Mix.lean ====
abbrev S8192x2048 : Shape := ⟨2, ![8192, 2048]⟩
abbrev S4096x4096 : Shape := ⟨2, ![4096, 4096]⟩
abbrev S8192x4096 : Shape := ⟨2, ![8192, 4096]⟩
abbrev S4x4096 : Shape := ⟨2, ![4, 4096]⟩
abbrev S4x1x4096 : Shape := ⟨3, ![4, 1, 4096]⟩
abbrev S8192x128 : Shape := ⟨2, ![8192, 128]⟩
abbrev S1024x2048 : Shape := ⟨2, ![1024, 2048]⟩
abbrev S2048x512 : Shape := ⟨2, ![2048, 512]⟩
abbrev S1024x512 : Shape := ⟨2, ![1024, 512]⟩
abbrev S1x1x512 : Shape := ⟨3, ![1, 1, 512]⟩
abbrev S1024x128 : Shape := ⟨2, ![1024, 128]⟩
abbrev S2048x256 : Shape := ⟨2, ![2048, 256]⟩
abbrev S1024x256 : Shape := ⟨2, ![1024, 256]⟩
abbrev S1x1x256 : Shape := ⟨3, ![1, 1, 256]⟩
abbrev S1x256 : Shape := ⟨2, ![1, 256]⟩
abbrev S1024 : Shape := ⟨1, ![1024]⟩
abbrev S1024x1 : Shape := ⟨2, ![1024, 1]⟩

abbrev nBuf : Space → Nat
  | .hbm => 9
  | .vmem => 19
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .bf16⟩
  | .hbm, ⟨3, _⟩ => ⟨S8192x4096, .f32⟩
  | .hbm, ⟨4, _⟩ => ⟨S4x4096, .f32⟩
  | .hbm, ⟨5, _⟩ => ⟨S4x1x4096, .f32⟩
  | .hbm, ⟨6, _⟩ => ⟨S8192x4096, .f32⟩
  | .hbm, ⟨7, _⟩ => ⟨S8192x4096, .bf16⟩
  | .hbm, ⟨8, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1x1x512, .f32⟩
  | .local _ .vmem, ⟨11, _⟩ => ⟨S1x1x512, .f32⟩
  | .local _ .vmem, ⟨12, _⟩ => ⟨S1024x512, .f32⟩
  | .local _ .vmem, ⟨13, _⟩ => ⟨S1024x512, .f32⟩
  | .local _ .vmem, ⟨14, _⟩ => ⟨S1024x512, .bf16⟩
  | .local _ .vmem, ⟨15, _⟩ => ⟨S1024x512, .bf16⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v51 : BitVec 1 := Scalar.cmpi .eq arg1 c7_i32
  let v52 : BitVec 32 := Scalar.extui v51
  let c0_i32_34 : BitVec 32 := 0#32
  let v53 : BitVec 1 := Scalar.cmpi .ne v52 c0_i32_34
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MixRefIdeal.lean ====
abbrev S8192x2048 : Shape := ⟨2, ![8192, 2048]⟩
abbrev S4096x4096 : Shape := ⟨2, ![4096, 4096]⟩
abbrev S8192x4096 : Shape := ⟨2, ![8192, 4096]⟩
abbrev S4x4096 : Shape := ⟨2, ![4, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S4096 : Shape := ⟨1, ![4096]⟩
abbrev S8192x128 : Shape := ⟨2, ![8192, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .bf16⟩
  | .hbm, ⟨3, _⟩ => ⟨S8192x4096, .f32⟩
  | .hbm, ⟨4, _⟩ => ⟨S4x4096, .f32⟩
  | .hbm, ⟨5, _⟩ => ⟨S8192x4096, .bf16⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S1x4096, .f32⟩
  | .hbm, ⟨20, _⟩ => ⟨S4096, .f32⟩
  | .hbm, ⟨21, _⟩ => ⟨S1x4096, .f32⟩
  | .hbm, ⟨22, _⟩ => ⟨S8192x4096, .f32⟩
  | .hbm, ⟨23, _⟩ => ⟨S8192x4096, .f32⟩
  | .hbm, ⟨24, _⟩ => ⟨S8192x4096, .bf16⟩
  | .hbm, ⟨25, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Qkv.lean ====
abbrev S8192x4096 : Shape := ⟨2, ![8192, 4096]⟩
abbrev S8192x128 : Shape := ⟨2, ![8192, 128]⟩
abbrev S4096x10240 : Shape := ⟨2, ![4096, 10240]⟩
abbrev S4x4096x6144 : Shape := ⟨3, ![4, 4096, 6144]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x96 : Shape := ⟨2, ![8192, 96]⟩
abbrev S8192x6144 : Shape := ⟨2, ![8192, 6144]⟩
abbrev S4096x6144 : Shape := ⟨2, ![4096, 6144]⟩
abbrev S1024x4096 : Shape := ⟨2, ![1024, 4096]⟩
abbrev S1024x128 : Shape := ⟨2, ![1024, 128]⟩
abbrev S4096x512 : Shape := ⟨2, ![4096, 512]⟩
abbrev S1x512x512 : Shape := ⟨3, ![1, 512, 512]⟩
abbrev S1024x512 : Shape := ⟨2, ![1024, 512]⟩
abbrev S512x512 : Shape := ⟨2, ![512, 512]⟩
abbrev S4096x256 : Shape := ⟨2, ![4096, 256]⟩
abbrev S1024x256 : Shape := ⟨2, ![1024, 256]⟩

abbrev nBuf : Space → Nat
  | .hbm => 40
  | .vmem => 22
  | .smem => 0
  | _ => 0

abbrev bufTy : (tb : Table) → Fin (tcTables nBuf tb) → BufTy
  | .hbm, ⟨0, _⟩ => ⟨S8192x4096, .bf16⟩
  | .hbm, ⟨1, _⟩ => ⟨S8192x128, .f32⟩
  | .hbm, ⟨2, _⟩ => ⟨S4096x10240, .bf16⟩
  | .hbm, ⟨3, _⟩ => ⟨S4x4096x6144, .f32⟩
  | .hbm, ⟨4, _⟩ => ⟨S4x4096x6144, .f32⟩
  | .hbm, ⟨5, _⟩ => ⟨S8192, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S8192x1, .f32⟩
  | .hbm, ⟨21, _⟩ => ⟨S1x16, .f32⟩
  | .hbm, ⟨22, _⟩ => ⟨S8192x16, .f32⟩
  | .hbm, ⟨23, _⟩ => ⟨S8192x16, .f32⟩
  | .hbm, ⟨24, _⟩ => ⟨S8192x16, .f32⟩
  | .hbm, ⟨25, _⟩ => ⟨S8192x16, .f32⟩
  | .hbm, ⟨26, _⟩ => ⟨S8192x16, .f32⟩
  | .hbm, ⟨27, _⟩ => ⟨S_, .f32⟩
  | .hbm, ⟨28, _⟩ => ⟨S8192x96, .f32⟩
  | .hbm, ⟨29, _⟩ => ⟨S_, .f32⟩
  | .hbm, ⟨30, _⟩ => ⟨S8192x16, .f32⟩
  | .hbm, ⟨31, _⟩ => ⟨S_, .f32⟩
  | .hbm, ⟨32, _⟩ => ⟨S8192x96, .f32⟩
  | .hbm, ⟨33, _⟩ => ⟨S8192x128, .f32⟩
  | .hbm, ⟨34, _⟩ => ⟨S8192x16, .f32⟩
  | .hbm, ⟨35, _⟩ => ⟨S8192x128, .f32⟩
  | .hbm, ⟨36, _⟩ => ⟨S8192x128, .f32⟩
  | .hbm, ⟨37, _⟩ => ⟨S8192x6144, .f32⟩
  | .hbm, ⟨38, _⟩ => ⟨S4096x6144, .bf16⟩
  | .hbm, ⟨39, _⟩ => ⟨S4096x6144, .bf16⟩
  | .local _ .vmem, ⟨0, _⟩ => ⟨S1024x4096, .bf16⟩
  | .local _ .vmem, ⟨1, _⟩ => ⟨S1024x4096, .bf16⟩
  | .local _ .vmem, ⟨2, _⟩ => ⟨S1024x128, .f32⟩
  | .local _ .vmem, ⟨3, _⟩ => ⟨S1024x128, .f32⟩
  | .local _ .vmem, ⟨4, _⟩ => ⟨S4096x512, .bf16⟩
  | .local _ .vmem, ⟨5, _⟩ => ⟨S4096x512, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1024x512, .f32⟩
  | .local _ .vmem, ⟨17, _⟩ => ⟨S1024x512, .f32⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev main_v25_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 12], ![false, false]⟩

def k0_cond1 (i : grid0.Coords) : BitVec 1 :=
  let arg1 : BitVec 32 := BitVec.ofNat 32 (i 1).val
  let c8_i32 : BitVec 32 := 8#32
  let v8 : BitVec 1 := Scalar.cmpi .slt arg1 c8_i32
  let v9 : BitVec 32 := Scalar.extui v8
  let c0_i32 : BitVec 32 := 0#32
  let v10 : BitVec 1 := Scalar.cmpi .ne v9 c0_i32
  v10

def k0_cond2 (i : grid0.Coords) : BitVec 1 :=
  let arg1 : BitVec 32 := BitVec.ofNat 32 (i 1).val
  let c8_i32_9 : BitVec 32 := 8#32
  let v11 : BitVec 1 := Scalar.cmpi .sge arg1 c8_i32_9
  let v12 : BitVec 32 := Scalar.extui v11
  let c0_i32_10 : BitVec 32 := 0#32
  let v13 : BitVec 1 := Scalar.cmpi .ne v12 c0_i32_10
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c95_i32 : BitVec 32 := 95#32
  let v2 : BitVec 32 := Scalar.minsi v1 c95_i32
  let c12_i32_0 : BitVec 32 := 12#32
  let v3 : BitVec 32 := Scalar.divsi v2 c12_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c12_i32_0 c0_i32_2
  let v10 : BitVec 32 := Scalar.extui v9
  let c0_i32_3 : BitVec 32 := 0#32
  let v11 : BitVec 1 := Scalar.cmpi .slt c12_i32_0 c0_i32_3
  let v12 : BitVec 32 := Scalar.extui v11
  let v13 : BitVec 32 := Scalar.subi v10 v12
  let v14 : BitVec 1 := Scalar.cmpi .ne v8 v13
  let v15 : BitVec 32 := Scalar.remsi v2 c12_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c12_i32_5 : BitVec 32 := 12#32
  let c0_i32_6 : BitVec 32 := 0#32
  let v20 : BitVec 1 := Scalar.cmpi .eq c12_i32_5 c0_i32_6
  let c1_i32_7 : BitVec 32 := 1#32
  let v21 : BitVec 32 := Scalar.select v20 c1_i32_7 c12_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![c0_i32_11.toNat, v19.toNat, v29.toNat]

def cc0_transform_7 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c95_i32 : BitVec 32 := 95#32
  let v2 : BitVec 32 := Scalar.minsi v1 c95_i32
  let c12_i32_0 : BitVec 32 := 12#32
  let v3 : BitVec 32 := Scalar.divsi v2 c12_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c12_i32_0 c0_i32_2
  let v10 : BitVec 32 := Scalar.extui v9
  let c0_i32_3 : BitVec 32 := 0#32
  let v11 : BitVec 1 := Scalar.cmpi .slt c12_i32_0 c0_i32_3
  let v12 : BitVec 32 := Scalar.extui v11
  let v13 : BitVec 32 := Scalar.subi v10 v12
  let v14 : BitVec 1 := Scalar.cmpi .ne v8 v13
  let v15 : BitVec 32 := Scalar.remsi v2 c12_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c12_i32_5 : BitVec 32 := 12#32
  let c0_i32_6 : BitVec 32 := 0#32
  let v20 : BitVec 1 := Scalar.cmpi .eq c12_i32_5 c0_i32_6
  let c1_i32_7 : BitVec 32 := 1#32
  let v21 : BitVec 32 := Scalar.select v20 c1_i32_7 c12_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![c0_i32_11.toNat, v19.toNat, v29.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c95_i32 : BitVec 32 := 95#32
  let v2 : BitVec 32 := Scalar.minsi v1 c95_i32
  let c12_i32_0 : BitVec 32 := 12#32
  let v3 : BitVec 32 := Scalar.divsi v2 c12_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c12_i32_0 c0_i32_2
  let v10 : BitVec 32 := Scalar.extui v9
  let c0_i32_3 : BitVec 32 := 0#32
  let v11 : BitVec 1 := Scalar.cmpi .slt c12_i32_0 c0_i32_3
  let v12 : BitVec 32 := Scalar.extui v11
  let v13 : BitVec 32 := Scalar.subi v10 v12
  let v14 : BitVec 1 := Scalar.cmpi .ne v8 v13
  let v15 : BitVec 32 := Scalar.remsi v2 c12_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c12_i32_5 : BitVec 32 := 12#32
  let c0_i32_6 : BitVec 32 := 0#32
  let v20 : BitVec 1 := Scalar.cmpi .eq c12_i32_5 c0_i32_6
  let c1_i32_7 : BitVec 32 := 1#32
  let v21 : BitVec 32 := Scalar.select v20 c1_i32_7 c12_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  ![v19.toNat, v29.toNat]

def cc0_transform_10 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c95_i32 : BitVec 32 := 95#32
  let v2 : BitVec 32 := Scalar.minsi v1 c95_i32
  let c12_i32_0 : BitVec 32 := 12#32
  let v3 : BitVec 32 := Scalar.divsi v2 c12_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c12_i32_0 c0_i32_2
  let v10 : BitVec 32 := Scalar.extui v9
  let c0_i32_3 : BitVec 32 := 0#32
  let v11 : BitVec 1 := Scalar.cmpi .slt c12_i32_0 c0_i32_3
  let v12 : BitVec 32 := Scalar.extui v11
  let v13 : BitVec 32 := Scalar.subi v10 v12
  let v14 : BitVec 1 := Scalar.cmpi .ne v8 v13
  let v15 : BitVec 32 := Scalar.remsi v2 c12_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c12_i32_5 : BitVec 32 := 12#32
  let c0_i32_6 : BitVec 32 := 0#32
  let v20 : BitVec 1 := Scalar.cmpi .eq c12_i32_5 c0_i32_6
  let c1_i32_7 : BitVec 32 := 1#32
  let v21 : BitVec 32 := Scalar.select v20 c1_i32_7 c12_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  ![v19.toNat, v29.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== QkvRefIdeal.lean ====
abbrev S8192x4096 : Shape := ⟨2, ![8192, 4096]⟩
abbrev S8192x128 : Shape := ⟨2, ![8192, 128]⟩
abbrev S4096x10240 : Shape := ⟨2, ![4096, 10240]⟩
abbrev S4x4096x6144 : Shape := ⟨3, ![4, 4096, 6144]⟩
abbrev S4096x6144 : Shape := ⟨2, ![4096, 6144]⟩
abbrev S8192x6144 : Shape := ⟨2, ![8192, 6144]⟩
abbrev S1x8192x1x128 : Shape := ⟨4, ![1, 8192, 1, 128]⟩
abbrev S1x8192x48x128 : Shape := ⟨4, ![1, 8192, 48, 128]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S8192x32x128 : Shape := ⟨3, ![8192, 32, 128]⟩
abbrev S8192x32x16 : Shape := ⟨3, ![8192, 32, 16]⟩
abbrev S8192x32x96 : Shape := ⟨3, ![8192, 32, 96]⟩
abbrev S8192x2048 : Shape := ⟨2, ![8192, 2048]⟩
abbrev S1x4096x6144 : Shape := ⟨3, ![1, 4096, 6144]⟩

abbrev nBuf : Space → Nat
  | .hbm => 60
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x128, .f32⟩
  | .hbm, ⟨2, _⟩ => ⟨S4096x10240, .bf16⟩
  | .hbm, ⟨3, _⟩ => ⟨S4x4096x6144, .f32⟩
  | .hbm, ⟨4, _⟩ => ⟨S4x4096x6144, .f32⟩
  | .hbm, ⟨5, _⟩ => ⟨S4096x6144, .bf16⟩
  | .hbm, ⟨6, _⟩ => ⟨S8192x6144, .f32⟩
  | .hbm, ⟨7, _⟩ => ⟨S1x8192x1x128, .f32⟩
  | .hbm, ⟨8, _⟩ => ⟨S1x8192x48x128, .f32⟩
  | .hbm, ⟨9, _⟩ => ⟨S8192x6144, .f32⟩
  | .hbm, ⟨10, _⟩ => ⟨S8192x6144, .f32⟩
  | .hbm, ⟨11, _⟩ => ⟨S8192, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S8192x1, .f32⟩
  | .hbm, ⟨27, _⟩ => ⟨S1x16, .f32⟩
  | .hbm, ⟨28, _⟩ => ⟨S8192x16, .f32⟩
  | .hbm, ⟨29, _⟩ => ⟨S8192x16, .f32⟩
  | .hbm, ⟨30, _⟩ => ⟨S8192x16, .f32⟩
  | .hbm, ⟨31, _⟩ => ⟨S8192x16, .f32⟩
  | .hbm, ⟨32, _⟩ => ⟨S8192x1x16, .f32⟩
  | .hbm, ⟨33, _⟩ => ⟨S8192x16, .f32⟩
  | .hbm, ⟨34, _⟩ => ⟨S8192x1x16, .f32⟩
  | .hbm, ⟨35, _⟩ => ⟨S8192x4096, .f32⟩
  | .hbm, ⟨36, _⟩ => ⟨S8192x32x128, .f32⟩
  | .hbm, ⟨37, _⟩ => ⟨S8192x32x16, .f32⟩
  | .hbm, ⟨38, _⟩ => ⟨S8192x32x16, .f32⟩
  | .hbm, ⟨39, _⟩ => ⟨S8192x32x96, .f32⟩
  | .hbm, ⟨40, _⟩ => ⟨S8192x32x16, .f32⟩
  | .hbm, ⟨41, _⟩ => ⟨S8192x32x16, .f32⟩
  | .hbm, ⟨42, _⟩ => ⟨S8192x32x16, .f32⟩
  | .hbm, ⟨43, _⟩ => ⟨S8192x32x16, .f32⟩
  | .hbm, ⟨44, _⟩ => ⟨S8192x32x16, .f32⟩
  | .hbm, ⟨45, _⟩ => ⟨S8192x32x16, .f32⟩
  | .hbm, ⟨46, _⟩ => ⟨S8192x32x16, .f32⟩
  | .hbm, ⟨47, _⟩ => ⟨S8192x32x16, .f32⟩
  | .hbm, ⟨48, _⟩ => ⟨S8192x32x16, .f32⟩
  | .hbm, ⟨49, _⟩ => ⟨S8192x32x16, .f32⟩
  | .hbm, ⟨50, _⟩ => ⟨S8192x32x128, .f32⟩
  | .hbm, ⟨51, _⟩ => ⟨S8192x4096, .f32⟩
  | .hbm, ⟨52, _⟩ => ⟨S8192x2048, .f32⟩
  | .hbm, ⟨53, _⟩ => ⟨S8192x6144, .f32⟩
  | .hbm, ⟨54, _⟩ => ⟨S1x4096x6144, .f32⟩
  | .hbm, ⟨55, _⟩ => ⟨S4096x6144, .f32⟩
  | .hbm, ⟨56, _⟩ => ⟨S4096x6144, .bf16⟩
  | .hbm, ⟨57, _⟩ => ⟨S1x4096x6144, .f32⟩
  | .hbm, ⟨58, _⟩ => ⟨S4096x6144, .f32⟩
  | .hbm, ⟨59, _⟩ => ⟨S4096x6144, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩

abbrev nD : Nat := 1
abbrev τ : Topo := Topo.v7x

variable {F : FTy → Type} [FloatOps F]
-- ==== Glu.lean ====
abbrev S8192x4096 : Shape := ⟨2, ![8192, 4096]⟩
abbrev S8192x128 : Shape := ⟨2, ![8192, 128]⟩
abbrev S4096x10240 : Shape := ⟨2, ![4096, 10240]⟩
abbrev S4x31x2048 : Shape := ⟨3, ![4, 31, 2048]⟩
abbrev S4x2048 : Shape := ⟨2, ![4, 2048]⟩
abbrev S4x1x2048 : Shape := ⟨3, ![4, 1, 2048]⟩
abbrev S8192x2048 : Shape := ⟨2, ![8192, 2048]⟩
abbrev S512x4096 : Shape := ⟨2, ![512, 4096]⟩
abbrev S512x128 : Shape := ⟨2, ![512, 128]⟩
abbrev S4096x1024 : Shape := ⟨2, ![4096, 1024]⟩
abbrev S1x31x1024 : Shape := ⟨3, ![1, 31, 1024]⟩
abbrev S1x1x1024 : Shape := ⟨3, ![1, 1, 1024]⟩
abbrev S512x1024 : Shape := ⟨2, ![512, 1024]⟩
abbrev S32x1024 : Shape := ⟨2, ![32, 1024]⟩
abbrev S2x7x536x128 : Shape := ⟨4, ![2, 7, 536, 128]⟩
abbrev S544x128 : Shape := ⟨2, ![544, 128]⟩
abbrev S32x128 : Shape := ⟨2, ![32, 128]⟩
abbrev S4096x256 : Shape := ⟨2, ![4096, 256]⟩
abbrev S512x256 : Shape := ⟨2, ![512, 256]⟩
abbrev S536x128 : Shape := ⟨2, ![536, 128]⟩
abbrev S1x1x536x128 : Shape := ⟨4, ![1, 1, 536, 128]⟩
abbrev S1x31x128 : Shape := ⟨3, ![1, 31, 128]⟩
abbrev S31x128 : Shape := ⟨2, ![31, 128]⟩
abbrev S1x1x128 : Shape := ⟨3, ![1, 1, 128]⟩
abbrev S1x128 : Shape := ⟨2, ![1, 128]⟩
abbrev S1x1x64x128 : Shape := ⟨4, ![1, 1, 64, 128]⟩
abbrev S64x128 : Shape := ⟨2, ![64, 128]⟩

abbrev nBuf : Space → Nat
  | .hbm => 7
  | .vmem => 24
  | .smem => 0
  | _ => 0

abbrev bufTy : (tb : Table) → Fin (tcTables nBuf tb) → BufTy
  | .hbm, ⟨0, _⟩ => ⟨S8192x4096, .bf16⟩
  | .hbm, ⟨1, _⟩ => ⟨S8192x128, .f32⟩
  | .hbm, ⟨2, _⟩ => ⟨S4096x10240, .bf16⟩
  | .hbm, ⟨3, _⟩ => ⟨S4x31x2048, .f32⟩
  | .hbm, ⟨4, _⟩ => ⟨S4x2048, .f32⟩
  | .hbm, ⟨5, _⟩ => ⟨S4x1x2048, .f32⟩
  | .hbm, ⟨6, _⟩ => ⟨S8192x2048, .f32⟩
  | .local _ .vmem, ⟨0, _⟩ => ⟨S512x4096, .bf16⟩
  | .local _ .vmem, ⟨1, _⟩ => ⟨S512x4096, .bf16⟩
  | .local _ .vmem, ⟨2, _⟩ => ⟨S512x128, .f32⟩
  | .local _ .vmem, ⟨3, _⟩ => ⟨S512x128, .f32⟩
  | .local _ .vmem, ⟨4, _⟩ => ⟨S4096x1024, .bf16⟩
  | .local _ .vmem, ⟨5, _⟩ => ⟨S4096x1024, .bf16⟩
  | .local _ .vmem, ⟨6, _⟩ => ⟨S4096x1024, .bf16⟩
  | .local _ .vmem, ⟨7, _⟩ => ⟨S4096x1024, .bf16⟩
  | .local _ .vmem, ⟨8, _⟩ => ⟨S1x31x1024, .f32⟩
  | .local _ .vmem, ⟨9, _⟩ => ⟨S1x31x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .f32⟩
  | .local _ .vmem, ⟨13, _⟩ => ⟨S512x1024, .f32⟩
  | .local _ .vmem, ⟨14, _⟩ => ⟨S32x1024, .f32⟩
  | .local _ .vmem, ⟨15, _⟩ => ⟨S2x7x536x128, .f32⟩
  | .local _ .vmem, ⟨16, _⟩ => ⟨S544x128, .f32⟩
  | .local _ .vmem, ⟨17, _⟩ => ⟨S544x128, .f32⟩
  | .local _ .vmem, ⟨18, _⟩ => ⟨S544x128, .f32⟩
  | .local _ .vmem, ⟨19, _⟩ => ⟨S544x128, .f32⟩
  | .local _ .vmem, ⟨20, _⟩ => ⟨S544x128, .f32⟩
  | .local _ .vmem, ⟨21, _⟩ => ⟨S544x128, .f32⟩
  | .local _ .vmem, ⟨22, _⟩ => ⟨S544x128, .f32⟩
  | .local _ .vmem, ⟨23, _⟩ => ⟨S544x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x31x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GluRefIdeal.lean ====
abbrev S8192x4096 : Shape := ⟨2, ![8192, 4096]⟩
abbrev S8192x128 : Shape := ⟨2, ![8192, 128]⟩
abbrev S4096x10240 : Shape := ⟨2, ![4096, 10240]⟩
abbrev S4x31x2048 : Shape := ⟨3, ![4, 31, 2048]⟩
abbrev S4x2048 : Shape := ⟨2, ![4, 2048]⟩
abbrev S1x8192x1x128 : Shape := ⟨4, ![1, 8192, 1, 128]⟩
abbrev S1x8192x16x128 : Shape := ⟨4, ![1, 8192, 16, 128]⟩
abbrev S8192x2048 : Shape := ⟨2, ![8192, 2048]⟩
abbrev S4096x2048 : Shape := ⟨2, ![4096, 2048]⟩
abbrev S_ : Shape := ⟨0, ![]⟩
abbrev S8222x2048 : Shape := ⟨2, ![8222, 2048]⟩
abbrev S1x1x2048 : Shape := ⟨3, ![1, 1, 2048]⟩
abbrev S2048 : Shape := ⟨1, ![2048]⟩
abbrev S1x2048 : Shape := ⟨2, ![1, 2048]⟩

abbrev nBuf : Space → Nat
  | .hbm => 247
  | .vmem => 0
  | .smem => 0
  | _ => 0

abbrev hbmTy0_0 (i : Nat) : BufTy := match i % 128 with
  | 0 => ⟨S8192x4096, .bf16⟩
  | 1 => ⟨S8192x128, .f32⟩
  | 2 => ⟨S4096x10240, .bf16⟩
  | 3 => ⟨S4x31x2048, .f32⟩
  | 4 => ⟨S4x2048, .f32⟩
  | 5 => ⟨S1x8192x1x128, .f32⟩
  | 6 => ⟨S1x8192x16x128, .f32⟩
  | 7 => ⟨S8192x2048, .f32⟩
  | 8 => ⟨S4096x2048, .bf16⟩
  | 9 => ⟨S8192x2048, .f32⟩
  | 10 => ⟨S8192x2048, .f32⟩
  | 11 => ⟨S4096x2048, .bf16⟩
  | 12 => ⟨S8192x2048, .f32⟩
  | 13 => ⟨S8192x2048, .f32⟩
  | 14 => ⟨S8192x2048, .f32⟩
  | 15 => ⟨S8192x2048, .f32⟩
  | 16 => ⟨S_, .f32⟩
  | 17 => ⟨S8192x2048, .f32⟩
  | 18 => ⟨S8192x2048, .f32⟩
  | 19 => ⟨S_, .f32⟩
  | 20 => ⟨S8192x2048, .f32⟩
  | 21 => ⟨S8192x2048, .f32⟩
  | 22 => ⟨S8192x2048, .f32⟩
  | 23 => ⟨S_, .i32⟩
  | 24 => ⟨S_, .f32⟩
  | 25 => ⟨S8222x2048, .f32⟩
  | 26 => ⟨S1x1x2048, .f32⟩
  | 27 => ⟨S2048, .f32⟩
  | 28 => ⟨S8192x2048, .f32⟩
  | 29 => ⟨S1x2048, .f32⟩
  | 30 => ⟨S8192x2048, .f32⟩
  | 31 => ⟨S8192x2048, .f32⟩
  | 32 => ⟨S1x1x2048, .f32⟩
  | 33 => ⟨S2048, .f32⟩
  | 34 => ⟨S8192x2048, .f32⟩
  | 35 => ⟨S1x2048, .f32⟩
  | 36 => ⟨S8192x2048, .f32⟩
  | 37 => ⟨S8192x2048, .f32⟩
  | 38 => ⟨S8192x2048, .f32⟩
  | 39 => ⟨S1x1x2048, .f32⟩
  | 40 => ⟨S2048, .f32⟩
  | 41 => ⟨S8192x2048, .f32⟩
  | 42 => ⟨S1x2048, .f32⟩
  | 43 => ⟨S8192x2048, .f32⟩
  | 44 => ⟨S8192x2048, .f32⟩
  | 45 => ⟨S8192x2048, .f32⟩
  | 46 => ⟨S1x1x2048, .f32⟩
  | 47 => ⟨S2048, .f32⟩
  | 48 => ⟨S8192x2048, .f32⟩
  | 49 => ⟨S1x2048, .f32⟩
  | 50 => ⟨S8192x2048, .f32⟩
  | 51 => ⟨S8192x2048, .f32⟩
  | 52 => ⟨S8192x2048, .f32⟩
  | 53 => ⟨S1x1x2048, .f32⟩
  | 54 => ⟨S2048, .f32⟩
  | 55 => ⟨S8192x2048, .f32⟩
  | 56 => ⟨S1x2048, .f32⟩
  | 57 => ⟨S8192x2048, .f32⟩
  | 58 => ⟨S8192x2048, .f32⟩
  | 59 => ⟨S8192x2048, .f32⟩
  | 60 => ⟨S1x1x2048, .f32⟩
  | 61 => ⟨S2048, .f32⟩
  | 62 => ⟨S8192x2048, .f32⟩
  | 63 => ⟨S1x2048, .f32⟩
  | 64 => ⟨S8192x2048, .f32⟩
  | 65 => ⟨S8192x2048, .f32⟩
  | 66 => ⟨S8192x2048, .f32⟩
  | 67 => ⟨S1x1x2048, .f32⟩
  | 68 => ⟨S2048, .f32⟩
  | 69 => ⟨S8192x2048, .f32⟩
  | 70 => ⟨S1x2048, .f32⟩
  | 71 => ⟨S8192x2048, .f32⟩
  | 72 => ⟨S8192x2048, .f32⟩
  | 73 => ⟨S8192x2048, .f32⟩
  | 74 => ⟨S1x1x2048, .f32⟩
  | 75 => ⟨S2048, .f32⟩
  | 76 => ⟨S8192x2048, .f32⟩
  | 77 => ⟨S1x2048, .f32⟩
  | 78 => ⟨S8192x2048, .f32⟩
  | 79 => ⟨S8192x2048, .f32⟩
  | 80 => ⟨S8192x2048, .f32⟩
  | 81 => ⟨S1x1x2048, .f32⟩
  | 82 => ⟨S2048, .f32⟩
  | 83 => ⟨S8192x2048, .f32⟩
  | 84 => ⟨S1x2048, .f32⟩
  | 85 => ⟨S8192x2048, .f32⟩
  | 86 => ⟨S8192x2048, .f32⟩
  | 87 => ⟨S8192x2048, .f32⟩
  | 88 => ⟨S1x1x2048, .f32⟩
  | 89 => ⟨S2048, .f32⟩
  | 90 => ⟨S8192x2048, .f32⟩
  | 91 => ⟨S1x2048, .f32⟩
  | 92 => ⟨S8192x2048, .f32⟩
  | 93 => ⟨S8192x2048, .f32⟩
  | 94 => ⟨S8192x2048, .f32⟩
  | 95 => ⟨S1x1x2048, .f32⟩
  | 96 => ⟨S2048, .f32⟩
  | 97 => ⟨S8192x2048, .f32⟩
  | 98 => ⟨S1x2048, .f32⟩
  | 99 => ⟨S8192x2048, .f32⟩
  | 100 => ⟨S8192x2048, .f32⟩
  | 101 => ⟨S8192x2048, .f32⟩
  | 102 => ⟨S1x1x2048, .f32⟩
  | 103 => ⟨S2048, .f32⟩
  | 104 => ⟨S8192x2048, .f32⟩
  | 105 => ⟨S1x2048, .f32⟩
  | 106 => ⟨S8192x2048, .f32⟩
  | 107 => ⟨S8192x2048, .f32⟩
  | 108 => ⟨S8192x2048, .f32⟩
  | 109 => ⟨S1x1x2048, .f32⟩
  | 110 => ⟨S2048, .f32⟩
  | 111 => ⟨S8192x2048, .f32⟩
  | 112 => ⟨S1x2048, .f32⟩
  | 113 => ⟨S8192x2048, .f32⟩
  | 114 => ⟨S8192x2048, .f32⟩
  | 115 => ⟨S8192x2048, .f32⟩
  | 116 => ⟨S1x1x2048, .f32⟩
  | 117 => ⟨S2048, .f32⟩
  | 118 => ⟨S8192x2048, .f32⟩
  | 119 => ⟨S1x2048, .f32⟩
  | 120 => ⟨S8192x2048, .f32⟩
  | 121 => ⟨S8192x2048, .f32⟩
  | 122 => ⟨S8192x2048, .f32⟩
  | 123 => ⟨S1x1x2048, .f32⟩
  | 124 => ⟨S2048, .f32⟩
  | 125 => ⟨S8192x2048, .f32⟩
  | 126 => ⟨S1x2048, .f32⟩
  | 127 => ⟨S8192x2048, .f32⟩
  | _ => ⟨S8192x4096, .bf16⟩

abbrev hbmTy0_1 (i : Nat) : BufTy := match i % 128 with
  | 0 => ⟨S8192x2048, .f32⟩
  | 1 => ⟨S8192x2048, .f32⟩
  | 2 => ⟨S1x1x2048, .f32⟩
  | 3 => ⟨S2048, .f32⟩
  | 4 => ⟨S8192x2048, .f32⟩
  | 5 => ⟨S1x2048, .f32⟩
  | 6 => ⟨S8192x2048, .f32⟩
  | 7 => ⟨S8192x2048, .f32⟩
  | 8 => ⟨S8192x2048, .f32⟩
  | 9 => ⟨S1x1x2048, .f32⟩
  | 10 => ⟨S2048, .f32⟩
  | 11 => ⟨S8192x2048, .f32⟩
  | 12 => ⟨S1x2048, .f32⟩
  | 13 => ⟨S8192x2048, .f32⟩
  | 14 => ⟨S8192x2048, .f32⟩
  | 15 => ⟨S8192x2048, .f32⟩
  | 16 => ⟨S1x1x2048, .f32⟩
  | 17 => ⟨S2048, .f32⟩
  | 18 => ⟨S8192x2048, .f32⟩
  | 19 => ⟨S1x2048, .f32⟩
  | 20 => ⟨S8192x2048, .f32⟩
  | 21 => ⟨S8192x2048, .f32⟩
  | 22 => ⟨S8192x2048, .f32⟩
  | 23 => ⟨S1x1x2048, .f32⟩
  | 24 => ⟨S2048, .f32⟩
  | 25 => ⟨S8192x2048, .f32⟩
  | 26 => ⟨S1x2048, .f32⟩
  | 27 => ⟨S8192x2048, .f32⟩
  | 28 => ⟨S8192x2048, .f32⟩
  | 29 => ⟨S8192x2048, .f32⟩
  | 30 => ⟨S1x1x2048, .f32⟩
  | 31 => ⟨S2048, .f32⟩
  | 32 => ⟨S8192x2048, .f32⟩
  | 33 => ⟨S1x2048, .f32⟩
  | 34 => ⟨S8192x2048, .f32⟩
  | 35 => ⟨S8192x2048, .f32⟩
  | 36 => ⟨S8192x2048, .f32⟩
  | 37 => ⟨S1x1x2048, .f32⟩
  | 38 => ⟨S2048, .f32⟩
  | 39 => ⟨S8192x2048, .f32⟩
  | 40 => ⟨S1x2048, .f32⟩
  | 41 => ⟨S8192x2048, .f32⟩
  | 42 => ⟨S8192x2048, .f32⟩
  | 43 => ⟨S8192x2048, .f32⟩
  | 44 => ⟨S1x1x2048, .f32⟩
  | 45 => ⟨S2048, .f32⟩
  | 46 => ⟨S8192x2048, .f32⟩
  | 47 => ⟨S1x2048, .f32⟩
  | 48 => ⟨S8192x2048, .f32⟩
  | 49 => ⟨S8192x2048, .f32⟩
  | 50 => ⟨S8192x2048, .f32⟩
  | 51 => ⟨S1x1x2048, .f32⟩
  | 52 => ⟨S2048, .f32⟩
  | 53 => ⟨S8192x2048, .f32⟩
  | 54 => ⟨S1x2048, .f32⟩
  | 55 => ⟨S8192x2048, .f32⟩
  | 56 => ⟨S8192x2048, .f32⟩
  | 57 => ⟨S8192x2048, .f32⟩
  | 58 => ⟨S1x1x2048, .f32⟩
  | 59 => ⟨S2048, .f32⟩
  | 60 => ⟨S8192x2048, .f32⟩
  | 61 => ⟨S1x2048, .f32⟩
  | 62 => ⟨S8192x2048, .f32⟩
  | 63 => ⟨S8192x2048, .f32⟩
  | 64 => ⟨S8192x2048, .f32⟩
  | 65 => ⟨S1x1x2048, .f32⟩
  | 66 => ⟨S2048, .f32⟩
  | 67 => ⟨S8192x2048, .f32⟩
  | 68 => ⟨S1x2048, .f32⟩
  | 69 => ⟨S8192x2048, .f32⟩
  | 70 => ⟨S8192x2048, .f32⟩
  | 71 => ⟨S8192x2048, .f32⟩
  | 72 => ⟨S1x1x2048, .f32⟩
  | 73 => ⟨S2048, .f32⟩
  | 74 => ⟨S8192x2048, .f32⟩
  | 75 => ⟨S1x2048, .f32⟩
  | 76 => ⟨S8192x2048, .f32⟩
  | 77 => ⟨S8192x2048, .f32⟩
  | 78 => ⟨S8192x2048, .f32⟩
  | 79 => ⟨S1x1x2048, .f32⟩
  | 80 => ⟨S2048, .f32⟩
  | 81 => ⟨S8192x2048, .f32⟩
  | 82 => ⟨S1x2048, .f32⟩
  | 83 => ⟨S8192x2048, .f32⟩
  | 84 => ⟨S8192x2048, .f32⟩
  | 85 => ⟨S8192x2048, .f32⟩
  | 86 => ⟨S1x1x2048, .f32⟩
  | 87 => ⟨S2048, .f32⟩
  | 88 => ⟨S8192x2048, .f32⟩
  | 89 => ⟨S1x2048, .f32⟩
  | 90 => ⟨S8192x2048, .f32⟩
  | 91 => ⟨S8192x2048, .f32⟩
  | 92 => ⟨S8192x2048, .f32⟩
  | 93 => ⟨S1x1x2048, .f32⟩
  | 94 => ⟨S2048, .f32⟩
  | 95 => ⟨S8192x2048, .f32⟩
  | 96 => ⟨S1x2048, .f32⟩
  | 97 => ⟨S8192x2048, .f32⟩
  | 98 => ⟨S8192x2048, .f32⟩
  | 99 => ⟨S8192x2048, .f32⟩
  | 100 => ⟨S1x1x2048, .f32⟩
  | 101 => ⟨S2048, .f32⟩
  | 102 => ⟨S8192x2048, .f32⟩
  | 103 => ⟨S1x2048, .f32⟩
  | 104 => ⟨S8192x2048, .f32⟩
  | 105 => ⟨S8192x2048, .f32⟩
  | 106 => ⟨S8192x2048, .f32⟩
  | 107 => ⟨S1x1x2048, .f32⟩
  | 108 => ⟨S2048, .f32⟩
  | 109 => ⟨S8192x2048, .f32⟩
  | 110 => ⟨S1x2048, .f32⟩
  | 111 => ⟨S8192x2048, .f32⟩
  | 112 => ⟨S8192x2048, .f32⟩
  | 113 => ⟨S8192x2048, .f32⟩
  | 114 => ⟨S1x2048, .f32⟩
  | 115 => ⟨S2048, .f32⟩
  | 116 => ⟨S1x2048, .f32⟩
  | 117 => ⟨S8192x2048, .f32⟩
  | 118 => ⟨S8192x2048, .f32⟩
  | _ => ⟨S8192x4096, .bf16⟩

abbrev hbmTy (i : Nat) : BufTy := match i / 128 with
  | 0 => hbmTy0_0 i
  | 1 => hbmTy0_1 i
  | _ => ⟨S8192x4096, .bf16⟩

abbrev bufTy : (tb : Table) → Fin (tcTables nBuf tb) → BufTy
  | .hbm, ⟨i, _⟩ => hbmTy i
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_v236 : Ref sig .tc := ⟨.hbm, 245, rfl⟩
abbrev main_v237 : Ref sig .tc := ⟨.hbm, 246, rfl⟩

abbrev nD : Nat := 1
abbrev τ : Topo := Topo.v7x

variable {F : FTy → Type} [FloatOps F]
-- ==== Proof.AttnIdealLoop.lean ====
/-
  The attention kernel's merge loop: sixteen trips, each writing four strided groups of thirty-two result rows from the
  three branches' numerators, maxima and denominators. The invariant holds the nine branch buffers as they are on entry
  and the result's buffer at something.
-/
module

public import proofs.«01_k».proof.Proof.Gen.KernelIdeal.Skeleton
public import proofs.«01_k».proof.Proof.Gen.KernelIdeal.Loops
public import proofs.«01_k».proof.Proof.Gen.KernelIdeal.Frame
public import Idealize.ShloMosaic.Lib.Tactic

@[expose] public section

set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The kernel keeps no counters beside its buffers. -/
abbrev UU (nD : Nat) (τ : Topo) : Type := UR sig nD τ
abbrev 𝒱₀ : Variants := Variants.none
local notation "𝕄" => MT nD τ sig Unit (Elt F) ℕ (UU nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c`, held whole at `f`. -/
abbrev pt (c : Dev nD) {sp : Space} {S : Shape} {e : EltTy} (M : Memref sig .tc sp S e) (f : Bf (F := F) c M) : sProp 𝕄 :=
  M.view.loc (c : Thread nD τ) ↦{fullShare} f

/-- The merge loop's invariant: the branch buffers unchanged, the result's buffer at something. -/
@[sl_loop] def mergeInv (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S6144x256 .f32) (harg13 : arg13.IsWhole) (arg14 : Memref sig .tc .vmem S6144x256 .bf16) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x128 .f32) (harg21 : arg21.IsWhole) (arg22 : Memref sig .tc .vmem S2048x128 .f32) (harg22 : arg22.IsWhole) (arg23 : Memref sig .tc .vmem S2048x128 .f32) (harg23 : arg23.IsWhole)  (v1427 : FVec F S256x128 .bf16) (v2070 : FVec F S128x256 .f32) (v2071 : FVec F S128x128 .f32)
    (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22) (f23 : Bf (F := F) c arg23) :
    LoopInvTy_k0_t1 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1427 v2070 v2071 where
  inv k _ := iprop((∃ f5 : Bf (F := F) c arg5, pt c arg5 f5) ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23)
  step k _ := by
    unfold k0_t1_body
    iintro ⟨⟨%f5, H5⟩, H15, H16, H17, H18, H19, H20, H21, H22, H23⟩
    sl_exec
    sl_step
    isplitl [H5]; · iexists _; iexact H5
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23

end Cert.Proof.KernelIdeal

end
-- ==== Proof.AttnIdealBody.lean ====
/- The attention kernel's body at one grid point, run at symbolic buffers. -/
module

public import proofs.«01_k».proof.Proof.AttnIdealLoop
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- The body's one condition: the grid point is the first of its head. -/
abbrev first0 (i : grid0.Coords) : Prop := (Scalar.cmpi .ne (Scalar.extui (Scalar.cmpi .eq (BitVec.ofNat 32 (i 1).val) 0#32)) 0#32) = 1#1

/-- At a point that is not the first of its head. -/
theorem bodyLater (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S6144x256 .f32) (harg13 : arg13.IsWhole) (arg14 : Memref sig .tc .vmem S6144x256 .bf16) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x128 .f32) (harg21 : arg21.IsWhole) (arg22 : Memref sig .tc .vmem S2048x128 .f32) (harg22 : arg22.IsWhole) (arg23 : Memref sig .tc .vmem S2048x128 .f32) (harg23 : arg23.IsWhole) (hc : ¬ first0 i)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22) (f23 : Bf (F := F) c arg23) (K : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ (iprop(pt c arg2 f2 ∗ pt c arg3 f3 ∗ pt c arg4 f4 ∗ (∃ f : Bf (F := F) c arg5, pt c arg5 f) ∗ (∃ f : Bf (F := F) c arg6, pt c arg6 f) ∗ (∃ f : Bf (F := F) c arg7, pt c arg7 f) ∗ (∃ f : Bf (F := F) c arg8, pt c arg8 f) ∗ (∃ f : Bf (F := F) c arg9, pt c arg9 f) ∗ (∃ f : Bf (F := F) c arg10, pt c arg10 f) ∗ (∃ f : Bf (F := F) c arg11, pt c arg11 f) ∗ (∃ f : Bf (F := F) c arg12, pt c arg12 f) ∗ (∃ f : Bf (F := F) c arg13, pt c arg13 f) ∗ (∃ f : Bf (F := F) c arg14, pt c arg14 f) ∗ (∃ f : Bf (F := F) c arg15, pt c arg15 f) ∗ (∃ f : Bf (F := F) c arg16, pt c arg16 f) ∗ (∃ f : Bf (F := F) c arg17, pt c arg17 f) ∗ (∃ f : Bf (F := F) c arg18, pt c arg18 f) ∗ (∃ f : Bf (F := F) c arg19, pt c arg19 f) ∗ (∃ f : Bf (F := F) c arg20, pt c arg20 f) ∗ (∃ f : Bf (F := F) c arg21, pt c arg21 f) ∗ (∃ f : Bf (F := F) c arg22, pt c arg22 f) ∗ (∃ f : Bf (F := F) c arg23, pt c arg23 f)) -∗ K ⟨⟩))
      ⊢ wp frame (wpE (defs₀ (F := F)) Variants.none c none) Set.univ (cc0_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  iintro ⟨H2, H3, H4, H5, H6, H7, H8, H9, H10, H11, H12, H13, H14, H15, H16, H17, H18, H19, H20, H21, H22, H23, Hk⟩
  sl_exec_parts (disch := sl_exact hc)
  sl_step
  iapply Hk
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iexists _; iexact H23

/-- At the first point of a head, where the carried scratch is zeroed first. -/
theorem bodyFirst (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S6144x256 .f32) (harg13 : arg13.IsWhole) (arg14 : Memref sig .tc .vmem S6144x256 .bf16) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x128 .f32) (harg21 : arg21.IsWhole) (arg22 : Memref sig .tc .vmem S2048x128 .f32) (harg22 : arg22.IsWhole) (arg23 : Memref sig .tc .vmem S2048x128 .f32) (harg23 : arg23.IsWhole) (hc : first0 i)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22) (f23 : Bf (F := F) c arg23) (K : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ (iprop(pt c arg2 f2 ∗ pt c arg3 f3 ∗ pt c arg4 f4 ∗ (∃ f : Bf (F := F) c arg5, pt c arg5 f) ∗ (∃ f : Bf (F := F) c arg6, pt c arg6 f) ∗ (∃ f : Bf (F := F) c arg7, pt c arg7 f) ∗ (∃ f : Bf (F := F) c arg8, pt c arg8 f) ∗ (∃ f : Bf (F := F) c arg9, pt c arg9 f) ∗ (∃ f : Bf (F := F) c arg10, pt c arg10 f) ∗ (∃ f : Bf (F := F) c arg11, pt c arg11 f) ∗ (∃ f : Bf (F := F) c arg12, pt c arg12 f) ∗ (∃ f : Bf (F := F) c arg13, pt c arg13 f) ∗ (∃ f : Bf (F := F) c arg14, pt c arg14 f) ∗ (∃ f : Bf (F := F) c arg15, pt c arg15 f) ∗ (∃ f : Bf (F := F) c arg16, pt c arg16 f) ∗ (∃ f : Bf (F := F) c arg17, pt c arg17 f) ∗ (∃ f : Bf (F := F) c arg18, pt c arg18 f) ∗ (∃ f : Bf (F := F) c arg19, pt c arg19 f) ∗ (∃ f : Bf (F := F) c arg20, pt c arg20 f) ∗ (∃ f : Bf (F := F) c arg21, pt c arg21 f) ∗ (∃ f : Bf (F := F) c arg22, pt c arg22 f) ∗ (∃ f : Bf (F := F) c arg23, pt c arg23 f)) -∗ K ⟨⟩))
      ⊢ wp frame (wpE (defs₀ (F := F)) Variants.none c none) Set.univ (cc0_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  iintro ⟨H2, H3, H4, H5, H6, H7, H8, H9, H10, H11, H12, H13, H14, H15, H16, H17, H18, H19, H20, H21, H22, H23, Hk⟩
  sl_exec_parts (disch := sl_exact hc)
  sl_step
  iapply Hk
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iexists _; iexact H23

/-- At any point. -/
theorem bodyAny (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S6144x256 .f32) (harg13 : arg13.IsWhole) (arg14 : Memref sig .tc .vmem S6144x256 .bf16) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x128 .f32) (harg21 : arg21.IsWhole) (arg22 : Memref sig .tc .vmem S2048x128 .f32) (harg22 : arg22.IsWhole) (arg23 : Memref sig .tc .vmem S2048x128 .f32) (harg23 : arg23.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22) (f23 : Bf (F := F) c arg23) (K : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ (iprop(pt c arg2 f2 ∗ pt c arg3 f3 ∗ pt c arg4 f4 ∗ (∃ f : Bf (F := F) c arg5, pt c arg5 f) ∗ (∃ f : Bf (F := F) c arg6, pt c arg6 f) ∗ (∃ f : Bf (F := F) c arg7, pt c arg7 f) ∗ (∃ f : Bf (F := F) c arg8, pt c arg8 f) ∗ (∃ f : Bf (F := F) c arg9, pt c arg9 f) ∗ (∃ f : Bf (F := F) c arg10, pt c arg10 f) ∗ (∃ f : Bf (F := F) c arg11, pt c arg11 f) ∗ (∃ f : Bf (F := F) c arg12, pt c arg12 f) ∗ (∃ f : Bf (F := F) c arg13, pt c arg13 f) ∗ (∃ f : Bf (F := F) c arg14, pt c arg14 f) ∗ (∃ f : Bf (F := F) c arg15, pt c arg15 f) ∗ (∃ f : Bf (F := F) c arg16, pt c arg16 f) ∗ (∃ f : Bf (F := F) c arg17, pt c arg17 f) ∗ (∃ f : Bf (F := F) c arg18, pt c arg18 f) ∗ (∃ f : Bf (F := F) c arg19, pt c arg19 f) ∗ (∃ f : Bf (F := F) c arg20, pt c arg20 f) ∗ (∃ f : Bf (F := F) c arg21, pt c arg21 f) ∗ (∃ f : Bf (F := F) c arg22, pt c arg22 f) ∗ (∃ f : Bf (F := F) c arg23, pt c arg23 f)) -∗ K ⟨⟩))
      ⊢ wp frame (wpE (defs₀ (F := F)) Variants.none c none) Set.univ (cc0_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  by_cases hc : first0 i
  · exact bodyFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc f2 f3 f4 f5 f6 f7 f8 f9 f10 f11 f12 f13 f14 f15 f16 f17 f18 f19 f20 f21 f22 f23 K
  · exact bodyLater c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc f2 f3 f4 f5 f6 f7 f8 f9 f10 f11 f12 f13 f14 f15 f16 f17 f18 f19 f20 f21 f22 f23 K

end Cert.Proof.KernelIdeal

end
-- ==== Proof.AttnIdealFrame.lean ====
/- The frame of the attention call: from its body's triple to the run of the whole grid. -/
module

public import proofs.«01_k».proof.Proof.AttnIdealBody
public import proofs.«01_k».proof.Proof.Gen.KernelIdeal.Points
public import Idealize.ShloMosaic.Lib.Claim

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F]

local notation "𝕄" => MT nD τ sig Unit (Elt F) ℕ (UU nD τ) ℕ

variable (m : (ℓ : Loc nD τ sig) → Buf (Elt F) ℓ) (ρ : Dev nD → PrngReg)

/-- The output's contents are not tracked here. -/
def forgets : Fin 4 → Bool := fun w => w.val == 3

/-- The run's data: each input window holds its block of the argument, the output is left unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q w := Pipeline.shareOf spec0 w
  owed _ := 0

theorem dats_A (c : Dev nD) (w : Fin 4) : (dats m 0 c).A w = V m c (Pipeline.arrRef spec0 w) := by dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (dats_A m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (dats_A m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (dats_A m c 2) (after_2 m c) t d
/-- Window 0's current staging buffer. -/
abbrev stg0 (t : Fin cfg0.N) : Memref sig .tc .vmem S2048x128 .f32 := win0_0.stage (cfg0.slots t 0)
/-- Window 1's current staging buffer. -/
abbrev stg1 (t : Fin cfg0.N) : Memref sig .tc .vmem S2048x128 .f32 := win0_1.stage (cfg0.slots t 1)
/-- Window 2's current staging buffer. -/
abbrev stg2 (t : Fin cfg0.N) : Memref sig .tc .vmem S2048x128 .f32 := win0_2.stage (cfg0.slots t 2)
/-- Window 3's current staging buffer. -/
abbrev stg3 (t : Fin cfg0.N) : Memref sig .tc .vmem S2048x128 .f32 := win0_3.stage (cfg0.slots t 3)
/-- Scratch buffer 0. -/
abbrev scr0 := Memref.whole cc0_scratch0
/-- Scratch buffer 1. -/
abbrev scr1 := Memref.whole cc0_scratch1
/-- Scratch buffer 2. -/
abbrev scr2 := Memref.whole cc0_scratch2
/-- Scratch buffer 3. -/
abbrev scr3 := Memref.whole cc0_scratch3
/-- Scratch buffer 4. -/
abbrev scr4 := Memref.whole cc0_scratch4
/-- Scratch buffer 5. -/
abbrev scr5 := Memref.whole cc0_scratch5
/-- Scratch buffer 6. -/
abbrev scr6 := Memref.whole cc0_scratch6
/-- Scratch buffer 7. -/
abbrev scr7 := Memref.whole cc0_scratch7
/-- Scratch buffer 8. -/
abbrev scr8 := Memref.whole cc0_scratch8
/-- Scratch buffer 9. -/
abbrev scr9 := Memref.whole cc0_scratch9
/-- Scratch buffer 10. -/
abbrev scr10 := Memref.whole cc0_scratch10
/-- Scratch buffer 11. -/
abbrev scr11 := Memref.whole cc0_scratch11
/-- Scratch buffer 12. -/
abbrev scr12 := Memref.whole cc0_scratch12
/-- Scratch buffer 13. -/
abbrev scr13 := Memref.whole cc0_scratch13
/-- Scratch buffer 14. -/
abbrev scr14 := Memref.whole cc0_scratch14
/-- Scratch buffer 15. -/
abbrev scr15 := Memref.whole cc0_scratch15
/-- Scratch buffer 16. -/
abbrev scr16 := Memref.whole cc0_scratch16
/-- Scratch buffer 17. -/
abbrev scr17 := Memref.whole cc0_scratch17

theorem sepC {P P' Q Q' : sProp 𝕄} (h : P = P') (h' : Q = Q') : iprop(P ∗ Q) = iprop(P' ∗ Q') := by rw [h, h']

/-- A whole memref owned is its buffer held. -/
theorem own_open (c : Dev nD) {sp : Space} {S : Shape} {e : EltTy} (M : Memref sig .tc sp S e) (h : M.IsWhole) (d) :
    (owns (c : Thread nD τ) M fullShare d : sProp 𝕄) = iprop(∃ f : Bf (F := F) c M, ⌜M.view.read (Elt F) f = d⌝ ∗ pt c M f) := by
  unfold owns; rw [h.set_eq_univ]

theorem own_some (c : Dev nD) {sp : Space} {S : Shape} {e : EltTy} (M : Memref sig .tc sp S e) (h : M.IsWhole) :
    (iprop(∃ d, owns (c : Thread nD τ) M fullShare d) : sProp 𝕄) = iprop(∃ f : Bf (F := F) c M, pt c M f) := by
  have h₁ : (iprop(∃ d, owns (c : Thread nD τ) M fullShare d) : sProp 𝕄) ⊢ iprop(∃ f : Bf (F := F) c M, pt c M f) := by
    simp only [own_open c M h]; iintro ⟨%d, ⟨%f, %e, H⟩⟩; iexists f; iexact H
  have h₂ : iprop(∃ f : Bf (F := F) c M, pt c M f) ⊢ (iprop(∃ d, owns (c : Thread nD τ) M fullShare d) : sProp 𝕄) := by
    simp only [own_open c M h]; iintro ⟨%f, H⟩; iexists (M.view.read (Elt F) f); iexists f; isplitr
    · ipureintro; rfl
    · iexact H
  exact BI.equiv_iff.mp ⟨h₁, h₂⟩

theorem PhiA_own (c : Dev nD) : (Pipeline.ΦA spec0 c : sProp 𝕄) = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d) ∗ (∃ d, owns (c : Thread nD τ) scr6 fullShare d) ∗ (∃ d, owns (c : Thread nD τ) scr7 fullShare d) ∗ (∃ d, owns (c : Thread nD τ) scr8 fullShare d) ∗ (∃ d, owns (c : Thread nD τ) scr9 fullShare d) ∗ (∃ d, owns (c : Thread nD τ) scr10 fullShare d) ∗ (∃ d, owns (c : Thread nD τ) scr11 fullShare d) ∗ (∃ d, owns (c : Thread nD τ) scr12 fullShare d) ∗ (∃ d, owns (c : Thread nD τ) scr13 fullShare d) ∗ (∃ d, owns (c : Thread nD τ) scr14 fullShare d) ∗ (∃ d, owns (c : Thread nD τ) scr15 fullShare d) ∗ (∃ d, owns (c : Thread nD τ) scr16 fullShare d) ∗ (∃ d, owns (c : Thread nD τ) scr17 fullShare d)) ∗ (∃ r, prngReg c r)) := by
  unfold Pipeline.ΦA; rw [scopedRest0_eq]; simp only [scr0, scr1, scr2, scr3, scr4, scr5, scr6, scr7, scr8, scr9, scr10, scr11, scr12, scr13, scr14, scr15, scr16, scr17, owns_whole]; try rfl

/-- Between points: the scratch buffers, and the generator's register, at some contents. -/
theorem PhiA_eq (c : Dev nD) : (Pipeline.ΦA spec0 c : sProp 𝕄) = iprop(iprop((∃ f : Bf (F := F) c scr0, pt c scr0 f) ∗ (∃ f : Bf (F := F) c scr1, pt c scr1 f) ∗ (∃ f : Bf (F := F) c scr2, pt c scr2 f) ∗ (∃ f : Bf (F := F) c scr3, pt c scr3 f) ∗ (∃ f : Bf (F := F) c scr4, pt c scr4 f) ∗ (∃ f : Bf (F := F) c scr5, pt c scr5 f) ∗ (∃ f : Bf (F := F) c scr6, pt c scr6 f) ∗ (∃ f : Bf (F := F) c scr7, pt c scr7 f) ∗ (∃ f : Bf (F := F) c scr8, pt c scr8 f) ∗ (∃ f : Bf (F := F) c scr9, pt c scr9 f) ∗ (∃ f : Bf (F := F) c scr10, pt c scr10 f) ∗ (∃ f : Bf (F := F) c scr11, pt c scr11 f) ∗ (∃ f : Bf (F := F) c scr12, pt c scr12 f) ∗ (∃ f : Bf (F := F) c scr13, pt c scr13 f) ∗ (∃ f : Bf (F := F) c scr14, pt c scr14 f) ∗ (∃ f : Bf (F := F) c scr15, pt c scr15 f) ∗ (∃ f : Bf (F := F) c scr16, pt c scr16 f) ∗ (∃ f : Bf (F := F) c scr17, pt c scr17 f)) ∗ (∃ r, prngReg c r)) := by
  rw [PhiA_own]; exact sepC (sepC (own_some c scr0 (Memref.isWhole_whole _)) (sepC (own_some c scr1 (Memref.isWhole_whole _)) (sepC (own_some c scr2 (Memref.isWhole_whole _)) (sepC (own_some c scr3 (Memref.isWhole_whole _)) (sepC (own_some c scr4 (Memref.isWhole_whole _)) (sepC (own_some c scr5 (Memref.isWhole_whole _)) (sepC (own_some c scr6 (Memref.isWhole_whole _)) (sepC (own_some c scr7 (Memref.isWhole_whole _)) (sepC (own_some c scr8 (Memref.isWhole_whole _)) (sepC (own_some c scr9 (Memref.isWhole_whole _)) (sepC (own_some c scr10 (Memref.isWhole_whole _)) (sepC (own_some c scr11 (Memref.isWhole_whole _)) (sepC (own_some c scr12 (Memref.isWhole_whole _)) (sepC (own_some c scr13 (Memref.isWhole_whole _)) (sepC (own_some c scr14 (Memref.isWhole_whole _)) (sepC (own_some c scr15 (Memref.isWhole_whole _)) (sepC (own_some c scr16 (Memref.isWhole_whole _)) (own_some c scr17 (Memref.isWhole_whole _))))))))))))))))))) rfl

/-- What the pipeline hands the body. -/
def bodyPre (c : Dev nD) (t : Fin cfg0.N) : sProp 𝕄 := iprop((dats m 0 c).Φ t.castSucc ∗ (dats m 0 c).owesAt () t.castSucc ∗ (∃ d, owns (c : Thread nD τ) (stg0 t) fullShare ((dats m 0 c).before 0 t d)) ∗ (∃ d, owns (c : Thread nD τ) (stg1 t) fullShare ((dats m 0 c).before 1 t d)) ∗ (∃ d, owns (c : Thread nD τ) (stg2 t) fullShare ((dats m 0 c).before 2 t d)) ∗ (∃ d, owns (c : Thread nD τ) (stg3 t) fullShare d))
/-- What the body hands back. -/
def bodyPost (c : Dev nD) (t : Fin cfg0.N) : sProp 𝕄 := iprop((dats m 0 c).Φ t.succ ∗ (dats m 0 c).owesAt () t.succ ∗ owns (c : Thread nD τ) (stg0 t) fullShare ((dats m 0 c).after 0 t) ∗ owns (c : Thread nD τ) (stg1 t) fullShare ((dats m 0 c).after 1 t) ∗ owns (c : Thread nD τ) (stg2 t) fullShare ((dats m 0 c).after 2 t) ∗ (∃ d, owns (c : Thread nD τ) (stg3 t) fullShare d))

set_option maxHeartbeats 2000000 in
/-- The body at point `t`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl, after_0, after_1, after_2,
    show (dats m 0 c).Φ t.castSucc = Pipeline.ΦA spec0 c from rfl, show (dats m 0 c).Φ t.succ = Pipeline.ΦA spec0 c from rfl, PhiA_eq]
  simp only [own_open c (stg0 t) (hstage0_0 _), own_open c (stg1 t) (hstage0_1 _), own_open c (stg2 t) (hstage0_2 _), own_open c (stg3 t) (hstage0_3 _)]
  iintro ⟨⟨⟨⟨%g0, S0⟩, ⟨%g1, S1⟩, ⟨%g2, S2⟩, ⟨%g3, S3⟩, ⟨%g4, S4⟩, ⟨%g5, S5⟩, ⟨%g6, S6⟩, ⟨%g7, S7⟩, ⟨%g8, S8⟩, ⟨%g9, S9⟩, ⟨%g10, S10⟩, ⟨%g11, S11⟩, ⟨%g12, S12⟩, ⟨%g13, S13⟩, ⟨%g14, S14⟩, ⟨%g15, S15⟩, ⟨%g16, S16⟩, ⟨%g17, S17⟩⟩, Hg⟩, Ho, ⟨%d0, ⟨%f0, %e0, H0⟩⟩, ⟨%d1, ⟨%f1, %e1, H1⟩⟩, ⟨%d2, ⟨%f2, %e2, H2⟩⟩, ⟨%d3, ⟨%f3, %e3, H3⟩⟩⟩
  iapply (bodyAny c (grid0.coords t) _ _ _ _ _ _ _ _ _ _ _ _ _ _ _ _ _ _ _ _ _ _ _ _ _ _ _ _ _ _ _ _ _ _ _ _ _ _ _ _ _ _ _ _ f0 f1 f2 f3 g0 g1 g2 g3 g4 g5 g6 g7 g8 g9 g10 g11 g12 g13 g14 g15 g16 g17 _)
  isplitl [H0]; · iexact H0
  isplitl [H1]; · iexact H1
  isplitl [H2]; · iexact H2
  isplitl [H3]; · iexact H3
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  iintro ⟨H0, H1, H2, ⟨%f3', H3⟩, S0, S1, S2, S3, S4, S5, S6, S7, S8, S9, S10, S11, S12, S13, S14, S15, S16, S17⟩
  isplitl [S0 S1 S2 S3 S4 S5 S6 S7 S8 S9 S10 S11 S12 S13 S14 S15 S16 S17 Hg]
  · isplitl [S0 S1 S2 S3 S4 S5 S6 S7 S8 S9 S10 S11 S12 S13 S14 S15 S16 S17]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      isplitl [S16]; · iexact S16
      iexact S17
    iexact Hg
  isplitl [Ho]; · iexact Ho
  isplitl [H0]
  · iexists _; isplitr
    swap; · iexact H0
    ipureintro; exact e0
  isplitl [H1]
  · iexists _; isplitr
    swap; · iexact H1
    ipureintro; exact e1
  isplitl [H2]
  · iexists _; isplitr
    swap; · iexact H2
    ipureintro; exact e2
  iexists _; iexists _; isplitr
  swap; · iexact H3
  ipureintro; rfl

/-- The body table's row at point `t`'s slots. -/
theorem defs_row (t : Fin cfg0.N) : defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ forgets := fun t => by
  rw [bigSep_W0, bigSep_W0, defs_row]
  exact triple_restated (sound_body m c t) rfl .rfl fun _ => .rfl

set_option backward.isDefEq.respectTransparency.types false in
/-- The whole run: it ends, the argument unchanged, every counter at zero. -/
theorem run : θ_run defs (onTc (τ := τ) (main (F := F))) ⟨m, fun _ => 0, ρ⟩ (fun r => (Pipeline.RDat.FramePost (cfgs 0) (fun c => (dats m 0 c).toRForget forgets) (V m)) r ∧ r.2.sem = fun _ => 0) :=
  Pipeline.θ_run_frame_forget_shared (Q' := _) cfgs (dats m) (0 : Fin 1) launch₀0 defs₀ Variants.none forgets m ρ main
    (hbody := fun c => (obligation m c).loose) (hq := fun _ _ _ => rfl)
    (howed := fun _ _ => rfl) (V := V m) (hmain := hmain m Variants.none) (hA := dats_A m) (hΦ := fun _ _ => rfl)

/-- The frame claim, at any values. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (Pipeline.RDat.FramePost.arr_in h.1 c 0 rfl).trans ((dats_A m c 0).trans (V_main_arg0 m c)), h.2⟩) (run m ρ)

end Cert.Proof.KernelIdeal

end
-- ==== Proof.Tiles.lean ====
/-
  What the value proofs of the calls share: a product of two matrices read at an index, a lane slice read at an index,
  a block of an array read at an index, and a gated product's two columns.
-/
module

public import Idealize.ShloMosaic.Lib.MatmulPlain
public import Idealize.ShloMosaic.Lib.ValueIdx
public import Idealize.ShloMosaic.Lib.Pipeline.Value
public import Idealize.ShloMosaic.PureOps.Ideal.Laws

@[expose] public section

noncomputable section

namespace Cert.Tiles

open Idealize.ShloMosaic Idealize.ShloMosaic.ValueIdx

/-- A product of an `M × K` by a `K × N` matrix into a zero accumulator, read at an index. -/
theorem mm_apply {M K N : ℕ} {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (y : (⟨2, ![M, N]⟩ : Shape).Idx) :
    matmul d prec l r (constant (F := Ideal) ⟨2, ![M, N]⟩ .f32 0x00000000#32) y
      = ∑ k : Fin K, l (ix2 (y 0) k) * r (ix2 k (y 1)) := by
  subst hd
  rw [eq_ix2 y]
  refine (Ideal.matmul_plain_apply prec l r _ (y 0) (y 1)).trans ?_
  rw [constant_apply, Ideal.ofBits_zero_f32, zero_add]
  rfl

/-- The zero-offset rectangle's origin. -/
theorem hz2 : (![0, 0] : Fin 2 → Nat) = fun _ => 0 := funext fun a => by fin_cases a <;> rfl

/-- The zero-offset rectangle's origin, three axes. -/
theorem hz3 : (![0, 0, 0] : Fin 3 → Nat) = fun _ => 0 := funext fun a => by fin_cases a <;> rfl

/-- The word of one is one. -/
theorem one_bits : Ideal.ofBits .f32 0x3F800000#32 = 1 := by
  simp [Ideal.ofBits, Ideal.ieee, -EReal.coe_mul]; norm_num

end Cert.Tiles

end
-- ==== Proof.SwiValue.lean ====
/-
  The gate and up projections with their gated product, and the cast of the down weight: what the kernel's blocks hold is
  the block of one function of the whole arrays, and that function is the reference's, element by element.
-/
module

public import proofs.«01_k».proof.Proof.Tiles
public import proofs.«01_k».proof.Proof.Gen.SwiIdeal.Value
public import proofs.«01_k».proof.Proof.Gen.SwiRefIdeal.Read

@[expose] public section

noncomputable section

namespace Cert.SwiIdeal.RefValue

open Cert.SwiIdeal Cert.SwiIdeal.Gen Cert.Tiles Idealize.ShloMosaic Idealize.ShloMosaic.ValueIdx Idealize.ShloMosaic.TcCoe Idealize.SL.Sem
open Idealize.ShloMosaic.Pipeline (Dat)

/-- One projection at a row and a column: the row's product with the weight's column, times the row's scale, which the
    scale array repeats over its 128 lanes. -/
def proj {R C : ℕ} (x : FVec Ideal ⟨2, ![R, 4096]⟩ .bf16) (rs : FVec Ideal ⟨2, ![R, 128]⟩ .f32) (w : FVec Ideal ⟨2, ![4096, C]⟩ .bf16)
    (r : Fin R) (j : Fin C) : EReal :=
  (∑ k : Fin 4096, x (ix2 r k) * w (ix2 k j)) * rs (ix2 r ⟨j.val % 128, Nat.mod_lt _ (by decide)⟩)

/-- The gated product at an index: the gate passed through its own logistic, times the up projection. -/
def gated {R C : ℕ} (x : FVec Ideal ⟨2, ![R, 4096]⟩ .bf16) (rs : FVec Ideal ⟨2, ![R, 128]⟩ .f32) (wg wu : FVec Ideal ⟨2, ![4096, C]⟩ .bf16)
    (y : (⟨2, ![R, C]⟩ : Shape).Idx) : EReal :=
  proj x rs wg (y 0) (y 1) * Ideal.logistic (proj x rs wg (y 0) (y 1)) * proj x rs wu (y 0) (y 1)

/-- Equal gates and equal up projections have equal gated products. -/
theorem gate_congr {a b c d : EReal} (h : a = c) (h' : b = d) : a * Ideal.logistic a * b = c * Ideal.logistic c * d := by
  rw [h, h']

/-- The lane slice of a 256-column product at an index, times the scale there. -/
abbrev sl (o : ℕ) (hs : S1024x256.Slices ![0, o] S1024x128) (v4 : FVec Ideal S1024x4096 .bf16) (v5 : FVec Ideal S1024x128 .f32) (w : FVec Ideal S4096x256 .bf16)
    (x : S1024x128.Idx) : EReal :=
  extractStridedSlice S1024x128 ![0, o]
    (matmul (φ₂ := .bf16) dot_S1024x4096_S4096x256_S1024x256_1_0_0_1_n_n none v4 w (constant (F := Ideal) S1024x256 .f32 0x00000000#32)) hs x * v5 x

/-- A lane slice of a 256-column product, times the scale, is the projection at the column under it. -/
theorem lane_proj (x0 : FVec Ideal S1024x4096 .bf16) (x1 : FVec Ideal S1024x128 .f32) (w : FVec Ideal S4096x512 .bf16)
    (o b : ℕ) (inb : ∀ a : Fin 2, ![0, b] a + S4096x256.size a ≤ S4096x512.size a) (hs : S1024x256.Slices ![0, o] S1024x128)
    (hob : 128 ∣ o + b) (x : S1024x128.Idx) (y : S1024x512.Idx) (hy0 : (y 0).val = (x 0).val) (hy1 : (y 1).val = b + o + (x 1).val) :
    sl o hs x0 x1 (View.ld (Val := Elt Ideal) (e' := EltTy.bf16) w (Rect.unit (s := S4096x512) ![0, b] S4096x256.size inb)) x = proj x0 x1 w (y 0) (y 1) := by
  have h1 : (x 1).val < 128 := (x 1).isLt
  have ho : o + 128 ≤ 256 := hs.2 1
  have hx : x = ix2 (y 0) ⟨(y 1).val % 128, Nat.mod_lt _ (by decide)⟩ := by
    funext a
    match a with
    | ⟨0, _⟩ => exact Fin.ext hy0.symm
    | ⟨1, _⟩ => exact Fin.ext (by show (x 1).val = (y 1).val % 128; obtain ⟨q, hq⟩ := hob; omega)
  unfold sl
  rw [extractStridedSlice_apply _ _ hs x (ix2 (x 0 : Fin 1024) (⟨o + (x 1).val, by omega⟩ : Fin 256)) (fun a => by
    match a with
    | ⟨0, _⟩ => show (x 0).val = 0 + (x 0).val; omega
    | ⟨1, _⟩ => rfl)]
  refine (congrArg (· * x1 x) (mm_apply _ rfl none x0 _ _)).trans ?_
  unfold proj
  refine congrArg₂ (· * ·) (Finset.sum_congr rfl fun k _ => ?_) (congrArg x1 hx)
  refine congrArg₂ (· * ·) ?_ ?_
  · refine congrArg x0 ?_
    funext a
    match a with
    | ⟨0, _⟩ => exact Fin.ext hy0.symm
    | ⟨1, _⟩ => rfl
  · show w _ = w _
    refine congrArg w ?_
    funext a
    match a with
    | ⟨0, _⟩ => exact Fin.ext (by show 0 + 1 * k.val = k.val; omega)
    | ⟨1, _⟩ => exact Fin.ext (by show b + 1 * (o + (x 1).val) = (y 1).val; omega)

/-- The first lane tile's store at an index. -/
theorem pay7_eq (v4 : FVec Ideal S1024x4096 .bf16) (v5 : FVec Ideal S1024x128 .f32) (w u : FVec Ideal S4096x256 .bf16) (x : S1024x128.Idx) :
    k0_pay7 (F := Ideal) v4 v5 w u x = sl 0 slices_S1024x256_o0_0_S1024x128 v4 v5 w x * Ideal.logistic (sl 0 slices_S1024x256_o0_0_S1024x128 v4 v5 w x) * sl 0 slices_S1024x256_o0_0_S1024x128 v4 v5 u x := rfl

/-- The second lane tile's store at an index. -/
theorem pay8_eq (v4 : FVec Ideal S1024x4096 .bf16) (v5 : FVec Ideal S1024x128 .f32) (w u : FVec Ideal S4096x256 .bf16) (x : S1024x128.Idx) :
    k0_pay8 (F := Ideal) v4 v5 w u x = sl 128 slices_S1024x256_o0_128_S1024x128 v4 v5 w x * Ideal.logistic (sl 128 slices_S1024x256_o0_128_S1024x128 v4 v5 w x) * sl 128 slices_S1024x256_o0_128_S1024x128 v4 v5 u x := rfl

/-- The third lane tile's store at an index. -/
theorem pay2_eq (v4 : FVec Ideal S1024x4096 .bf16) (v5 : FVec Ideal S1024x128 .f32) (w u : FVec Ideal S4096x256 .bf16) (x : S1024x128.Idx) :
    k0_pay2 (F := Ideal) v4 v5 (k0_pay9 (F := Ideal) v4 w) u x = sl 0 slices_S1024x256_o0_0_S1024x128 v4 v5 w x * Ideal.logistic (sl 0 slices_S1024x256_o0_0_S1024x128 v4 v5 w x) * sl 0 slices_S1024x256_o0_0_S1024x128 v4 v5 u x := rfl

/-- The fourth lane tile's store at an index. -/
theorem pay3_eq (v4 : FVec Ideal S1024x4096 .bf16) (v5 : FVec Ideal S1024x128 .f32) (w u : FVec Ideal S4096x256 .bf16) (x : S1024x128.Idx) :
    k0_pay3 (F := Ideal) v4 v5 (k0_pay9 (F := Ideal) v4 w) u x = sl 128 slices_S1024x256_o0_128_S1024x128 v4 v5 w x * Ideal.logistic (sl 128 slices_S1024x256_o0_128_S1024x128 v4 v5 w x) * sl 128 slices_S1024x256_o0_128_S1024x128 v4 v5 u x := rfl

/-- The block the body leaves: the gated product of the input blocks. -/
theorem canon5 (x0 : FVec Ideal S1024x4096 .bf16) (x1 : FVec Ideal S1024x128 .f32) (x2 x3 : FVec Ideal S4096x512 .bf16) (x4 : FVec Ideal S1x512x512 .f32)
    (y : S1024x512.Idx) : out0_5 (F := Ideal) x0 x1 x2 x3 x4 y = gated x0 x1 x2 x3 y := by
  unfold_out out0_5
  rw [View.ld_unit_zero hz2, View.ld_unit_zero hz2]
  refine View.canon_apply_of_pieces (Val := Elt Ideal) (e := .bf16) (S := S1024x512) (gated (R := 1024) (C := 512) x0 x1 x2 x3) _ ?_ y (cover0_5 _ _ _ _ y)
  intro pc hpc
  rcases List.mem_cons.mp hpc with rfl | hpc
  · intro x
    exact (pay3_eq x0 x1 _ _ x).trans (gate_congr (lane_proj x0 x1 x2 128 256 _ _ (by decide) x _ (by show 0 + 1 * (x 0).val = _; omega) (by show 384 + 1 * (x 1).val = _; omega))
      (lane_proj x0 x1 x3 128 256 _ _ (by decide) x _ (by show 0 + 1 * (x 0).val = _; omega) (by show 384 + 1 * (x 1).val = _; omega)))
  rcases List.mem_cons.mp hpc with rfl | hpc
  · intro x
    exact (pay2_eq x0 x1 _ _ x).trans (gate_congr (lane_proj x0 x1 x2 0 256 _ _ (by decide) x _ (by show 0 + 1 * (x 0).val = _; omega) (by show 256 + 1 * (x 1).val = _; omega))
      (lane_proj x0 x1 x3 0 256 _ _ (by decide) x _ (by show 0 + 1 * (x 0).val = _; omega) (by show 256 + 1 * (x 1).val = _; omega)))
  rcases List.mem_cons.mp hpc with rfl | hpc
  · intro x
    exact (pay8_eq x0 x1 _ _ x).trans (gate_congr (lane_proj x0 x1 x2 128 0 _ _ (by decide) x _ (by show 0 + 1 * (x 0).val = _; omega) (by show 128 + 1 * (x 1).val = _; omega))
      (lane_proj x0 x1 x3 128 0 _ _ (by decide) x _ (by show 0 + 1 * (x 0).val = _; omega) (by show 128 + 1 * (x 1).val = _; omega)))
  rcases List.mem_cons.mp hpc with rfl | hpc
  · intro x
    exact (pay7_eq x0 x1 _ _ x).trans (gate_congr (lane_proj x0 x1 x2 0 0 _ _ (by decide) x _ (by show 0 + 1 * (x 0).val = _; omega) (by show 0 + 1 * (x 1).val = _; omega))
      (lane_proj x0 x1 x3 0 0 _ _ (by decide) x _ (by show 0 + 1 * (x 0).val = _; omega) (by show 0 + 1 * (x 1).val = _; omega)))
  nomatch hpc

variable (m : (ℓ : Loc nD τ sig) → Buf (Elt Ideal) ℓ)

/-- How the windows' blocks lie against each other at a grid point, decided over the points. -/
theorem idx_facts : ∀ t : Fin cfg0.N,
    win0_0.index t 0 = win0_5.index t 0 ∧ win0_0.index t 1 = 0 ∧ win0_1.index t 0 = win0_5.index t 0 ∧ win0_1.index t 1 = 0
    ∧ win0_2.index t 0 = 0 ∧ win0_2.index t 1 = win0_5.index t 1 ∧ win0_3.index t 0 = 0 ∧ win0_3.index t 1 = win0_5.index t 1
    ∧ win0_4.index t 0 = 3 ∧ win0_4.index t 1 = win0_6.index t 0 ∧ win0_4.index t 2 = win0_6.index t 1 :=
  (by decide +kernel : ∀ t : Fin grid0.N, _)

/-- Every block of the gated product is some point's. -/
theorem onto5 : ∀ (p : Fin 8) (q : Fin 12), ∃ t : Fin cfg0.N, win0_5.index t 0 = p.val ∧ win0_5.index t 1 = q.val :=
  (by decide +kernel : ∀ (p : Fin 8) (q : Fin 12), ∃ t : Fin grid0.N, _)

/-- Every block of the cast weight is some point's. -/
theorem onto6 : ∀ (p : Fin 12) (q : Fin 8), ∃ t : Fin cfg0.N, win0_6.index t 0 = p.val ∧ win0_6.index t 1 = q.val :=
  (by decide +kernel : ∀ (p : Fin 12) (q : Fin 8), ∃ t : Fin grid0.N, _)

/-- The gated product over the whole arrays. -/
abbrev G5 (c : Dev nD) : Buf (Elt Ideal) ((c : Thread nD τ).loc main_v0_0) :=
  gated (m ((c : Thread nD τ).loc main_arg0)) (m ((c : Thread nD τ).loc main_arg1)) (m ((c : Thread nD τ).loc main_arg2)) (m ((c : Thread nD τ).loc main_arg3))

/-- The last layer's down weight. -/
abbrev G6 (c : Dev nD) : Buf (Elt Ideal) ((c : Thread nD τ).loc main_v0_1) :=
  fun y => m ((c : Thread nD τ).loc main_arg4) (ix3 (3 : Fin 4) (y 0 : Fin 6144) (y 1 : Fin 4096))

/-- What a point writes back of the gated product is its block of the whole array's. -/
theorem flushed5_eq (c : Dev nD) (t : Fin cfg0.N) :
    (dats m 0 c).flushed 5 t = ((cfg0.win 5).blk t).view.read (Elt Ideal) (G5 m c) := by
  rw [Value.flushed5]
  obtain ⟨h00, h01, h10, h11, h20, h21, h30, h31, -⟩ := idx_facts t
  funext y
  have hy0 : (y 0).val < 1024 := (y 0).isLt
  have hy1 : (y 1).val < 512 := (y 1).isLt
  refine (canon5 _ _ _ _ _ y).trans ?_
  have e0 : ∀ (k : Fin 4096), iblk m c 0 t (ix2 (y 0 : Fin 1024) k : S1024x4096.Idx) = m ((c : Thread nD τ).loc main_arg0) (ix2 ((win0_5.rect t).emb y 0 : Fin 8192) k) := fun k => by
    show V m c main_arg0 ((win0_0.rect t).emb (ix2 (y 0 : Fin 1024) k : S1024x4096.Idx)) = _
    rw [V_main_arg0]
    refine congrArg _ (funext fun a => Fin.ext ?_)
    match a with
    | ⟨0, _⟩ => show win0_0.index t 0 * 1024 + 1 * (y 0).val = win0_5.index t 0 * 1024 + 1 * (y 0).val; rw [h00]
    | ⟨1, _⟩ => show win0_0.index t 1 * 4096 + 1 * k.val = k.val; rw [h01]; omega
  have e1 : ∀ (k : Fin 128), iblk m c 1 t (ix2 (y 0 : Fin 1024) k : S1024x128.Idx) = m ((c : Thread nD τ).loc main_arg1) (ix2 ((win0_5.rect t).emb y 0 : Fin 8192) k) := fun k => by
    show V m c main_arg1 ((win0_1.rect t).emb (ix2 (y 0 : Fin 1024) k : S1024x128.Idx)) = _
    rw [V_main_arg1]
    refine congrArg _ (funext fun a => Fin.ext ?_)
    match a with
    | ⟨0, _⟩ => show win0_1.index t 0 * 1024 + 1 * (y 0).val = win0_5.index t 0 * 1024 + 1 * (y 0).val; rw [h10]
    | ⟨1, _⟩ => show win0_1.index t 1 * 128 + 1 * k.val = k.val; rw [h11]; omega
  have e2 : ∀ (k : Fin 4096), iblk m c 2 t (ix2 k (y 1 : Fin 512) : S4096x512.Idx) = m ((c : Thread nD τ).loc main_arg2) (ix2 k ((win0_5.rect t).emb y 1 : Fin 6144)) := fun k => by
    show V m c main_arg2 ((win0_2.rect t).emb (ix2 k (y 1 : Fin 512) : S4096x512.Idx)) = _
    rw [V_main_arg2]
    refine congrArg _ (funext fun a => Fin.ext ?_)
    match a with
    | ⟨0, _⟩ => show win0_2.index t 0 * 4096 + 1 * k.val = k.val; rw [h20]; omega
    | ⟨1, _⟩ => show win0_2.index t 1 * 512 + 1 * (y 1).val = win0_5.index t 1 * 512 + 1 * (y 1).val; rw [h21]
  have e3 : ∀ (k : Fin 4096), iblk m c 3 t (ix2 k (y 1 : Fin 512) : S4096x512.Idx) = m ((c : Thread nD τ).loc main_arg3) (ix2 k ((win0_5.rect t).emb y 1 : Fin 6144)) := fun k => by
    show V m c main_arg3 ((win0_3.rect t).emb (ix2 k (y 1 : Fin 512) : S4096x512.Idx)) = _
    rw [V_main_arg3]
    refine congrArg _ (funext fun a => Fin.ext ?_)
    match a with
    | ⟨0, _⟩ => show win0_3.index t 0 * 4096 + 1 * k.val = k.val; rw [h30]; omega
    | ⟨1, _⟩ => show win0_3.index t 1 * 512 + 1 * (y 1).val = win0_5.index t 1 * 512 + 1 * (y 1).val; rw [h31]
  have hl : (⟨(y 1).val % 128, Nat.mod_lt _ (by decide)⟩ : Fin 128) = ⟨((win0_5.rect t).emb y 1).val % 128, Nat.mod_lt _ (by decide)⟩ :=
    Fin.ext (by show (y 1).val % 128 = (win0_5.index t 1 * 512 + 1 * (y 1).val) % 128; omega)
  have p2 : proj (R := 1024) (C := 512) (iblk m c 0 t) (iblk m c 1 t) (iblk m c 2 t) (y 0) (y 1) = proj (m ((c : Thread nD τ).loc main_arg0)) (m ((c : Thread nD τ).loc main_arg1)) (m ((c : Thread nD τ).loc main_arg2)) ((win0_5.rect t).emb y 0) ((win0_5.rect t).emb y 1) := by
    unfold proj
    rw [← hl]
    exact congrArg₂ (· * ·) (Finset.sum_congr rfl fun k _ => congrArg₂ (· * ·) (e0 k) (e2 k)) (e1 _)
  have p3 : proj (R := 1024) (C := 512) (iblk m c 0 t) (iblk m c 1 t) (iblk m c 3 t) (y 0) (y 1) = proj (m ((c : Thread nD τ).loc main_arg0)) (m ((c : Thread nD τ).loc main_arg1)) (m ((c : Thread nD τ).loc main_arg3)) ((win0_5.rect t).emb y 0) ((win0_5.rect t).emb y 1) := by
    unfold proj
    rw [← hl]
    exact congrArg₂ (· * ·) (Finset.sum_congr rfl fun k _ => congrArg₂ (· * ·) (e0 k) (e3 k)) (e1 _)
  exact gate_congr p2 p3

/-- What a point writes back of the cast weight is its block of the last layer's weight. -/
theorem flushed6_eq (c : Dev nD) (t : Fin cfg0.N) :
    (dats m 0 c).flushed 6 t = ((cfg0.win 6).blk t).view.read (Elt Ideal) (G6 m c) := by
  rw [Value.flushed6]
  obtain ⟨-, -, -, -, -, -, -, -, h40, h41, h42⟩ := idx_facts t
  funext y
  unfold out0_6
  rw [View.ld_unit_zero hz3]
  refine (Value.canon6_eq _ _).trans ?_
  show V m c main_arg4 ((win0_4.rect t).emb (Value.ix6_0 y)) = _
  rw [V_main_arg4]
  show _ = m ((c : Thread nD τ).loc main_arg4) (ix3 (3 : Fin 4) ((win0_6.rect t).emb y 0 : Fin 6144) ((win0_6.rect t).emb y 1 : Fin 4096))
  refine congrArg _ (funext fun a => Fin.ext ?_)
  match a with
  | ⟨0, _⟩ => show win0_4.index t 0 * 1 + 1 * 0 = 3; rw [h40]
  | ⟨1, _⟩ => show win0_4.index t 1 * 512 + 1 * (y 0).val = win0_6.index t 0 * 512 + 1 * (y 0).val; rw [h41]
  | ⟨2, _⟩ => show win0_4.index t 2 * 512 + 1 * (y 1).val = win0_6.index t 1 * 512 + 1 * (y 1).val; rw [h42]

/-- The gated product's array after the run. -/
theorem final5 (c : Dev nD) : (dats m 0 c).arrAt 5 cfg0.N = G5 m c := by
  refine (dats m 0 c).arrAt_eq_of_cover 5 (G5 m c) (fun t _ => flushed5_eq m c t) fun i => ?_
  have h0 : (i 0).val < 8192 := (i 0).isLt
  have h1 : (i 1).val < 6144 := (i 1).isLt
  obtain ⟨t, ht0, ht1⟩ := onto5 ⟨(i 0).val / 1024, by omega⟩ ⟨(i 1).val / 512, by omega⟩
  refine ⟨t, flush0_5 t, ?_⟩
  show i ∈ ((View.whole main_v0_0).slice (win0_5.rect t)).set
  rw [View.set_slice_whole, Rect.mem_set_unit]
  intro a
  match a with
  | ⟨0, _⟩ => show win0_5.index t 0 * 1024 ≤ (i 0).val ∧ (i 0).val < win0_5.index t 0 * 1024 + 1024; rw [ht0]; show (i 0).val / 1024 * 1024 ≤ _ ∧ _ < (i 0).val / 1024 * 1024 + 1024; omega
  | ⟨1, _⟩ => show win0_5.index t 1 * 512 ≤ (i 1).val ∧ (i 1).val < win0_5.index t 1 * 512 + 512; rw [ht1]; show (i 1).val / 512 * 512 ≤ _ ∧ _ < (i 1).val / 512 * 512 + 512; omega

/-- The cast weight's array after the run. -/
theorem final6 (c : Dev nD) : (dats m 0 c).arrAt 6 cfg0.N = G6 m c := by
  refine (dats m 0 c).arrAt_eq_of_cover 6 (G6 m c) (fun t _ => flushed6_eq m c t) fun i => ?_
  have h0 : (i 0).val < 6144 := (i 0).isLt
  have h1 : (i 1).val < 4096 := (i 1).isLt
  obtain ⟨t, ht0, ht1⟩ := onto6 ⟨(i 0).val / 512, by omega⟩ ⟨(i 1).val / 512, by omega⟩
  refine ⟨t, flush0_6 t, ?_⟩
  show i ∈ ((View.whole main_v0_1).slice (win0_6.rect t)).set
  rw [View.set_slice_whole, Rect.mem_set_unit]
  intro a
  match a with
  | ⟨0, _⟩ => show win0_6.index t 0 * 512 ≤ (i 0).val ∧ (i 0).val < win0_6.index t 0 * 512 + 512; rw [ht0]; show (i 0).val / 512 * 512 ≤ _ ∧ _ < (i 0).val / 512 * 512 + 512; omega
  | ⟨1, _⟩ => show win0_6.index t 1 * 512 ≤ (i 1).val ∧ (i 1).val < win0_6.index t 1 * 512 + 512; rw [ht1]; show (i 1).val / 512 * 512 ≤ _ ∧ _ < (i 1).val / 512 * 512 + 512; omega

open Cert.SwiRefIdeal.Read in
/-- The reference's gated product is the same function. -/
theorem ref5 (x0 : Vec Ideal S8192x4096 .bf16) (x1 : Vec Ideal S8192x128 .f32) (x2 x3 : Vec Ideal S4096x6144 .bf16) :
    val_main_v9 (F := Ideal) x0 x1 x2 x3 = gated x0 x1 x2 x3 := by
  funext i
  have h0 : (i 0).val < 8192 := (i 0).isLt
  have h1 : (i 1).val < 6144 := (i 1).isLt
  have hs : val_main_v2 (F := Ideal) x1 i = x1 (ix2 (i 0) ⟨(i 1).val % 128, Nat.mod_lt _ (by decide)⟩) := by
    rw [val_main_v2_apply, val_main_v1_apply, val_main_v0_apply]
    refine congrArg x1 (funext fun a => Fin.ext ?_)
    match a with
    | ⟨0, _⟩ => show (((0 * 8192 + ((i 0).val * 6144 + (i 1).val) / 6144 % 8192) * 1 + 0) * 128 + ((i 0).val * 6144 + (i 1).val) % 128) / 128 = (i 0).val; omega
    | ⟨1, _⟩ => show (((0 * 8192 + ((i 0).val * 6144 + (i 1).val) / 6144 % 8192) * 1 + 0) * 128 + ((i 0).val * 6144 + (i 1).val) % 128) % 128 = (i 1).val % 128; omega
  have pr : ∀ w : Vec Ideal S4096x6144 .bf16, (∑ k : Fin 4096, x0 (lidx_main_v3 i k) * w (ridx_main_v3 i k)) * val_main_v2 (F := Ideal) x1 i = proj x0 x1 w (i 0) (i 1) := fun w => by
    rw [hs]
    unfold proj
    refine congrArg (· * _) (Finset.sum_congr rfl fun k _ => congrArg₂ (· * ·) (congrArg x0 ?_) (congrArg w ?_))
    · funext a
      match a with
      | ⟨0, _⟩ => rfl
      | ⟨1, _⟩ => rfl
    · funext a
      match a with
      | ⟨0, _⟩ => rfl
      | ⟨1, _⟩ => rfl
  have g4 : val_main_v4 (F := Ideal) x0 x1 x2 i = proj x0 x1 x2 (i 0) (i 1) := by
    rw [val_main_v4_apply, val_main_v3_apply]; exact pr x2
  have g6 : val_main_v6 (F := Ideal) x0 x1 x3 i = proj x0 x1 x3 (i 0) (i 1) := by
    rw [val_main_v6_apply, val_main_v5_apply]; exact pr x3
  rw [val_main_v9_apply, val_main_v8_apply, val_main_v7_apply, val_main_call0_v5_apply, val_main_call0_v4_apply, val_main_call0_v3_apply, val_main_call0_v2_apply,
    val_main_call0_v1_apply, val_main_call0_v0_apply, g4, g6]
  show (proj x0 x1 x2 (i 0) (i 1) * Ideal.div (Ideal.ofBits .f32 0x3F800000#32) (Ideal.ofBits .f32 0x3F800000#32 + Ideal.exp (-proj x0 x1 x2 (i 0) (i 1)))) * _ = _
  rw [one_bits]
  rfl

open Cert.SwiRefIdeal.Read in
/-- The reference's cast weight is the same function. -/
theorem ref6 (x4 : Vec Ideal S4x6144x4096 .f32) (i : S6144x4096.Idx) :
    val_main_v12 (F := Ideal) x4 i = x4 (ix3 (3 : Fin 4) (i 0 : Fin 6144) (i 1 : Fin 4096)) := by
  have h0 : (i 0).val < 6144 := (i 0).isLt
  have h1 : (i 1).val < 4096 := (i 1).isLt
  rw [val_main_v12_apply, val_main_v11_apply, val_main_v10_apply]
  show x4 _ = _
  refine congrArg x4 (funext fun a => Fin.ext ?_)
  match a with
  | ⟨0, _⟩ => rfl
  | ⟨1, _⟩ => show ((i 0).val * 4096 + (i 1).val) / 4096 % 6144 = (i 0).val; omega
  | ⟨2, _⟩ => show ((i 0).val * 4096 + (i 1).val) % 4096 = (i 1).val; omega

end Cert.SwiIdeal.RefValue

end
-- ==== Proof.SwiClaim.lean ====
/-
  The gate and up projections' value claim: the kernel's run and the reference's, each ending at the same two functions.
-/
module

public import proofs.«01_k».proof.Defs
public import proofs.«01_k».proof.Proof.SwiValue

@[expose] public section

noncomputable section

namespace Cert.SwiIdeal.RefValue

open Idealize.ShloMosaic Idealize.ShloMosaic.TcCoe Idealize.SL.Sem

/-- The kernel's results are the gated product and the cast weight, and so are the reference's. -/
theorem algebraic : @Cert.algebraic_SwiIdeal_SwiRefIdeal Cert.SwiIdeal.Gen.facts Cert.SwiRefIdeal.Gen.facts := by
  intro m g m' g' _ hag
  refine ⟨fun c => G5 m c, fun c => G6 m c, ?_, ?_⟩
  · exact (θ_run _ _ _).mono (fun _ h c => ⟨(h c).1.trans (final5 m c), (h c).2.1.trans (final6 m c), (h c).2.2⟩) (Cert.SwiIdeal.Value.run_blocks m g)
  · refine (θ_run _ _ _).mono (fun _ h c => ⟨(h c).1.trans ?_, (h c).2.1.trans ?_, (h c).2.2⟩) (Cert.SwiRefIdeal.Value.run (F := Ideal) m' g')
    · obtain ⟨h0, h1, h2, h3, -⟩ := hag c
      refine (Cert.SwiRefIdeal.Read.val_main_v9_eq ..).trans ((ref5 ..).trans ?_)
      exact congr (congr (congr (congrArg gated h0) h1) h2) h3
    · obtain ⟨-, -, -, -, h4⟩ := hag c
      refine (Cert.SwiRefIdeal.Read.val_main_v12_eq ..).trans (funext fun i => (ref6 _ i).trans ?_)
      exact congrFun h4 _

end Cert.SwiIdeal.RefValue

end
-- ==== Proof.Norm.lean ====
/-
  What the two residual calls' value proofs share: a row's sum of squares gathered lane by lane over the column blocks is
  the sum over the row, the product with 1/4096 is the division by 4096, and the pieces of the row scale read at an index.
-/
module

public import proofs.«01_k».proof.Proof.Tiles

@[expose] public section

noncomputable section

namespace Cert.Norm

open Idealize.ShloMosaic Idealize.ShloMosaic.ValueIdx Cert.Tiles

/-- What one block of 512 columns adds to a lane: the squares at the block's four columns on that lane. -/
def part (f : ℕ → EReal) (l : ℕ) : EReal :=
  ((f l * f l + f (128 + l) * f (128 + l)) + f (256 + l) * f (256 + l)) + f (384 + l) * f (384 + l)

/-- A block's part depends on the function at its four columns. -/
theorem part_congr {f g : ℕ → EReal} {l l' : ℕ} (h0 : f l = g l') (h1 : f (128 + l) = g (128 + l')) (h2 : f (256 + l) = g (256 + l'))
    (h3 : f (384 + l) = g (384 + l')) : part f l = part g l' := by
  unfold part
  rw [h0, h1, h2, h3]

/-- A sum over a product of extents, by blocks. -/
theorem sum_blocks (a b : ℕ) (f : ℕ → EReal) : ∑ k : Fin (a * b), f k.val = ∑ p : Fin a, ∑ q : Fin b, f (q.val + b * p.val) := by
  rw [← finProdFinEquiv.sum_comp, Fintype.sum_prod_type]
  rfl

/-- The lanes' totals over the eight column blocks sum to the row's sum of squares. -/
theorem sum_lanes (f : ℕ → EReal) :
    ∑ l : Fin 128, ∑ j ∈ Finset.range 8, part f (512 * j + l.val) = ∑ k : Fin 4096, f k.val * f k.val := by
  simp only [Finset.sum_range]
  rw [sum_blocks 32 128 (fun k => f k * f k), Finset.sum_comm]
  rw [sum_blocks 8 4 (fun p => ∑ q : Fin 128, f (q.val + 128 * p) * f (q.val + 128 * p))]
  refine Finset.sum_congr rfl fun j _ => ?_
  rw [Fin.sum_univ_four, ← Finset.sum_add_distrib, ← Finset.sum_add_distrib, ← Finset.sum_add_distrib]
  refine Finset.sum_congr rfl fun l _ => ?_
  unfold part
  have e : ∀ i : ℕ, l.val + 128 * (i + 4 * j.val) = 128 * i + (512 * j.val + l.val) := fun i => by omega
  show _ = f (l.val + 128 * (0 + 4 * j.val)) * f (l.val + 128 * (0 + 4 * j.val)) + f (l.val + 128 * (1 + 4 * j.val)) * f (l.val + 128 * (1 + 4 * j.val)) + f (l.val + 128 * (2 + 4 * j.val)) * f (l.val + 128 * (2 + 4 * j.val)) + f (l.val + 128 * (3 + 4 * j.val)) * f (l.val + 128 * (3 + 4 * j.val))
  rw [e, e, e, e]
  simp only [Nat.mul_zero, Nat.zero_add]

/-- The word of 1/4096. -/
theorem inv_bits : Ideal.ofBits .f32 0x39800000#32 = (((4096 : ℝ)⁻¹ : ℝ) : EReal) := by
  simp [Ideal.ofBits, Ideal.ieee, -EReal.coe_mul]; norm_num

/-- The word of 4096. -/
theorem width_bits : Ideal.ofBits .f32 0x45800000#32 = ((4096 : ℝ) : EReal) := by
  simp [Ideal.ofBits, Ideal.ieee, -EReal.coe_mul]; norm_num

/-- The product with 1/4096 is the division by 4096. -/
theorem mean_eq (s : EReal) : s * Ideal.ofBits .f32 0x39800000#32 = Ideal.div s (Ideal.ofBits .f32 0x45800000#32) := by
  rw [inv_bits, width_bits]
  unfold Ideal.div
  rw [if_neg (by norm_num), EReal.coe_inv]

/-- The row scale: the reciprocal root of a mean of squares and the constant that keeps it from zero. -/
def scale (s : EReal) : EReal := Ideal.rsqrt (Ideal.div s (Ideal.ofBits .f32 0x45800000#32) + Ideal.ofBits .f32 0x3727C5AC#32)

/-- A lane slice of 256 columns read at an index. -/
theorem lane_apply (o : ℕ) (hs : (⟨2, ![1024, 256]⟩ : Shape).Slices ![0, o] ⟨2, ![1024, 128]⟩) (v : FVec Ideal ⟨2, ![1024, 256]⟩ .f32)
    (x : (⟨2, ![1024, 128]⟩ : Shape).Idx) (hb : o + (x 1).val < 256) :
    extractStridedSlice ⟨2, ![1024, 128]⟩ ![0, o] v hs x = v (ix2 (x 0 : Fin 1024) (⟨o + (x 1).val, hb⟩ : Fin 256)) :=
  extractStridedSlice_apply _ _ hs x _ fun a => by
    match a with
    | ⟨0, _⟩ => show (x 0).val = 0 + (x 0).val; omega
    | ⟨1, _⟩ => rfl

/-- A row of gains, repeated over the rows, read at an index. -/
theorem gain_apply (h1 : (⟨3, ![1, 1, 256]⟩ : Shape).ShapeCasts ⟨2, ![1, 256]⟩) (h2 : (⟨2, ![1, 256]⟩ : Shape).Broadcasts ⟨2, ![1024, 256]⟩)
    (v : FVec Ideal ⟨3, ![1, 1, 256]⟩ .f32) (x : (⟨2, ![1024, 256]⟩ : Shape).Idx) :
    broadcastTo ⟨2, ![1024, 256]⟩ (shapeCast ⟨2, ![1, 256]⟩ v h1) h2 x = v (ix3 (0 : Fin 1) (0 : Fin 1) (x 1 : Fin 256)) := by
  rw [broadcastTo_apply _ h2 x (ix2 (0 : Fin 1) (x 1 : Fin 256)) (fun a => by
    match a with
    | ⟨0, _⟩ => rfl
    | ⟨1, _⟩ => rfl)]
  rw [shapeCast_apply _ h1 _ (ix3 (0 : Fin 1) (0 : Fin 1) (x 1 : Fin 256)) (by
    rw [Shape.rowMajor_val_three, Shape.rowMajor_val_two]
    rfl)]

/-- The row scale the last column block stores, from the lanes' totals. -/
theorem scale_apply (h1 : (⟨2, ![1024, 128]⟩ : Shape).Reduces [1] ⟨1, ![1024]⟩) (hφ : FKind.Formats .f32) (hn : (0x00000000#32 : BitVec 32) = FKind.add.neutral .f32 hφ)
    (h2 : (⟨1, ![1024]⟩ : Shape).ShapeCasts ⟨2, ![1024, 1]⟩) (h3 : (⟨2, ![1024, 1]⟩ : Shape).ShapeCasts ⟨2, ![1024, 1]⟩)
    (h4 : (⟨2, ![1024, 1]⟩ : Shape).Broadcasts ⟨2, ![1024, 128]⟩) (v : FVec Ideal ⟨2, ![1024, 128]⟩ .f32) (x : (⟨2, ![1024, 128]⟩ : Shape).Idx) :
    broadcastTo ⟨2, ![1024, 128]⟩ (shapeCast ⟨2, ![1024, 1]⟩ (rsqrt (addf (mulf (shapeCast ⟨2, ![1024, 1]⟩ (multiReduction .add [1] ⟨1, ![1024]⟩ v 0x00000000#32 h1 hφ hn) h2)
      (broadcast ⟨2, ![1024, 1]⟩ (Scalar.ofBits (F := Ideal) .f32 0x39800000#32))) (broadcast ⟨2, ![1024, 1]⟩ (Scalar.ofBits (F := Ideal) .f32 0x3727C5AC#32)))) h3) h4 x
      = scale (∑ l : Fin 128, v (ix2 (x 0 : Fin 1024) l)) := by
  rw [broadcastTo_apply _ h4 x (ix2 (x 0 : Fin 1024) (0 : Fin 1)) (fun a => by
    match a with
    | ⟨0, _⟩ => rfl
    | ⟨1, _⟩ => rfl), shapeCast_self]
  have e : multiReduction .add [1] ⟨1, ![1024]⟩ v 0x00000000#32 h1 hφ hn (ix1 (x 0 : Fin 1024)) = ∑ l : Fin 128, v (ix2 (x 0 : Fin 1024) l) := by
    refine (Ideal.multiReduction_add_single v _ h1 hφ hn _).trans (Finset.sum_congr rfl fun l _ => congrArg v (funext fun a => ?_))
    match a with
    | ⟨0, _⟩ => rfl
    | ⟨1, _⟩ => rfl
  show Ideal.rsqrt (shapeCast ⟨2, ![1024, 1]⟩ (multiReduction .add [1] ⟨1, ![1024]⟩ v 0x00000000#32 h1 hφ hn) h2 (ix2 (x 0 : Fin 1024) (0 : Fin 1)) * Ideal.ofBits .f32 0x39800000#32 + Ideal.ofBits .f32 0x3727C5AC#32) = _
  rw [shapeCast_apply _ h2 _ (ix1 (x 0 : Fin 1024)) (by
    rw [Shape.rowMajor_val_one, Shape.rowMajor_val_two]
    show (x 0).val = (x 0).val * 1 + 0
    omega), e, mean_eq]
  rfl

end Cert.Norm

end
-- ==== Proof.ResValue.lean ====
/-
  The down projection with its residual, the gained copy and the row scale: what each grid point's blocks hold, the lanes' running
  sums of squares over the column blocks, the whole arrays after the run, and the reference's read the same way.
-/
module

public import proofs.«01_k».proof.Proof.Norm
public import proofs.«01_k».proof.Proof.Gen.ResIdeal.Value
public import proofs.«01_k».proof.Proof.Gen.ResRefIdeal.Read

@[expose] public section

noncomputable section

namespace Cert.ResIdeal.RefValue

open Cert.ResIdeal Cert.ResIdeal.Gen Cert.Tiles Cert.Norm Idealize.ShloMosaic Idealize.ShloMosaic.ValueIdx Idealize.ShloMosaic.TcCoe Idealize.SL.Sem
open Idealize.ShloMosaic.Pipeline (Dat)

/-- The residual plus half the down projection, at a row and a column. -/
def res {R C : ℕ} (h : FVec Ideal ⟨2, ![R, 6144]⟩ .bf16) (d : FVec Ideal ⟨2, ![6144, C]⟩ .bf16) (x : FVec Ideal ⟨2, ![R, C]⟩ .f32)
    (r : Fin R) (j : Fin C) : EReal :=
  x (ix2 r j) + Ideal.ofBits .f32 0x3F000000#32 * ∑ k : Fin 6144, h (ix2 r k) * d (ix2 k j)

/-- The same over the naturals, nothing off the row. -/
def resN {R C : ℕ} (h : FVec Ideal ⟨2, ![R, 6144]⟩ .bf16) (d : FVec Ideal ⟨2, ![6144, C]⟩ .bf16) (x : FVec Ideal ⟨2, ![R, C]⟩ .f32)
    (r : Fin R) (j : ℕ) : EReal :=
  if hj : j < C then res h d x r ⟨j, hj⟩ else 0

/-- On the row it is the same function. -/
theorem resN_eq {R C : ℕ} (h : FVec Ideal ⟨2, ![R, 6144]⟩ .bf16) (d : FVec Ideal ⟨2, ![6144, C]⟩ .bf16) (x : FVec Ideal ⟨2, ![R, C]⟩ .f32)
    (r : Fin R) (j : ℕ) (hj : j < C) : resN h d x r j = res h d x r ⟨j, hj⟩ := dif_pos hj

/-- A whole-block load is the block. -/
theorem ld_h (x : Vec Ideal S1024x6144 .bf16) :
    View.ld (Val := Elt Ideal) (e' := EltTy.bf16) x (Rect.unit (s := S1024x6144) ![0, 0] ![1024, 6144] inb_S1024x6144_S1024x6144_0_0) = x :=
  View.ld_unit_zero (S := S1024x6144) hz2 _ _

/-- A whole-block load of the lanes' sums is the block. -/
theorem ld_s (x : Vec Ideal S1024x128 .f32) :
    View.ld (Val := Elt Ideal) (e' := EltTy.f32) x (Rect.unit (s := S1024x128) ![0, 0] ![1024, 128] inb_S1024x128_S1024x128_0_0) = x :=
  View.ld_unit_zero (S := S1024x128) hz2 _ _

/-- A 256-column chunk's value at an index. -/
theorem chunk (x0 : FVec Ideal S1024x6144 .bf16) (x1 : FVec Ideal S6144x512 .bf16) (x2 : FVec Ideal S1024x512 .f32) (b : ℕ)
    (inb1 : ∀ a : Fin 2, ![0, b] a + ![6144, 256] a ≤ S6144x512.size a) (inb2 : ∀ a : Fin 2, ![0, b] a + ![1024, 256] a ≤ S1024x512.size a)
    (x : S1024x256.Idx) (r : Fin 1024) (j : Fin 512) (hr : r.val = (x 0).val) (hj : j.val = b + (x 1).val) :
    k0_pay6 (F := Ideal) (View.ld (Val := Elt Ideal) (e' := EltTy.bf16) x0 (Rect.unit (s := S1024x6144) ![0, 0] ![1024, 6144] inb_S1024x6144_S1024x6144_0_0)) (View.ld (Val := Elt Ideal) (e' := EltTy.bf16) x1 (Rect.unit (s := S6144x512) ![0, b] ![6144, 256] inb1))
      (View.ld (Val := Elt Ideal) (e' := EltTy.f32) x2 (Rect.unit (s := S1024x512) ![0, b] ![1024, 256] inb2)) x = res x0 x1 x2 r j := by
  rw [ld_h]
  have hm := mm_apply (φ₁ := .bf16) (φ₂ := .bf16) dot_S1024x6144_S6144x256_S1024x256_1_0_0_1_n_n rfl none x0 (View.ld (Val := Elt Ideal) (e' := EltTy.bf16) x1 (Rect.unit (s := S6144x512) ![0, b] ![6144, 256] inb1)) x
  unfold res
  refine congrArg₂ (· + ·) ?_ (congrArg (_ * ·) (hm.trans (Finset.sum_congr rfl fun k _ => congrArg₂ (· * ·) ?_ ?_)))
  · show x2 _ = x2 _
    refine congrArg x2 (funext fun a => Fin.ext ?_)
    match a with
    | ⟨0, _⟩ => show 0 + 1 * (x 0).val = r.val; omega
    | ⟨1, _⟩ => show b + 1 * (x 1).val = j.val; omega
  · refine congrArg x0 (funext fun a => Fin.ext ?_)
    match a with
    | ⟨0, _⟩ => exact hr.symm
    | ⟨1, _⟩ => rfl
  · show x1 _ = x1 _
    refine congrArg x1 (funext fun a => Fin.ext ?_)
    match a with
    | ⟨0, _⟩ => show 0 + 1 * k.val = k.val; omega
    | ⟨1, _⟩ => show b + 1 * (x 1).val = j.val; omega

/-- The second chunk's payload is the first's. -/
theorem pay9_eq (v0 : FVec Ideal S1024x6144 .bf16) (v1 : FVec Ideal S6144x256 .bf16) (v5 : FVec Ideal S1024x256 .f32) :
    k0_pay9 (F := Ideal) v0 v1 v5 = k0_pay6 (F := Ideal) v0 v1 v5 := rfl

/-- The gained copy's payload is the value times the gain. -/
theorem pay1_eq (v : FVec Ideal S1024x256 .f32) (g : FVec Ideal S1x1x256 .f32) (x : S1024x256.Idx) :
    k0_pay1 (F := Ideal) v g x = v x * g (ix3 (0 : Fin 1) (0 : Fin 1) (x 1 : Fin 256)) :=
  congrArg (v x * ·) (gain_apply shapeCasts_S1x1x256_S1x256 broadcasts_S1x256_S1024x256 g x)

/-- The first chunk's gained copy. -/
theorem pay7_eq (v0 : FVec Ideal S1024x6144 .bf16) (v1 : FVec Ideal S6144x256 .bf16) (v5 : FVec Ideal S1024x256 .f32) (g : FVec Ideal S1x1x256 .f32) (x : S1024x256.Idx) :
    k0_pay7 (F := Ideal) v0 v1 v5 g x = k0_pay6 (F := Ideal) v0 v1 v5 x * g (ix3 (0 : Fin 1) (0 : Fin 1) (x 1 : Fin 256)) :=
  congrArg (k0_pay6 (F := Ideal) v0 v1 v5 x * ·) (gain_apply shapeCasts_S1x1x256_S1x256 broadcasts_S1x256_S1024x256 g x)

/-- The first chunk's squares, lane by lane. -/
theorem pay8_eq (v0 : FVec Ideal S1024x6144 .bf16) (v1 : FVec Ideal S6144x256 .bf16) (v5 : FVec Ideal S1024x256 .f32) (x : S1024x128.Idx) :
    k0_pay8 (F := Ideal) v0 v1 v5 x
      = extractStridedSlice S1024x128 ![0, 0] (k0_pay6 (F := Ideal) v0 v1 v5) slices_S1024x256_o0_0_S1024x128 x * extractStridedSlice S1024x128 ![0, 0] (k0_pay6 (F := Ideal) v0 v1 v5) slices_S1024x256_o0_0_S1024x128 x
        + extractStridedSlice S1024x128 ![0, 128] (k0_pay6 (F := Ideal) v0 v1 v5) slices_S1024x256_o0_128_S1024x128 x * extractStridedSlice S1024x128 ![0, 128] (k0_pay6 (F := Ideal) v0 v1 v5) slices_S1024x256_o0_128_S1024x128 x := rfl

/-- The second chunk's squares added, lane by lane. -/
theorem pay2_eq (v : FVec Ideal S1024x128 .f32) (w : FVec Ideal S1024x256 .f32) (x : S1024x128.Idx) :
    k0_pay2 (F := Ideal) v w x
      = (v x + extractStridedSlice S1024x128 ![0, 0] w slices_S1024x256_o0_0_S1024x128 x * extractStridedSlice S1024x128 ![0, 0] w slices_S1024x256_o0_0_S1024x128 x)
        + extractStridedSlice S1024x128 ![0, 128] w slices_S1024x256_o0_128_S1024x128 x * extractStridedSlice S1024x128 ![0, 128] w slices_S1024x256_o0_128_S1024x128 x := rfl

/-- The row scale's payload, from the lanes' totals. -/
theorem pay5_eq (v : FVec Ideal S1024x128 .f32) (x : S1024x128.Idx) :
    k0_pay5 (F := Ideal) v x = scale (∑ l : Fin 128, v (ix2 (x 0 : Fin 1024) l)) :=
  scale_apply reduces_S1024x128_S1024 _ _ shapeCasts_S1024_S1024x1 shapeCasts_S1024x1_S1024x1 broadcasts_S1024x1_S1024x128 v x

/-- The first column block stores its part. -/
theorem pay3_eq (v : FVec Ideal S1024x128 .f32) (w : FVec Ideal S1024x256 .f32) : k0_pay3 (F := Ideal) v w = k0_pay2 (F := Ideal) v w :=
  shapeCast_self ..

/-- The later column blocks add theirs to what the lanes held. -/
theorem pay4_eq (v : FVec Ideal S1024x128 .f32) (w : FVec Ideal S1024x256 .f32) (a : FVec Ideal S1024x128 .f32) :
    k0_pay4 (F := Ideal) v w a = fun x => a x + k0_pay2 (F := Ideal) v w x :=
  shapeCast_self ..

/-- The block's part of the lanes' sums. -/
theorem part_apply (x0 : FVec Ideal S1024x6144 .bf16) (x1 : FVec Ideal S6144x512 .bf16) (x2 : FVec Ideal S1024x512 .f32)
    (a1 : ∀ a : Fin 2, ![0, 0] a + ![6144, 256] a ≤ S6144x512.size a) (a2 : ∀ a : Fin 2, ![0, 0] a + ![1024, 256] a ≤ S1024x512.size a)
    (b1 : ∀ a : Fin 2, ![0, 256] a + ![6144, 256] a ≤ S6144x512.size a) (b2 : ∀ a : Fin 2, ![0, 256] a + ![1024, 256] a ≤ S1024x512.size a) (x : S1024x128.Idx) :
    k0_pay2 (F := Ideal) (k0_pay8 (F := Ideal) (View.ld (Val := Elt Ideal) (e' := EltTy.bf16) x0 (Rect.unit (s := S1024x6144) ![0, 0] ![1024, 6144] inb_S1024x6144_S1024x6144_0_0)) (View.ld (Val := Elt Ideal) (e' := EltTy.bf16) x1 (Rect.unit (s := S6144x512) ![0, 0] ![6144, 256] a1)) (View.ld (Val := Elt Ideal) (e' := EltTy.f32) x2 (Rect.unit (s := S1024x512) ![0, 0] ![1024, 256] a2)))
      (k0_pay9 (F := Ideal) (View.ld (Val := Elt Ideal) (e' := EltTy.bf16) x0 (Rect.unit (s := S1024x6144) ![0, 0] ![1024, 6144] inb_S1024x6144_S1024x6144_0_0)) (View.ld (Val := Elt Ideal) (e' := EltTy.bf16) x1 (Rect.unit (s := S6144x512) ![0, 256] ![6144, 256] b1)) (View.ld (Val := Elt Ideal) (e' := EltTy.f32) x2 (Rect.unit (s := S1024x512) ![0, 256] ![1024, 256] b2))) x
      = part (resN x0 x1 x2 (x 0)) (x 1).val := by
  have h1 : (x 1).val < 128 := (x 1).isLt
  rw [pay2_eq, pay8_eq, pay9_eq]
  have e : ∀ (o b : ℕ) (hs : S1024x256.Slices ![0, o] S1024x128) (ho : o + 128 ≤ 256) (hob : b + o + 128 ≤ 512)
      (i1 : ∀ a : Fin 2, ![0, b] a + ![6144, 256] a ≤ S6144x512.size a) (i2 : ∀ a : Fin 2, ![0, b] a + ![1024, 256] a ≤ S1024x512.size a),
      extractStridedSlice S1024x128 ![0, o] (k0_pay6 (F := Ideal) (View.ld (Val := Elt Ideal) (e' := EltTy.bf16) x0 (Rect.unit (s := S1024x6144) ![0, 0] ![1024, 6144] inb_S1024x6144_S1024x6144_0_0)) (View.ld (Val := Elt Ideal) (e' := EltTy.bf16) x1 (Rect.unit (s := S6144x512) ![0, b] ![6144, 256] i1)) (View.ld (Val := Elt Ideal) (e' := EltTy.f32) x2 (Rect.unit (s := S1024x512) ![0, b] ![1024, 256] i2))) hs x
        = resN x0 x1 x2 (x 0) (b + o + (x 1).val) := fun o b hs ho hob i1 i2 => by
    refine Eq.trans ?_ (resN_eq _ _ _ _ _ (by omega)).symm
    refine (lane_apply o hs _ x (by omega)).trans ?_
    exact chunk x0 x1 x2 b i1 i2 _ _ _ rfl (Nat.add_assoc b o _)
  rw [e 0 0 _ (by decide) (by decide), e 128 0 _ (by decide) (by decide), e 0 256 _ (by decide) (by decide), e 128 256 _ (by decide) (by decide)]
  unfold part
  simp only [Nat.zero_add, Nat.add_zero]

/-- The lanes' sums after a later column block's store. -/
theorem acc_canon (x0 : FVec Ideal S1024x6144 .bf16) (x1 : FVec Ideal S6144x512 .bf16) (x2 : FVec Ideal S1024x512 .f32) (xs0 : FVec Ideal S1024x128 .f32) (y : S1024x128.Idx) :
    View.canon (Val := Elt Ideal) (e := .f32) (s := S1024x128) [⟨Rect.unit (s := S1024x128) ![0, 0] ![1024, 128] inb_S1024x128_S1024x128_0_0,
      k0_pay4 (F := Ideal) (k0_pay8 (F := Ideal) (View.ld (Val := Elt Ideal) (e' := EltTy.bf16) x0 (Rect.unit (s := S1024x6144) ![0, 0] ![1024, 6144] inb_S1024x6144_S1024x6144_0_0)) (View.ld (Val := Elt Ideal) (e' := EltTy.bf16) x1 (Rect.unit (s := S6144x512) ![0, 0] ![6144, 256] inb_S6144x512_S6144x256_0_0)) (View.ld (Val := Elt Ideal) (e' := EltTy.f32) x2 (Rect.unit (s := S1024x512) ![0, 0] ![1024, 256] inb_S1024x512_S1024x256_0_0))) (k0_pay9 (F := Ideal) (View.ld (Val := Elt Ideal) (e' := EltTy.bf16) x0 (Rect.unit (s := S1024x6144) ![0, 0] ![1024, 6144] inb_S1024x6144_S1024x6144_0_0)) (View.ld (Val := Elt Ideal) (e' := EltTy.bf16) x1 (Rect.unit (s := S6144x512) ![0, 256] ![6144, 256] inb_S6144x512_S6144x256_0_256)) (View.ld (Val := Elt Ideal) (e' := EltTy.f32) x2 (Rect.unit (s := S1024x512) ![0, 256] ![1024, 256] inb_S1024x512_S1024x256_0_256)))
        (View.ld (Val := Elt Ideal) (e' := EltTy.f32) xs0 (Rect.unit (s := S1024x128) ![0, 0] ![1024, 128] inb_S1024x128_S1024x128_0_0))⟩] y
      = xs0 y + part (resN (R := 1024) (C := 512) x0 x1 x2 (y 0)) (y 1).val := by
  refine View.canon_apply_of_pieces (Val := Elt Ideal) (e := .f32) (S := S1024x128) (fun y => xs0 y + part (resN (R := 1024) (C := 512) x0 x1 x2 (y 0)) (y 1).val) _ ?_ y ?_
  · intro pc hpc
    rcases List.mem_cons.mp hpc with rfl | hpc
    · intro x
      have hx : (Rect.unit (s := S1024x128) ![0, 0] ![1024, 128] inb_S1024x128_S1024x128_0_0).emb x = x := funext fun a => Fin.ext (by
        match a with
        | ⟨0, _⟩ => show 0 + 1 * (x 0).val = (x 0).val; omega
        | ⟨1, _⟩ => show 0 + 1 * (x 1).val = (x 1).val; omega)
      refine Eq.trans ?_ (congrArg (fun y : S1024x128.Idx => xs0 y + part (resN (R := 1024) (C := 512) x0 x1 x2 (y 0)) (y 1).val) hx.symm)
      exact (congrFun (pay4_eq ..) x).trans (congrArg₂ (· + ·) (congrFun (ld_s xs0) x) (part_apply x0 x1 x2 _ _ _ _ x))
    nomatch hpc
  · exact View.cover_of_tiledL _ S1024x128.size (by sl_kernel_rfl) y

section Points

set_option maxRecDepth 16384

variable (c : Dev nD) (i : grid0.Coords) (arg2 : Memref sig .tc .vmem S1024x6144 .bf16) (harg2 : arg2.IsWhole) (arg3 : Memref sig .tc .vmem S6144x512 .bf16) (harg3 : arg3.IsWhole) (arg4 : Memref sig .tc .vmem S1024x512 .f32) (harg4 : arg4.IsWhole) (arg5 : Memref sig .tc .vmem S1x1x512 .f32) (harg5 : arg5.IsWhole) (arg6 : Memref sig .tc .vmem S1024x512 .f32) (harg6 : arg6.IsWhole) (arg7 : Memref sig .tc .vmem S1024x512 .bf16) (harg7 : arg7.IsWhole) (arg8 : Memref sig .tc .vmem S1024x128 .f32) (harg8 : arg8.IsWhole) (arg9 : Memref sig .tc .vmem S1024x128 .f32) (harg9 : arg9.IsWhole)
    (x0 : Vec Ideal S1024x6144 .bf16) (x1 : Vec Ideal S6144x512 .bf16) (x2 : Vec Ideal S1024x512 .f32) (x3 : Vec Ideal S1x1x512 .f32) (xs0 : Vec Ideal S1024x128 .f32)

/-- The value block a point of case A leaves. -/
theorem out4_A (hc0 : cond0_0 i) (hc1 : ¬cond0_1 i) (hc2 : ¬cond0_2 i) (y : S1024x512.Idx) :
    out0_A_4 (F := Ideal) c i arg2 harg2 arg3 harg3 arg4 harg4 arg5 harg5 arg6 harg6 arg7 harg7 arg8 harg8 arg9 harg9 hc0 hc1 hc2 x0 x1 x2 x3 y = res (R := 1024) (C := 512) x0 x1 x2 (y 0) (y 1) := by
  unfold out0_A_4
  unfold kernelRun0_A
  dsimp only
  sl_unfold_words
  simp only [View.readAt_eq_ld, Memref.IsWhole.read_unread]
  rw [View.read_writes_junk_apply_eq_canon]
  refine View.canon_apply_of_pieces (Val := Elt Ideal) (e := .f32) (S := S1024x512) (fun y => res (R := 1024) (C := 512) x0 x1 x2 (y 0) (y 1)) _ ?_ y ?_
  · intro pc hpc
    rcases List.mem_cons.mp hpc with rfl | hpc
    · intro x
      exact (congrFun (pay9_eq ..) x).trans (chunk x0 x1 x2 256 _ _ x _ _ (by show 0 + 1 * (x 0).val = _; omega) (by show 256 + 1 * (x 1).val = _; omega))
    rcases List.mem_cons.mp hpc with rfl | hpc
    · intro x
      exact chunk x0 x1 x2 0 _ _ x _ _ (by show 0 + 1 * (x 0).val = _; omega) (by show 0 + 1 * (x 1).val = _; omega)
    nomatch hpc
  · exact View.cover_of_tiledL (s := S1024x512) _ S1024x256.size (by sl_kernel_rfl) y

/-- The gained block a point of case A leaves. -/
theorem out5_A (hc0 : cond0_0 i) (hc1 : ¬cond0_1 i) (hc2 : ¬cond0_2 i) (y : S1024x512.Idx) :
    out0_A_5 (F := Ideal) c i arg2 harg2 arg3 harg3 arg4 harg4 arg5 harg5 arg6 harg6 arg7 harg7 arg8 harg8 arg9 harg9 hc0 hc1 hc2 x0 x1 x2 x3 y = res (R := 1024) (C := 512) x0 x1 x2 (y 0) (y 1) * x3 (ix3 (0 : Fin 1) (0 : Fin 1) (y 1 : Fin 512)) := by
  unfold out0_A_5
  unfold kernelRun0_A
  dsimp only
  sl_unfold_words
  simp only [View.readAt_eq_ld, Memref.IsWhole.read_unread]
  rw [View.read_writes_junk_apply_eq_canon]
  refine View.canon_apply_of_pieces (Val := Elt Ideal) (e := .bf16) (S := S1024x512) (fun y => res (R := 1024) (C := 512) x0 x1 x2 (y 0) (y 1) * x3 (ix3 (0 : Fin 1) (0 : Fin 1) (y 1 : Fin 512))) _ ?_ y ?_
  · intro pc hpc
    rcases List.mem_cons.mp hpc with rfl | hpc
    · intro x
      refine (pay1_eq _ _ x).trans (congrArg₂ (· * ·) ((congrFun (pay9_eq ..) x).trans (chunk x0 x1 x2 256 _ _ x _ _ (by show 0 + 1 * (x 0).val = _; omega) (by show 256 + 1 * (x 1).val = _; omega))) ?_)
      show x3 _ = x3 _
      refine congrArg x3 (funext fun a => Fin.ext ?_)
      match a with
      | ⟨0, _⟩ => rfl
      | ⟨1, _⟩ => rfl
      | ⟨2, _⟩ => rfl
    rcases List.mem_cons.mp hpc with rfl | hpc
    · intro x
      refine (pay7_eq _ _ _ _ x).trans (congrArg₂ (· * ·) (chunk x0 x1 x2 0 _ _ x _ _ (by show 0 + 1 * (x 0).val = _; omega) (by show 0 + 1 * (x 1).val = _; omega)) ?_)
      show x3 _ = x3 _
      refine congrArg x3 (funext fun a => Fin.ext ?_)
      match a with
      | ⟨0, _⟩ => rfl
      | ⟨1, _⟩ => rfl
      | ⟨2, _⟩ => rfl
    nomatch hpc
  · exact View.cover_of_tiledL (s := S1024x512) _ S1024x256.size (by sl_kernel_rfl) y

/-- The lanes' sums a point of case A leaves. -/
theorem sout_A (hc0 : cond0_0 i) (hc1 : ¬cond0_1 i) (hc2 : ¬cond0_2 i) (y : S1024x128.Idx) :
    sout0_A_0 (F := Ideal) c i arg2 harg2 arg3 harg3 arg4 harg4 arg5 harg5 arg6 harg6 arg7 harg7 arg8 harg8 arg9 harg9 hc0 hc1 hc2 x0 x1 x2 x3 y = part (resN (R := 1024) (C := 512) x0 x1 x2 (y 0)) (y 1).val := by
  unfold sout0_A_0
  unfold kernelRun0_A
  dsimp only
  sl_unfold_words
  simp only [View.readAt_eq_ld, Memref.IsWhole.read_unread]
  rw [View.read_writes_junk_apply_eq_canon]
  refine View.canon_apply_of_pieces (Val := Elt Ideal) (e := .f32) (S := S1024x128) (fun y => part (resN (R := 1024) (C := 512) x0 x1 x2 (y 0)) (y 1).val) _ ?_ y ?_
  · intro pc hpc
    rcases List.mem_cons.mp hpc with rfl | hpc
    · intro x
      have hx : (Rect.unit (s := S1024x128) ![0, 0] ![1024, 128] inb_S1024x128_S1024x128_0_0).emb x = x := funext fun a => Fin.ext (by
        match a with
        | ⟨0, _⟩ => show 0 + 1 * (x 0).val = (x 0).val; omega
        | ⟨1, _⟩ => show 0 + 1 * (x 1).val = (x 1).val; omega)
      refine Eq.trans ?_ (congrArg (fun y : S1024x128.Idx => part (resN (R := 1024) (C := 512) x0 x1 x2 (y 0)) (y 1).val) hx.symm)
      exact (congrFun (pay3_eq ..) x).trans (part_apply x0 x1 x2 _ _ _ _ x)
    nomatch hpc
  · exact View.cover_of_tiledL _ S1024x128.size (by sl_kernel_rfl) y

/-- The value block a point of case B leaves. -/
theorem out4_B (hc0 : ¬cond0_0 i) (hc1 : cond0_1 i) (hc2 : ¬cond0_2 i) (y : S1024x512.Idx) :
    out0_B_4 (F := Ideal) c i arg2 harg2 arg3 harg3 arg4 harg4 arg5 harg5 arg6 harg6 arg7 harg7 arg8 harg8 arg9 harg9 hc0 hc1 hc2 x0 x1 x2 x3 xs0 y = res (R := 1024) (C := 512) x0 x1 x2 (y 0) (y 1) := by
  unfold out0_B_4
  unfold kernelRun0_B
  dsimp only
  sl_unfold_words
  simp only [View.readAt_eq_ld, Memref.IsWhole.read_unread]
  rw [View.read_writes_junk_apply_eq_canon]
  refine View.canon_apply_of_pieces (Val := Elt Ideal) (e := .f32) (S := S1024x512) (fun y => res (R := 1024) (C := 512) x0 x1 x2 (y 0) (y 1)) _ ?_ y ?_
  · intro pc hpc
    rcases List.mem_cons.mp hpc with rfl | hpc
    · intro x
      exact (congrFun (pay9_eq ..) x).trans (chunk x0 x1 x2 256 _ _ x _ _ (by show 0 + 1 * (x 0).val = _; omega) (by show 256 + 1 * (x 1).val = _; omega))
    rcases List.mem_cons.mp hpc with rfl | hpc
    · intro x
      exact chunk x0 x1 x2 0 _ _ x _ _ (by show 0 + 1 * (x 0).val = _; omega) (by show 0 + 1 * (x 1).val = _; omega)
    nomatch hpc
  · exact View.cover_of_tiledL (s := S1024x512) _ S1024x256.size (by sl_kernel_rfl) y

/-- The gained block a point of case B leaves. -/
theorem out5_B (hc0 : ¬cond0_0 i) (hc1 : cond0_1 i) (hc2 : ¬cond0_2 i) (y : S1024x512.Idx) :
    out0_B_5 (F := Ideal) c i arg2 harg2 arg3 harg3 arg4 harg4 arg5 harg5 arg6 harg6 arg7 harg7 arg8 harg8 arg9 harg9 hc0 hc1 hc2 x0 x1 x2 x3 xs0 y = res (R := 1024) (C := 512) x0 x1 x2 (y 0) (y 1) * x3 (ix3 (0 : Fin 1) (0 : Fin 1) (y 1 : Fin 512)) := by
  unfold out0_B_5
  unfold kernelRun0_B
  dsimp only
  sl_unfold_words
  simp only [View.readAt_eq_ld, Memref.IsWhole.read_unread]
  rw [View.read_writes_junk_apply_eq_canon]
  refine View.canon_apply_of_pieces (Val := Elt Ideal) (e := .bf16) (S := S1024x512) (fun y => res (R := 1024) (C := 512) x0 x1 x2 (y 0) (y 1) * x3 (ix3 (0 : Fin 1) (0 : Fin 1) (y 1 : Fin 512))) _ ?_ y ?_
  · intro pc hpc
    rcases List.mem_cons.mp hpc with rfl | hpc
    · intro x
      refine (pay1_eq _ _ x).trans (congrArg₂ (· * ·) ((congrFun (pay9_eq ..) x).trans (chunk x0 x1 x2 256 _ _ x _ _ (by show 0 + 1 * (x 0).val = _; omega) (by show 256 + 1 * (x 1).val = _; omega))) ?_)
      show x3 _ = x3 _
      refine congrArg x3 (funext fun a => Fin.ext ?_)
      match a with
      | ⟨0, _⟩ => rfl
      | ⟨1, _⟩ => rfl
      | ⟨2, _⟩ => rfl
    rcases List.mem_cons.mp hpc with rfl | hpc
    · intro x
      refine (pay7_eq _ _ _ _ x).trans (congrArg₂ (· * ·) (chunk x0 x1 x2 0 _ _ x _ _ (by show 0 + 1 * (x 0).val = _; omega) (by show 0 + 1 * (x 1).val = _; omega)) ?_)
      show x3 _ = x3 _
      refine congrArg x3 (funext fun a => Fin.ext ?_)
      match a with
      | ⟨0, _⟩ => rfl
      | ⟨1, _⟩ => rfl
      | ⟨2, _⟩ => rfl
    nomatch hpc
  · exact View.cover_of_tiledL (s := S1024x512) _ S1024x256.size (by sl_kernel_rfl) y

/-- The lanes' sums a point of case B leaves. -/
theorem sout_B (hc0 : ¬cond0_0 i) (hc1 : cond0_1 i) (hc2 : ¬cond0_2 i) (y : S1024x128.Idx) :
    sout0_B_0 (F := Ideal) c i arg2 harg2 arg3 harg3 arg4 harg4 arg5 harg5 arg6 harg6 arg7 harg7 arg8 harg8 arg9 harg9 hc0 hc1 hc2 x0 x1 x2 x3 xs0 y = xs0 y + part (resN (R := 1024) (C := 512) x0 x1 x2 (y 0)) (y 1).val := by
  unfold sout0_B_0
  unfold kernelRun0_B
  dsimp only
  sl_unfold_words
  simp only [View.readAt_eq_ld, Memref.IsWhole.read_unread]
  rw [View.read_writes_junk_apply_eq_canon]
  refine View.canon_apply_of_pieces (Val := Elt Ideal) (e := .f32) (S := S1024x128) (fun y => xs0 y + part (resN (R := 1024) (C := 512) x0 x1 x2 (y 0)) (y 1).val) _ ?_ y ?_
  · intro pc hpc
    rcases List.mem_cons.mp hpc with rfl | hpc
    · intro x
      have hx : (Rect.unit (s := S1024x128) ![0, 0] ![1024, 128] inb_S1024x128_S1024x128_0_0).emb x = x := funext fun a => Fin.ext (by
        match a with
        | ⟨0, _⟩ => show 0 + 1 * (x 0).val = (x 0).val; omega
        | ⟨1, _⟩ => show 0 + 1 * (x 1).val = (x 1).val; omega)
      refine Eq.trans ?_ (congrArg (fun y : S1024x128.Idx => xs0 y + part (resN (R := 1024) (C := 512) x0 x1 x2 (y 0)) (y 1).val) hx.symm)
      refine (congrFun (pay4_eq ..) x).trans (congrArg₂ (· + ·) (congrFun (ld_s xs0) x) (part_apply x0 x1 x2 _ _ _ _ x))
    nomatch hpc
  · exact View.cover_of_tiledL _ S1024x128.size (by sl_kernel_rfl) y

/-- The value block a point of case C leaves. -/
theorem out4_C (hc0 : ¬cond0_0 i) (hc1 : cond0_1 i) (hc2 : cond0_2 i) (y : S1024x512.Idx) :
    out0_C_4 (F := Ideal) c i arg2 harg2 arg3 harg3 arg4 harg4 arg5 harg5 arg6 harg6 arg7 harg7 arg8 harg8 arg9 harg9 hc0 hc1 hc2 x0 x1 x2 x3 xs0 y = res (R := 1024) (C := 512) x0 x1 x2 (y 0) (y 1) := by
  unfold out0_C_4
  unfold kernelRun0_C
  dsimp only
  sl_unfold_words
  simp only [View.readAt_eq_ld, Memref.IsWhole.read_unread]
  rw [View.read_writes_junk_apply_eq_canon]
  refine View.canon_apply_of_pieces (Val := Elt Ideal) (e := .f32) (S := S1024x512) (fun y => res (R := 1024) (C := 512) x0 x1 x2 (y 0) (y 1)) _ ?_ y ?_
  · intro pc hpc
    rcases List.mem_cons.mp hpc with rfl | hpc
    · intro x
      exact (congrFun (pay9_eq ..) x).trans (chunk x0 x1 x2 256 _ _ x _ _ (by show 0 + 1 * (x 0).val = _; omega) (by show 256 + 1 * (x 1).val = _; omega))
    rcases List.mem_cons.mp hpc with rfl | hpc
    · intro x
      exact chunk x0 x1 x2 0 _ _ x _ _ (by show 0 + 1 * (x 0).val = _; omega) (by show 0 + 1 * (x 1).val = _; omega)
    nomatch hpc
  · exact View.cover_of_tiledL (s := S1024x512) _ S1024x256.size (by sl_kernel_rfl) y

/-- The gained block a point of case C leaves. -/
theorem out5_C (hc0 : ¬cond0_0 i) (hc1 : cond0_1 i) (hc2 : cond0_2 i) (y : S1024x512.Idx) :
    out0_C_5 (F := Ideal) c i arg2 harg2 arg3 harg3 arg4 harg4 arg5 harg5 arg6 harg6 arg7 harg7 arg8 harg8 arg9 harg9 hc0 hc1 hc2 x0 x1 x2 x3 xs0 y = res (R := 1024) (C := 512) x0 x1 x2 (y 0) (y 1) * x3 (ix3 (0 : Fin 1) (0 : Fin 1) (y 1 : Fin 512)) := by
  unfold out0_C_5
  unfold kernelRun0_C
  dsimp only
  sl_unfold_words
  simp only [View.readAt_eq_ld, Memref.IsWhole.read_unread]
  rw [View.read_writes_junk_apply_eq_canon]
  refine View.canon_apply_of_pieces (Val := Elt Ideal) (e := .bf16) (S := S1024x512) (fun y => res (R := 1024) (C := 512) x0 x1 x2 (y 0) (y 1) * x3 (ix3 (0 : Fin 1) (0 : Fin 1) (y 1 : Fin 512))) _ ?_ y ?_
  · intro pc hpc
    rcases List.mem_cons.mp hpc with rfl | hpc
    · intro x
      refine (pay1_eq _ _ x).trans (congrArg₂ (· * ·) ((congrFun (pay9_eq ..) x).trans (chunk x0 x1 x2 256 _ _ x _ _ (by show 0 + 1 * (x 0).val = _; omega) (by show 256 + 1 * (x 1).val = _; omega))) ?_)
      show x3 _ = x3 _
      refine congrArg x3 (funext fun a => Fin.ext ?_)
      match a with
      | ⟨0, _⟩ => rfl
      | ⟨1, _⟩ => rfl
      | ⟨2, _⟩ => rfl
    rcases List.mem_cons.mp hpc with rfl | hpc
    · intro x
      refine (pay7_eq _ _ _ _ x).trans (congrArg₂ (· * ·) (chunk x0 x1 x2 0 _ _ x _ _ (by show 0 + 1 * (x 0).val = _; omega) (by show 0 + 1 * (x 1).val = _; omega)) ?_)
      show x3 _ = x3 _
      refine congrArg x3 (funext fun a => Fin.ext ?_)
      match a with
      | ⟨0, _⟩ => rfl
      | ⟨1, _⟩ => rfl
      | ⟨2, _⟩ => rfl
    nomatch hpc
  · exact View.cover_of_tiledL (s := S1024x512) _ S1024x256.size (by sl_kernel_rfl) y

/-- The lanes' sums a point of case C leaves. -/
theorem sout_C (hc0 : ¬cond0_0 i) (hc1 : cond0_1 i) (hc2 : cond0_2 i) (y : S1024x128.Idx) :
    sout0_C_0 (F := Ideal) c i arg2 harg2 arg3 harg3 arg4 harg4 arg5 harg5 arg6 harg6 arg7 harg7 arg8 harg8 arg9 harg9 hc0 hc1 hc2 x0 x1 x2 x3 xs0 y = xs0 y + part (resN (R := 1024) (C := 512) x0 x1 x2 (y 0)) (y 1).val := by
  unfold sout0_C_0
  unfold kernelRun0_C
  dsimp only
  sl_unfold_words
  simp only [View.readAt_eq_ld, Memref.IsWhole.read_unread]
  rw [View.read_writes_junk_apply_eq_canon]
  refine View.canon_apply_of_pieces (Val := Elt Ideal) (e := .f32) (S := S1024x128) (fun y => xs0 y + part (resN (R := 1024) (C := 512) x0 x1 x2 (y 0)) (y 1).val) _ ?_ y ?_
  · intro pc hpc
    rcases List.mem_cons.mp hpc with rfl | hpc
    · intro x
      have hx : (Rect.unit (s := S1024x128) ![0, 0] ![1024, 128] inb_S1024x128_S1024x128_0_0).emb x = x := funext fun a => Fin.ext (by
        match a with
        | ⟨0, _⟩ => show 0 + 1 * (x 0).val = (x 0).val; omega
        | ⟨1, _⟩ => show 0 + 1 * (x 1).val = (x 1).val; omega)
      refine Eq.trans ?_ (congrArg (fun y : S1024x128.Idx => xs0 y + part (resN (R := 1024) (C := 512) x0 x1 x2 (y 0)) (y 1).val) hx.symm)
      refine (congrFun (pay4_eq ..) x).trans (congrArg₂ (· + ·) (congrFun (ld_s xs0) x) (part_apply x0 x1 x2 _ _ _ _ x))
    nomatch hpc
  · exact View.cover_of_tiledL _ S1024x128.size (by sl_kernel_rfl) y

/-- The row scale the last column block's point leaves. -/
theorem out6_C (hc0 : ¬cond0_0 i) (hc1 : cond0_1 i) (hc2 : cond0_2 i) (y : S1024x128.Idx) :
    out0_C_6 (F := Ideal) c i arg2 harg2 arg3 harg3 arg4 harg4 arg5 harg5 arg6 harg6 arg7 harg7 arg8 harg8 arg9 harg9 hc0 hc1 hc2 x0 x1 x2 x3 xs0 y = scale (∑ l : Fin 128, (xs0 (ix2 (y 0 : Fin 1024) l) + part (resN (R := 1024) (C := 512) x0 x1 x2 (y 0)) l.val)) := by
  unfold out0_C_6
  unfold kernelRun0_C
  dsimp only
  sl_unfold_words
  simp only [View.readAt_eq_ld, Memref.IsWhole.read_unread, View.readCov_eq_canon']
  rw [View.read_writes_junk_apply_eq_canon]
  refine View.canon_apply_of_pieces (Val := Elt Ideal) (e := .f32) (S := S1024x128) (fun y => scale (∑ l : Fin 128, (xs0 (ix2 (y 0 : Fin 1024) l) + part (resN (R := 1024) (C := 512) x0 x1 x2 (y 0)) l.val))) _ ?_ y ?_
  · intro pc hpc
    rcases List.mem_cons.mp hpc with rfl | hpc
    · intro x
      have hx : (Rect.unit (s := S1024x128) ![0, 0] ![1024, 128] inb_S1024x128_S1024x128_0_0).emb x = x := funext fun a => Fin.ext (by
        match a with
        | ⟨0, _⟩ => show 0 + 1 * (x 0).val = (x 0).val; omega
        | ⟨1, _⟩ => show 0 + 1 * (x 1).val = (x 1).val; omega)
      refine Eq.trans ?_ (congrArg (fun y : S1024x128.Idx => scale (∑ l : Fin 128, (xs0 (ix2 (y 0 : Fin 1024) l) + part (resN (R := 1024) (C := 512) x0 x1 x2 (y 0)) l.val))) hx.symm)
      refine (pay5_eq _ x).trans (congrArg scale (Finset.sum_congr rfl fun l _ => ?_))
      refine (acc_canon x0 x1 x2 xs0 _).trans ?_
      have hz : (Rect.unit (s := S1024x128) ![0, 0] ![1024, 128] inb_S1024x128_S1024x128_0_0).toLoadRect.idx (ix2 (x 0 : Fin 1024) l : S1024x128.Idx) = (ix2 (x 0 : Fin 1024) l : S1024x128.Idx) := funext fun a => Fin.ext (by
        match a with
        | ⟨0, _⟩ => show 0 + 1 * (x 0).val = (x 0).val; omega
        | ⟨1, _⟩ => show 0 + 1 * l.val = l.val; omega)
      exact congrArg (fun z : S1024x128.Idx => xs0 z + part (resN (R := 1024) (C := 512) x0 x1 x2 (z 0)) (z 1).val) hz
    nomatch hpc
  · exact View.cover_of_tiledL _ S1024x128.size (by sl_kernel_rfl) y

end Points

variable (m : (ℓ : Loc nD τ sig) → Buf (Elt Ideal) ℓ)

/-- How the windows' blocks lie at a grid point, decided over the points. -/
theorem idx_facts : ∀ t : Fin cfg0.N,
    win0_0.index t 0 = t.val / 8 ∧ win0_0.index t 1 = 0 ∧ win0_1.index t 0 = 0 ∧ win0_1.index t 1 = t.val % 8
    ∧ win0_2.index t 0 = t.val / 8 ∧ win0_2.index t 1 = t.val % 8
    ∧ win0_3.index t 0 = 0 ∧ win0_3.index t 1 = 0 ∧ win0_3.index t 2 = t.val % 8
    ∧ win0_4.index t 0 = t.val / 8 ∧ win0_4.index t 1 = t.val % 8
    ∧ win0_5.index t 0 = t.val / 8 ∧ win0_5.index t 1 = t.val % 8
    ∧ win0_6.index t 0 = t.val / 8 ∧ win0_6.index t 1 = 0 ∧ t.val < 64 :=
  (by decide +kernel : ∀ t : Fin grid0.N, _)

/-- The gains as the launch passes them: one row a layer. -/
theorem V_gain (c : Dev nD) (a : Fin 4) (b : Fin 1) (k : Fin 4096) :
    V m c main_v0 (ix3 a b k : S4x1x4096.Idx) = m ((c : Thread nD τ).loc main_arg3) (ix2 a k : S4x4096.Idx) := by
  have e : V m c main_v0 = shapeCast S4x1x4096 (m ((c : Thread nD τ).loc main_arg3)) shapeCasts_S4x4096_S4x1x4096 := rfl
  rw [e]
  refine shapeCast_apply _ shapeCasts_S4x4096_S4x1x4096 _ _ ?_
  rw [Shape.rowMajor_val_two, Shape.rowMajor_val_three]
  show a.val * 4096 + k.val = (a.val * 1 + b.val) * 4096 + k.val
  have := b.isLt
  omega

/-- The value over the whole arrays. -/
abbrev Y (c : Dev nD) (r : Fin 8192) (j : Fin 4096) : EReal :=
  res (R := 8192) (C := 4096) (m ((c : Thread nD τ).loc main_arg0)) (m ((c : Thread nD τ).loc main_arg1)) (m ((c : Thread nD τ).loc main_arg2)) r j

/-- The value over the naturals, nothing off the array. -/
def YN (c : Dev nD) (r j : ℕ) : EReal := if h : r < 8192 ∧ j < 4096 then Y m c ⟨r, h.1⟩ ⟨j, h.2⟩ else 0

/-- On the array it is the value. -/
theorem YN_eq (c : Dev nD) (r : Fin 8192) (j : Fin 4096) : YN m c r.val j.val = Y m c r j := dif_pos ⟨r.isLt, j.isLt⟩

/-- A point's block of the value is the whole array's there. -/
theorem blockN (c : Dev nD) (t : Fin cfg0.N) (r : Fin 1024) (j : Fin 512) :
    res (R := 1024) (C := 512) (iblk m c 0 t) (iblk m c 1 t) (iblk m c 2 t) r j = YN m c (1024 * (t.val / 8) + r.val) (512 * (t.val % 8) + j.val) := by
  obtain ⟨h00, h01, h10, h11, h20, h21, -, -, -, -, -, -, -, -, -, ht⟩ := idx_facts t
  have hr := r.isLt
  have hj := j.isLt
  unfold YN
  rw [dif_pos ⟨by omega, by omega⟩]
  unfold Y res
  refine congrArg₂ (· + ·) ?_ (congrArg (_ * ·) (Finset.sum_congr rfl fun k _ => congrArg₂ (· * ·) ?_ ?_))
  · show V m c main_arg2 ((win0_2.rect t).emb (ix2 r j : S1024x512.Idx)) = _
    rw [V_main_arg2]
    refine congrArg _ (funext fun a => Fin.ext ?_)
    match a with
    | ⟨0, _⟩ => show win0_2.index t 0 * 1024 + 1 * r.val = 1024 * (t.val / 8) + r.val; rw [h20]; omega
    | ⟨1, _⟩ => show win0_2.index t 1 * 512 + 1 * j.val = 512 * (t.val % 8) + j.val; rw [h21]; omega
  · show V m c main_arg0 ((win0_0.rect t).emb (ix2 r k : S1024x6144.Idx)) = _
    rw [V_main_arg0]
    refine congrArg _ (funext fun a => Fin.ext ?_)
    match a with
    | ⟨0, _⟩ => show win0_0.index t 0 * 1024 + 1 * r.val = 1024 * (t.val / 8) + r.val; rw [h00]; omega
    | ⟨1, _⟩ => show win0_0.index t 1 * 6144 + 1 * k.val = k.val; rw [h01]; omega
  · show V m c main_arg1 ((win0_1.rect t).emb (ix2 k j : S6144x512.Idx)) = _
    rw [V_main_arg1]
    refine congrArg _ (funext fun a => Fin.ext ?_)
    match a with
    | ⟨0, _⟩ => show win0_1.index t 0 * 6144 + 1 * k.val = k.val; rw [h10]; omega
    | ⟨1, _⟩ => show win0_1.index t 1 * 512 + 1 * j.val = 512 * (t.val % 8) + j.val; rw [h11]; omega

/-- A point's part of the lanes' sums, from the whole array. -/
theorem part_block (c : Dev nD) (t : Fin cfg0.N) (r : Fin 1024) (l : Fin 128) :
    part (resN (R := 1024) (C := 512) (iblk m c 0 t) (iblk m c 1 t) (iblk m c 2 t) r) l.val
      = part (YN m c (1024 * (t.val / 8) + r.val)) (512 * (t.val % 8) + l.val) := by
  have hl := l.isLt
  have e : ∀ o : ℕ, o + l.val < 512 → resN (R := 1024) (C := 512) (iblk m c 0 t) (iblk m c 1 t) (iblk m c 2 t) r (o + l.val)
      = YN m c (1024 * (t.val / 8) + r.val) (o + (512 * (t.val % 8) + l.val)) := fun o ho => by
    rw [resN_eq _ _ _ _ _ ho, blockN]
    exact congrArg _ (Nat.add_left_comm _ _ _)
  refine part_congr ?_ (e 128 (by omega)) (e 256 (by omega)) (e 384 (by omega))
  have := e 0 (by omega)
  simpa only [Nat.zero_add] using this

/-- The lanes' sums after a row block's first point. -/
theorem lanes_A (c : Dev nD) (t : Fin cfg0.N) (h0 : t.val % 8 = 0) (y : S1024x128.Idx) :
    (outsAt0 m c t.val t.isLt).2.2.2 y = part (YN m c (1024 * (t.val / 8) + (y 0).val)) (512 * (t.val % 8) + (y 1).val) := by
  rw [outsAt0_A m c t h0 (by omega) (by omega)]
  dsimp only
  exact (sout_A ..).trans (part_block m c t (y 0) (y 1))

/-- The lanes' sums after a later point: what the point before left and this point's part. -/
theorem lanes_BC (c : Dev nD) (t : Fin cfg0.N) (h0 : ¬t.val % 8 = 0) (y : S1024x128.Idx) :
    (outsAt0 m c t.val t.isLt).2.2.2 y = (outsAt0 m c (t.val - 1) (Nat.lt_of_le_of_lt (Nat.sub_le _ _) t.isLt)).2.2.2 y
      + part (YN m c (1024 * (t.val / 8) + (y 0).val)) (512 * (t.val % 8) + (y 1).val) := by
  by_cases h2 : t.val % 8 = 7
  · rw [outsAt0_C m c t h0 (by omega) h2]
    dsimp only
    exact (sout_C ..).trans (congrArg (_ + ·) (part_block m c t (y 0) (y 1)))
  · rw [outsAt0_B m c t h0 (by omega) h2]
    dsimp only
    exact (sout_B ..).trans (congrArg (_ + ·) (part_block m c t (y 0) (y 1)))

/-- The lanes' sums after a point: the parts of the row block's column blocks so far. -/
theorem lanes (c : Dev nD) : ∀ (n : ℕ) (hn : n < cfg0.N) (y : S1024x128.Idx),
    (outsAt0 m c n hn).2.2.2 y = ∑ j ∈ Finset.range (n % 8 + 1), part (YN m c (1024 * (n / 8) + (y 0).val)) (512 * j + (y 1).val) := by
  intro n
  induction n with
  | zero => exact fun hn y => (lanes_A m c ⟨0, hn⟩ rfl y).trans (Finset.sum_range_one (fun j => part (YN m c (1024 * (0 / 8) + (y 0).val)) (512 * j + (y 1).val))).symm
  | succ n ih =>
    intro hn y
    by_cases h0 : (n + 1) % 8 = 0
    · refine (lanes_A m c ⟨n + 1, hn⟩ h0 y).trans ?_
      show part (YN m c (1024 * ((n + 1) / 8) + (y 0).val)) (512 * ((n + 1) % 8) + (y 1).val) = _
      rw [h0]
      exact (Finset.sum_range_one (fun j => part (YN m c (1024 * ((n + 1) / 8) + (y 0).val)) (512 * j + (y 1).val))).symm
    · have hm : n % 8 + 1 = (n + 1) % 8 := by omega
      have hd : n / 8 = (n + 1) / 8 := by omega
      have st := ih (Nat.lt_of_succ_lt hn) y
      rw [hm, hd] at st
      refine (lanes_BC m c ⟨n + 1, hn⟩ h0 y).trans ((congrArg (· + _) st).trans ?_)
      exact (Finset.sum_range_succ (fun j => part (YN m c (1024 * ((n + 1) / 8) + (y 0).val)) (512 * j + (y 1).val)) ((n + 1) % 8)).symm

/-- The value's array. -/
abbrev G4 (c : Dev nD) : Buf (Elt Ideal) ((c : Thread nD τ).loc main_v1_0) := fun y => Y m c (y 0) (y 1)

/-- The gained copy's array. -/
abbrev G5 (c : Dev nD) : Buf (Elt Ideal) ((c : Thread nD τ).loc main_v1_1) :=
  fun y => Y m c (y 0) (y 1) * m ((c : Thread nD τ).loc main_arg3) (ix2 (0 : Fin 4) (y 1 : Fin 4096) : S4x4096.Idx)

/-- The row scale's array. -/
abbrev G6 (c : Dev nD) : Buf (Elt Ideal) ((c : Thread nD τ).loc main_v1_2) :=
  fun y => scale (∑ k : Fin 4096, Y m c (y 0) k * Y m c (y 0) k)

/-- A point's block of the value, by the array's own indices. -/
theorem block4 (c : Dev nD) (t : Fin cfg0.N) (y : S1024x512.Idx) :
    res (R := 1024) (C := 512) (iblk m c 0 t) (iblk m c 1 t) (iblk m c 2 t) (y 0) (y 1) = Y m c ((win0_4.rect t).emb y 0) ((win0_4.rect t).emb y 1) := by
  obtain ⟨-, -, -, -, -, -, -, -, -, h40, h41, -⟩ := idx_facts t
  refine (blockN m c t (y 0) (y 1)).trans (Eq.trans ?_ (YN_eq m c _ _))
  refine congrArg₂ (YN m c) ?_ ?_
  · show _ = win0_4.index t 0 * 1024 + 1 * (y 0).val; rw [h40]; omega
  · show _ = win0_4.index t 1 * 512 + 1 * (y 1).val; rw [h41]; omega

/-- What a point writes back of the value is its block of the whole array's. -/
theorem flushed4_eq (c : Dev nD) (t : Fin cfg0.N) : (dats m 0 c).flushed 4 t = ((cfg0.win 4).blk t).view.read (Elt Ideal) (G4 m c) := by
  by_cases h0 : t.val % 8 = 0
  · rw [Value.flushed4_A m c t h0 (by omega) (by omega)]
    exact funext fun y => (out4_A .. : _ = _).trans (block4 m c t y)
  by_cases h2 : t.val % 8 = 7
  · rw [Value.flushed4_C m c t h0 (by omega) h2]
    exact funext fun y => (out4_C .. : _ = _).trans (block4 m c t y)
  · rw [Value.flushed4_B m c t h0 (by omega) h2]
    exact funext fun y => (out4_B .. : _ = _).trans (block4 m c t y)

/-- A point's block of the gained copy, by the array's own indices. -/
theorem block5 (c : Dev nD) (t : Fin cfg0.N) (y : S1024x512.Idx) :
    res (R := 1024) (C := 512) (iblk m c 0 t) (iblk m c 1 t) (iblk m c 2 t) (y 0) (y 1) * (iblk m c 3 t) (ix3 (0 : Fin 1) (0 : Fin 1) (y 1 : Fin 512) : S1x1x512.Idx)
      = G5 m c ((win0_5.rect t).emb y) := by
  obtain ⟨-, -, -, -, -, -, h30, h31, h32, -, -, h50, h51, -⟩ := idx_facts t
  refine congrArg₂ (· * ·) ?_ ?_
  · refine (blockN m c t (y 0) (y 1)).trans (Eq.trans ?_ (YN_eq m c _ _))
    refine congrArg₂ (YN m c) ?_ ?_
    · show _ = win0_5.index t 0 * 1024 + 1 * (y 0).val; rw [h50]; omega
    · show _ = win0_5.index t 1 * 512 + 1 * (y 1).val; rw [h51]; omega
  · show V m c main_v0 ((win0_3.rect t).emb (ix3 (0 : Fin 1) (0 : Fin 1) (y 1 : Fin 512) : S1x1x512.Idx)) = _
    refine Eq.trans ?_ (V_gain m c (0 : Fin 4) (0 : Fin 1) ((win0_5.rect t).emb y 1))
    refine congrArg (V m c main_v0) (funext fun a => Fin.ext ?_)
    match a with
    | ⟨0, _⟩ => show win0_3.index t 0 * 1 + 1 * 0 = 0; rw [h30]
    | ⟨1, _⟩ => show win0_3.index t 1 * 1 + 1 * 0 = 0; rw [h31]
    | ⟨2, _⟩ => show win0_3.index t 2 * 512 + 1 * (y 1).val = win0_5.index t 1 * 512 + 1 * (y 1).val; rw [h32, h51]

/-- What a point writes back of the gained copy is its block of the whole array's. -/
theorem flushed5_eq (c : Dev nD) (t : Fin cfg0.N) : (dats m 0 c).flushed 5 t = ((cfg0.win 5).blk t).view.read (Elt Ideal) (G5 m c) := by
  by_cases h0 : t.val % 8 = 0
  · rw [Value.flushed5_A m c t h0 (by omega) (by omega)]
    exact funext fun y => (out5_A .. : _ = _).trans (block5 m c t y)
  by_cases h2 : t.val % 8 = 7
  · rw [Value.flushed5_C m c t h0 (by omega) h2]
    exact funext fun y => (out5_C .. : _ = _).trans (block5 m c t y)
  · rw [Value.flushed5_B m c t h0 (by omega) h2]
    exact funext fun y => (out5_B .. : _ = _).trans (block5 m c t y)

/-- What the last column block's point writes back of the row scale is its block of the whole array's. -/
theorem flushed6_eq (c : Dev nD) (t : Fin cfg0.N) (hf : (cfg0.win 6).flush t = true) :
    (dats m 0 c).flushed 6 t = ((cfg0.win 6).blk t).view.read (Elt Ideal) (G6 m c) := by
  have h2 : t.val % 8 = 7 := (flush0_6 t).mp hf
  obtain ⟨-, -, -, -, -, -, -, -, -, -, -, -, -, h60, h61, ht⟩ := idx_facts t
  rw [Value.flushed6_C m c t (by omega) (by omega) h2]
  funext y
  refine (out6_C .. : _ = _).trans (congrArg scale ?_)
  have hrow : ((win0_6.rect t).emb y 0 : Fin 8192).val = 1024 * (t.val / 8) + (y 0).val := by
    show win0_6.index t 0 * 1024 + 1 * (y 0).val = _; rw [h60]; omega
  have hsq : ∑ k : Fin 4096, Y m c ((win0_6.rect t).emb y 0) k * Y m c ((win0_6.rect t).emb y 0) k
      = ∑ k : Fin 4096, YN m c (1024 * (t.val / 8) + (y 0).val) k.val * YN m c (1024 * (t.val / 8) + (y 0).val) k.val :=
    Finset.sum_congr rfl fun k _ => (congrArg (fun v : EReal => v * v) ((YN_eq m c _ k).symm.trans (congrArg (fun r => YN m c r k.val) hrow)))
  refine Eq.trans ?_ (hsq.trans (sum_lanes (YN m c (1024 * (t.val / 8) + (y 0).val))).symm).symm
  refine Finset.sum_congr rfl fun l _ => ?_
  have hp : (t.val - 1) % 8 + 1 = 7 := by omega
  have hq : (t.val - 1) / 8 = t.val / 8 := by omega
  rw [lanes]
  refine (congrArg (_ + ·) (part_block m c t (y 0) l)).trans ?_
  rw [hp, hq, h2]
  exact (Finset.sum_range_succ (fun j => part (YN m c (1024 * (t.val / 8) + (y 0).val)) (512 * j + l.val)) 7).symm

/-- The value's array after the run. -/
theorem final4 (c : Dev nD) : (dats m 0 c).arrAt 4 cfg0.N = G4 m c := by
  refine (dats m 0 c).arrAt_eq_of_cover 4 (G4 m c) (fun t _ => flushed4_eq m c t) fun i => ?_
  have h0 : (i 0).val < 8192 := (i 0).isLt
  have h1 : (i 1).val < 4096 := (i 1).isLt
  have hN : 8 * ((i 0).val / 1024) + (i 1).val / 512 < cfg0.N := by rw [show cfg0.N = 64 from N_0]; omega
  obtain ⟨-, -, -, -, -, -, -, -, -, h40, h41, -⟩ := idx_facts ⟨_, hN⟩
  refine ⟨⟨_, hN⟩, flush0_4 _, ?_⟩
  show i ∈ ((View.whole main_v1_0).slice (win0_4.rect ⟨_, hN⟩)).set
  rw [View.set_slice_whole, Rect.mem_set_unit]
  intro a
  match a with
  | ⟨0, _⟩ => show win0_4.index ⟨_, hN⟩ 0 * 1024 ≤ (i 0).val ∧ (i 0).val < win0_4.index ⟨_, hN⟩ 0 * 1024 + 1024; rw [h40]; dsimp only; omega
  | ⟨1, _⟩ => show win0_4.index ⟨_, hN⟩ 1 * 512 ≤ (i 1).val ∧ (i 1).val < win0_4.index ⟨_, hN⟩ 1 * 512 + 512; rw [h41]; dsimp only; omega

/-- The gained copy's array after the run. -/
theorem final5 (c : Dev nD) : (dats m 0 c).arrAt 5 cfg0.N = G5 m c := by
  refine (dats m 0 c).arrAt_eq_of_cover 5 (G5 m c) (fun t _ => flushed5_eq m c t) fun i => ?_
  have h0 : (i 0).val < 8192 := (i 0).isLt
  have h1 : (i 1).val < 4096 := (i 1).isLt
  have hN : 8 * ((i 0).val / 1024) + (i 1).val / 512 < cfg0.N := by rw [show cfg0.N = 64 from N_0]; omega
  obtain ⟨-, -, -, -, -, -, -, -, -, -, -, h50, h51, -⟩ := idx_facts ⟨_, hN⟩
  refine ⟨⟨_, hN⟩, flush0_5 _, ?_⟩
  show i ∈ ((View.whole main_v1_1).slice (win0_5.rect ⟨_, hN⟩)).set
  rw [View.set_slice_whole, Rect.mem_set_unit]
  intro a
  match a with
  | ⟨0, _⟩ => show win0_5.index ⟨_, hN⟩ 0 * 1024 ≤ (i 0).val ∧ (i 0).val < win0_5.index ⟨_, hN⟩ 0 * 1024 + 1024; rw [h50]; dsimp only; omega
  | ⟨1, _⟩ => show win0_5.index ⟨_, hN⟩ 1 * 512 ≤ (i 1).val ∧ (i 1).val < win0_5.index ⟨_, hN⟩ 1 * 512 + 512; rw [h51]; dsimp only; omega

/-- The row scale's array after the run. -/
theorem final6 (c : Dev nD) : (dats m 0 c).arrAt 6 cfg0.N = G6 m c := by
  refine (dats m 0 c).arrAt_eq_of_cover 6 (G6 m c) (fun t hf => flushed6_eq m c t hf) fun i => ?_
  have h0 : (i 0).val < 8192 := (i 0).isLt
  have h1 : (i 1).val < 128 := (i 1).isLt
  have hN : 8 * ((i 0).val / 1024) + 7 < cfg0.N := by rw [show cfg0.N = 64 from N_0]; omega
  obtain ⟨-, -, -, -, -, -, -, -, -, -, -, -, -, h60, h61, -⟩ := idx_facts ⟨_, hN⟩
  refine ⟨⟨_, hN⟩, (flush0_6 _).mpr (by dsimp only; omega), ?_⟩
  show i ∈ ((View.whole main_v1_2).slice (win0_6.rect ⟨_, hN⟩)).set
  rw [View.set_slice_whole, Rect.mem_set_unit]
  intro a
  match a with
  | ⟨0, _⟩ => show win0_6.index ⟨_, hN⟩ 0 * 1024 ≤ (i 0).val ∧ (i 0).val < win0_6.index ⟨_, hN⟩ 0 * 1024 + 1024; rw [h60]; dsimp only; omega
  | ⟨1, _⟩ => show win0_6.index ⟨_, hN⟩ 1 * 128 ≤ (i 1).val ∧ (i 1).val < win0_6.index ⟨_, hN⟩ 1 * 128 + 128; rw [h61]; dsimp only; omega

open Cert.ResRefIdeal.Read in
/-- The reference's value is the same function. -/
theorem ref4 (x0 : Vec Ideal S8192x6144 .bf16) (x1 : Vec Ideal S6144x4096 .bf16) (x2 : Vec Ideal S8192x4096 .f32) (i : S8192x4096.Idx) :
    val_main_v3 (F := Ideal) x0 x1 x2 i = res (R := 8192) (C := 4096) x0 x1 x2 (i 0) (i 1) := by
  rw [val_main_v3_apply, val_main_v2_apply, val_main_v1_apply, val_main_cst_apply, val_main_v0_apply]
  refine congrArg₂ (· + ·) (congrArg x2 (eq_ix2 i)) (congrArg (_ * ·) (Finset.sum_congr rfl fun k _ => congrArg₂ (· * ·) (congrArg x0 (funext fun a => ?_)) (congrArg x1 (funext fun a => ?_))))
  · match a with
    | ⟨0, _⟩ => rfl
    | ⟨1, _⟩ => rfl
  · match a with
    | ⟨0, _⟩ => rfl
    | ⟨1, _⟩ => rfl

open Cert.ResRefIdeal.Read in
/-- The reference's gained copy is the same function. -/
theorem ref5 (x0 : Vec Ideal S8192x6144 .bf16) (x1 : Vec Ideal S6144x4096 .bf16) (x2 : Vec Ideal S8192x4096 .f32) (x3 : Vec Ideal S4x4096 .f32) (i : S8192x4096.Idx) :
    val_main_v17 (F := Ideal) x0 x1 x2 x3 i = res (R := 8192) (C := 4096) x0 x1 x2 (i 0) (i 1) * x3 (ix2 (0 : Fin 4) (i 1 : Fin 4096)) := by
  rw [val_main_v17_apply, val_main_v16_apply]
  refine congrArg₂ (fun u v : EReal => u * v) (ref4 x0 x1 x2 i) ?_
  rw [val_main_v15_apply, val_main_v14_apply, val_main_v13_apply, val_main_v12_apply]
  refine congrArg x3 (funext fun a => Fin.ext ?_)
  have h1 : (i 1).val < 4096 := (i 1).isLt
  match a with
  | ⟨0, _⟩ => rfl
  | ⟨1, _⟩ => show (i 1).val % 4096 = (i 1).val; omega

open Cert.ResRefIdeal.Read in
/-- The reference's row scale is the same function. -/
theorem ref6 (x0 : Vec Ideal S8192x6144 .bf16) (x1 : Vec Ideal S6144x4096 .bf16) (x2 : Vec Ideal S8192x4096 .f32) (i : S8192x128.Idx) :
    val_main_v18 (F := Ideal) x0 x1 x2 i = scale (∑ k : Fin 4096, res (R := 8192) (C := 4096) x0 x1 x2 (i 0) k * res (R := 8192) (C := 4096) x0 x1 x2 (i 0) k) := by
  rw [val_main_v18_apply, val_main_v11_apply, val_main_v10_apply, val_main_v9_apply, val_main_cst_2_apply, val_main_v8_apply, val_main_v7_apply, val_main_cst_1_apply, val_main_v6_apply, val_main_v5_apply, val_main_cst_0_apply]
  refine congrArg (fun s => scale s) ?_
  refine (congrArg (· + _) Ideal.ofBits_zero_f32).trans ((zero_add _).trans (Finset.sum_congr rfl fun k _ => ?_))
  rw [val_main_v4_apply, ref4]
  rfl

end Cert.ResIdeal.RefValue

end
-- ==== Proof.ResClaim.lean ====
/-
  The down projection's value claim: the kernel's run and the reference's, each ending at the same three functions.
-/
module

public import proofs.«01_k».proof.Defs
public import proofs.«01_k».proof.Proof.ResValue

@[expose] public section

noncomputable section

namespace Cert.ResIdeal.RefValue

open Idealize.ShloMosaic Idealize.ShloMosaic.TcCoe Idealize.SL.Sem

/-- The kernel's results are the residual's sum, its gained copy and its row scale, and so are the reference's. -/
theorem algebraic : @Cert.algebraic_ResIdeal_ResRefIdeal Cert.ResIdeal.Gen.facts Cert.ResRefIdeal.Gen.facts := by
  intro m g m' g' _ hag
  refine ⟨fun c => G4 m c, fun c => G5 m c, fun c => G6 m c, ?_, ?_⟩
  · exact (θ_run _ _ _).mono (fun _ h c => ⟨(h c).1.trans (final4 m c), (h c).2.1.trans (final5 m c), (h c).2.2.1.trans (final6 m c), (h c).2.2.2⟩) (Cert.ResIdeal.Value.run_blocks m g)
  · refine (θ_run _ _ _).mono (fun _ h c => ⟨(h c).1.trans ?_, (h c).2.1.trans ?_, (h c).2.2.1.trans ?_, (h c).2.2.2⟩) (Cert.ResRefIdeal.Value.run (F := Ideal) m' g')
    · obtain ⟨h0, h1, h2, h3⟩ := hag c
      rw [h0, h1, h2]
      exact (Cert.ResRefIdeal.Read.val_main_v3_eq ..).trans (funext fun i => ref4 _ _ _ i)
    · obtain ⟨h0, h1, h2, h3⟩ := hag c
      rw [h0, h1, h2, h3]
      exact (Cert.ResRefIdeal.Read.val_main_v17_eq ..).trans (funext fun i => ref5 _ _ _ _ i)
    · obtain ⟨h0, h1, h2, h3⟩ := hag c
      rw [h0, h1, h2]
      exact (Cert.ResRefIdeal.Read.val_main_v18_eq ..).trans (funext fun i => ref6 _ _ _ i)

end Cert.ResIdeal.RefValue

end
-- ==== Proof.MixValue.lean ====
/-
  The output projection of two operands with its residual, the gained copy and the row scale: what each grid point's blocks hold, the lanes' running
  sums of squares over the column blocks, the whole arrays after the run, and the reference's read the same way.
-/
module

public import proofs.«01_k».proof.Proof.Norm
public import proofs.«01_k».proof.Proof.Gen.MixIdeal.Value
public import proofs.«01_k».proof.Proof.Gen.MixRefIdeal.Read

@[expose] public section

noncomputable section

namespace Cert.MixIdeal.RefValue

open Cert.MixIdeal Cert.MixIdeal.Gen Cert.Tiles Cert.Norm Idealize.ShloMosaic Idealize.ShloMosaic.ValueIdx Idealize.ShloMosaic.TcCoe Idealize.SL.Sem
open Idealize.ShloMosaic.Pipeline (Dat)

/-- The residual plus the two operands' projections, at a row and a column. -/
def mix {R C : ℕ} (a b : FVec Ideal ⟨2, ![R, 2048]⟩ .bf16) (w v : FVec Ideal ⟨2, ![2048, C]⟩ .bf16) (x : FVec Ideal ⟨2, ![R, C]⟩ .f32)
    (r : Fin R) (j : Fin C) : EReal :=
  x (ix2 r j) + (∑ k : Fin 2048, a (ix2 r k) * w (ix2 k j) + ∑ k : Fin 2048, b (ix2 r k) * v (ix2 k j))

/-- The same over the naturals, nothing off the row. -/
def mixN {R C : ℕ} (a b : FVec Ideal ⟨2, ![R, 2048]⟩ .bf16) (w v : FVec Ideal ⟨2, ![2048, C]⟩ .bf16) (x : FVec Ideal ⟨2, ![R, C]⟩ .f32)
    (r : Fin R) (j : ℕ) : EReal :=
  if hj : j < C then mix a b w v x r ⟨j, hj⟩ else 0

/-- On the row it is the same function. -/
theorem mixN_eq {R C : ℕ} (a b : FVec Ideal ⟨2, ![R, 2048]⟩ .bf16) (w v : FVec Ideal ⟨2, ![2048, C]⟩ .bf16) (x : FVec Ideal ⟨2, ![R, C]⟩ .f32)
    (r : Fin R) (j : ℕ) (hj : j < C) : mixN a b w v x r j = mix a b w v x r ⟨j, hj⟩ := dif_pos hj

/-- A whole-block load is the block. -/
theorem ld_h (x : Vec Ideal S1024x2048 .bf16) :
    View.ld (Val := Elt Ideal) (e' := EltTy.bf16) x (Rect.unit (s := S1024x2048) ![0, 0] ![1024, 2048] inb_S1024x2048_S1024x2048_0_0) = x :=
  View.ld_unit_zero (S := S1024x2048) hz2 _ _

/-- A whole-block load of the lanes' sums is the block. -/
theorem ld_s (x : Vec Ideal S1024x128 .f32) :
    View.ld (Val := Elt Ideal) (e' := EltTy.f32) x (Rect.unit (s := S1024x128) ![0, 0] ![1024, 128] inb_S1024x128_S1024x128_0_0) = x :=
  View.ld_unit_zero (S := S1024x128) hz2 _ _

/-- A 256-column chunk's value at an index. -/
theorem chunk (x0 x1 : FVec Ideal S1024x2048 .bf16) (x2 x3 : FVec Ideal S2048x512 .bf16) (x4 : FVec Ideal S1024x512 .f32) (b : ℕ)
    (inb1 : ∀ a : Fin 2, ![0, b] a + ![2048, 256] a ≤ S2048x512.size a) (inb2 : ∀ a : Fin 2, ![0, b] a + ![1024, 256] a ≤ S1024x512.size a)
    (x : S1024x256.Idx) (r : Fin 1024) (j : Fin 512) (hr : r.val = (x 0).val) (hj : j.val = b + (x 1).val) :
    k0_pay7 (F := Ideal) (View.ld (Val := Elt Ideal) (e' := EltTy.bf16) x0 (Rect.unit (s := S1024x2048) ![0, 0] ![1024, 2048] inb_S1024x2048_S1024x2048_0_0)) (View.ld (Val := Elt Ideal) (e' := EltTy.bf16) x1 (Rect.unit (s := S1024x2048) ![0, 0] ![1024, 2048] inb_S1024x2048_S1024x2048_0_0)) (View.ld (Val := Elt Ideal) (e' := EltTy.bf16) x2 (Rect.unit (s := S2048x512) ![0, b] ![2048, 256] inb1)) (View.ld (Val := Elt Ideal) (e' := EltTy.bf16) x3 (Rect.unit (s := S2048x512) ![0, b] ![2048, 256] inb1)) (View.ld (Val := Elt Ideal) (e' := EltTy.f32) x4 (Rect.unit (s := S1024x512) ![0, b] ![1024, 256] inb2)) x = mix x0 x1 x2 x3 x4 r j := by
  rw [ld_h, ld_h]
  have hm := fun (v : FVec Ideal S1024x2048 .bf16) (w : FVec Ideal S2048x512 .bf16) =>
    mm_apply (φ₁ := .bf16) (φ₂ := .bf16) dot_S1024x2048_S2048x256_S1024x256_1_0_0_1_n_n rfl none v (View.ld (Val := Elt Ideal) (e' := EltTy.bf16) w (Rect.unit (s := S2048x512) ![0, b] ![2048, 256] inb1)) x
  unfold mix
  refine congrArg₂ (· + ·) ?_ (congrArg₂ (· + ·) ((hm x0 x2).trans (Finset.sum_congr rfl fun k _ => congrArg₂ (· * ·) ?_ ?_))
    ((hm x1 x3).trans (Finset.sum_congr rfl fun k _ => congrArg₂ (· * ·) ?_ ?_)))
  · show x4 _ = x4 _
    refine congrArg x4 (funext fun a => Fin.ext ?_)
    match a with
    | ⟨0, _⟩ => show 0 + 1 * (x 0).val = r.val; omega
    | ⟨1, _⟩ => show b + 1 * (x 1).val = j.val; omega
  · refine congrArg x0 (funext fun a => Fin.ext ?_)
    match a with
    | ⟨0, _⟩ => exact hr.symm
    | ⟨1, _⟩ => rfl
  · show x2 _ = x2 _
    refine congrArg x2 (funext fun a => Fin.ext ?_)
    match a with
    | ⟨0, _⟩ => show 0 + 1 * k.val = k.val; omega
    | ⟨1, _⟩ => show b + 1 * (x 1).val = j.val; omega
  · refine congrArg x1 (funext fun a => Fin.ext ?_)
    match a with
    | ⟨0, _⟩ => exact hr.symm
    | ⟨1, _⟩ => rfl
  · show x3 _ = x3 _
    refine congrArg x3 (funext fun a => Fin.ext ?_)
    match a with
    | ⟨0, _⟩ => show 0 + 1 * k.val = k.val; omega
    | ⟨1, _⟩ => show b + 1 * (x 1).val = j.val; omega

/-- The second chunk's payload is the first's. -/
theorem pay1_eq (v0 v1 : FVec Ideal S1024x2048 .bf16) (v2 v4 : FVec Ideal S2048x256 .bf16) (v7 : FVec Ideal S1024x256 .f32) :
    k0_pay1 (F := Ideal) (k0_pay10 (F := Ideal) v0 v1 v2 v4) v7 = k0_pay7 (F := Ideal) v0 v1 v2 v4 v7 := rfl

/-- The second chunk's gained copy. -/
theorem pay2_eq (v0 v1 : FVec Ideal S1024x2048 .bf16) (v2 v4 : FVec Ideal S2048x256 .bf16) (v7 : FVec Ideal S1024x256 .f32) (g : FVec Ideal S1x1x256 .f32) (x : S1024x256.Idx) :
    k0_pay2 (F := Ideal) (k0_pay10 (F := Ideal) v0 v1 v2 v4) v7 g x = k0_pay7 (F := Ideal) v0 v1 v2 v4 v7 x * g (ix3 (0 : Fin 1) (0 : Fin 1) (x 1 : Fin 256)) :=
  congrArg (k0_pay7 (F := Ideal) v0 v1 v2 v4 v7 x * ·) (gain_apply shapeCasts_S1x1x256_S1x256 broadcasts_S1x256_S1024x256 g x)

/-- The first chunk's gained copy. -/
theorem pay8_eq (v0 v1 : FVec Ideal S1024x2048 .bf16) (v2 v4 : FVec Ideal S2048x256 .bf16) (v7 : FVec Ideal S1024x256 .f32) (g : FVec Ideal S1x1x256 .f32) (x : S1024x256.Idx) :
    k0_pay8 (F := Ideal) v0 v1 v2 v4 v7 g x = k0_pay7 (F := Ideal) v0 v1 v2 v4 v7 x * g (ix3 (0 : Fin 1) (0 : Fin 1) (x 1 : Fin 256)) :=
  congrArg (k0_pay7 (F := Ideal) v0 v1 v2 v4 v7 x * ·) (gain_apply shapeCasts_S1x1x256_S1x256 broadcasts_S1x256_S1024x256 g x)

/-- The first chunk's squares, lane by lane. -/
theorem pay9_eq (v0 v1 : FVec Ideal S1024x2048 .bf16) (v2 v4 : FVec Ideal S2048x256 .bf16) (v7 : FVec Ideal S1024x256 .f32) (x : S1024x128.Idx) :
    k0_pay9 (F := Ideal) v0 v1 v2 v4 v7 x
      = extractStridedSlice S1024x128 ![0, 0] (k0_pay7 (F := Ideal) v0 v1 v2 v4 v7) slices_S1024x256_o0_0_S1024x128 x * extractStridedSlice S1024x128 ![0, 0] (k0_pay7 (F := Ideal) v0 v1 v2 v4 v7) slices_S1024x256_o0_0_S1024x128 x
        + extractStridedSlice S1024x128 ![0, 128] (k0_pay7 (F := Ideal) v0 v1 v2 v4 v7) slices_S1024x256_o0_128_S1024x128 x * extractStridedSlice S1024x128 ![0, 128] (k0_pay7 (F := Ideal) v0 v1 v2 v4 v7) slices_S1024x256_o0_128_S1024x128 x := rfl

/-- The second chunk's squares added, lane by lane. -/
theorem pay3_eq (v : FVec Ideal S1024x128 .f32) (v0 v1 : FVec Ideal S1024x2048 .bf16) (v2 v4 : FVec Ideal S2048x256 .bf16) (v7 : FVec Ideal S1024x256 .f32) (x : S1024x128.Idx) :
    k0_pay3 (F := Ideal) v (k0_pay10 (F := Ideal) v0 v1 v2 v4) v7 x
      = (v x + extractStridedSlice S1024x128 ![0, 0] (k0_pay7 (F := Ideal) v0 v1 v2 v4 v7) slices_S1024x256_o0_0_S1024x128 x * extractStridedSlice S1024x128 ![0, 0] (k0_pay7 (F := Ideal) v0 v1 v2 v4 v7) slices_S1024x256_o0_0_S1024x128 x)
        + extractStridedSlice S1024x128 ![0, 128] (k0_pay7 (F := Ideal) v0 v1 v2 v4 v7) slices_S1024x256_o0_128_S1024x128 x * extractStridedSlice S1024x128 ![0, 128] (k0_pay7 (F := Ideal) v0 v1 v2 v4 v7) slices_S1024x256_o0_128_S1024x128 x := rfl

/-- The row scale's payload, from the lanes' totals. -/
theorem pay6_eq (v : FVec Ideal S1024x128 .f32) (x : S1024x128.Idx) :
    k0_pay6 (F := Ideal) v x = scale (∑ l : Fin 128, v (ix2 (x 0 : Fin 1024) l)) :=
  scale_apply reduces_S1024x128_S1024 _ _ shapeCasts_S1024_S1024x1 shapeCasts_S1024x1_S1024x1 broadcasts_S1024x1_S1024x128 v x

/-- The first column block stores its part. -/
theorem pay4_eq (v : FVec Ideal S1024x128 .f32) (w u : FVec Ideal S1024x256 .f32) : k0_pay4 (F := Ideal) v w u = k0_pay3 (F := Ideal) v w u :=
  shapeCast_self ..

/-- The later column blocks add theirs to what the lanes held. -/
theorem pay5_eq (v : FVec Ideal S1024x128 .f32) (w u : FVec Ideal S1024x256 .f32) (a : FVec Ideal S1024x128 .f32) :
    k0_pay5 (F := Ideal) v w u a = fun x => a x + k0_pay3 (F := Ideal) v w u x :=
  shapeCast_self ..

/-- The block's part of the lanes' sums. -/
theorem part_apply (x0 x1 : FVec Ideal S1024x2048 .bf16) (x2 x3 : FVec Ideal S2048x512 .bf16) (x4 : FVec Ideal S1024x512 .f32)
    (a1 : ∀ a : Fin 2, ![0, 0] a + ![2048, 256] a ≤ S2048x512.size a) (a2 : ∀ a : Fin 2, ![0, 0] a + ![1024, 256] a ≤ S1024x512.size a)
    (b1 : ∀ a : Fin 2, ![0, 256] a + ![2048, 256] a ≤ S2048x512.size a) (b2 : ∀ a : Fin 2, ![0, 256] a + ![1024, 256] a ≤ S1024x512.size a) (x : S1024x128.Idx) :
    k0_pay3 (F := Ideal) (k0_pay9 (F := Ideal) (View.ld (Val := Elt Ideal) (e' := EltTy.bf16) x0 (Rect.unit (s := S1024x2048) ![0, 0] ![1024, 2048] inb_S1024x2048_S1024x2048_0_0)) (View.ld (Val := Elt Ideal) (e' := EltTy.bf16) x1 (Rect.unit (s := S1024x2048) ![0, 0] ![1024, 2048] inb_S1024x2048_S1024x2048_0_0)) (View.ld (Val := Elt Ideal) (e' := EltTy.bf16) x2 (Rect.unit (s := S2048x512) ![0, 0] ![2048, 256] a1)) (View.ld (Val := Elt Ideal) (e' := EltTy.bf16) x3 (Rect.unit (s := S2048x512) ![0, 0] ![2048, 256] a1)) (View.ld (Val := Elt Ideal) (e' := EltTy.f32) x4 (Rect.unit (s := S1024x512) ![0, 0] ![1024, 256] a2)))
      (k0_pay10 (F := Ideal) (View.ld (Val := Elt Ideal) (e' := EltTy.bf16) x0 (Rect.unit (s := S1024x2048) ![0, 0] ![1024, 2048] inb_S1024x2048_S1024x2048_0_0)) (View.ld (Val := Elt Ideal) (e' := EltTy.bf16) x1 (Rect.unit (s := S1024x2048) ![0, 0] ![1024, 2048] inb_S1024x2048_S1024x2048_0_0)) (View.ld (Val := Elt Ideal) (e' := EltTy.bf16) x2 (Rect.unit (s := S2048x512) ![0, 256] ![2048, 256] b1)) (View.ld (Val := Elt Ideal) (e' := EltTy.bf16) x3 (Rect.unit (s := S2048x512) ![0, 256] ![2048, 256] b1))) (View.ld (Val := Elt Ideal) (e' := EltTy.f32) x4 (Rect.unit (s := S1024x512) ![0, 256] ![1024, 256] b2)) x
      = part (mixN x0 x1 x2 x3 x4 (x 0)) (x 1).val := by
  have h1 : (x 1).val < 128 := (x 1).isLt
  rw [pay3_eq, pay9_eq]
  have e : ∀ (o b : ℕ) (hs : S1024x256.Slices ![0, o] S1024x128) (ho : o + 128 ≤ 256) (hob : b + o + 128 ≤ 512)
      (i1 : ∀ a : Fin 2, ![0, b] a + ![2048, 256] a ≤ S2048x512.size a) (i2 : ∀ a : Fin 2, ![0, b] a + ![1024, 256] a ≤ S1024x512.size a),
      extractStridedSlice S1024x128 ![0, o] (k0_pay7 (F := Ideal) (View.ld (Val := Elt Ideal) (e' := EltTy.bf16) x0 (Rect.unit (s := S1024x2048) ![0, 0] ![1024, 2048] inb_S1024x2048_S1024x2048_0_0)) (View.ld (Val := Elt Ideal) (e' := EltTy.bf16) x1 (Rect.unit (s := S1024x2048) ![0, 0] ![1024, 2048] inb_S1024x2048_S1024x2048_0_0)) (View.ld (Val := Elt Ideal) (e' := EltTy.bf16) x2 (Rect.unit (s := S2048x512) ![0, b] ![2048, 256] i1)) (View.ld (Val := Elt Ideal) (e' := EltTy.bf16) x3 (Rect.unit (s := S2048x512) ![0, b] ![2048, 256] i1)) (View.ld (Val := Elt Ideal) (e' := EltTy.f32) x4 (Rect.unit (s := S1024x512) ![0, b] ![1024, 256] i2))) hs x
        = mixN x0 x1 x2 x3 x4 (x 0) (b + o + (x 1).val) := fun o b hs ho hob i1 i2 => by
    refine Eq.trans ?_ (mixN_eq _ _ _ _ _ _ _ (by omega)).symm
    refine (lane_apply o hs _ x (by omega)).trans ?_
    exact chunk x0 x1 x2 x3 x4 b i1 i2 _ _ _ rfl (Nat.add_assoc b o _)
  rw [e 0 0 _ (by decide) (by decide), e 128 0 _ (by decide) (by decide), e 0 256 _ (by decide) (by decide), e 128 256 _ (by decide) (by decide)]
  unfold part
  simp only [Nat.zero_add, Nat.add_zero]

/-- The lanes' sums after a later column block's store. -/
theorem acc_canon (x0 x1 : FVec Ideal S1024x2048 .bf16) (x2 x3 : FVec Ideal S2048x512 .bf16) (x4 : FVec Ideal S1024x512 .f32) (xs0 : FVec Ideal S1024x128 .f32) (y : S1024x128.Idx) :
    View.canon (Val := Elt Ideal) (e := .f32) (s := S1024x128) [⟨Rect.unit (s := S1024x128) ![0, 0] ![1024, 128] inb_S1024x128_S1024x128_0_0,
      k0_pay5 (F := Ideal) (k0_pay9 (F := Ideal) (View.ld (Val := Elt Ideal) (e' := EltTy.bf16) x0 (Rect.unit (s := S1024x2048) ![0, 0] ![1024, 2048] inb_S1024x2048_S1024x2048_0_0)) (View.ld (Val := Elt Ideal) (e' := EltTy.bf16) x1 (Rect.unit (s := S1024x2048) ![0, 0] ![1024, 2048] inb_S1024x2048_S1024x2048_0_0)) (View.ld (Val := Elt Ideal) (e' := EltTy.bf16) x2 (Rect.unit (s := S2048x512) ![0, 0] ![2048, 256] inb_S2048x512_S2048x256_0_0)) (View.ld (Val := Elt Ideal) (e' := EltTy.bf16) x3 (Rect.unit (s := S2048x512) ![0, 0] ![2048, 256] inb_S2048x512_S2048x256_0_0)) (View.ld (Val := Elt Ideal) (e' := EltTy.f32) x4 (Rect.unit (s := S1024x512) ![0, 0] ![1024, 256] inb_S1024x512_S1024x256_0_0)))
      (k0_pay10 (F := Ideal) (View.ld (Val := Elt Ideal) (e' := EltTy.bf16) x0 (Rect.unit (s := S1024x2048) ![0, 0] ![1024, 2048] inb_S1024x2048_S1024x2048_0_0)) (View.ld (Val := Elt Ideal) (e' := EltTy.bf16) x1 (Rect.unit (s := S1024x2048) ![0, 0] ![1024, 2048] inb_S1024x2048_S1024x2048_0_0)) (View.ld (Val := Elt Ideal) (e' := EltTy.bf16) x2 (Rect.unit (s := S2048x512) ![0, 256] ![2048, 256] inb_S2048x512_S2048x256_0_256)) (View.ld (Val := Elt Ideal) (e' := EltTy.bf16) x3 (Rect.unit (s := S2048x512) ![0, 256] ![2048, 256] inb_S2048x512_S2048x256_0_256))) (View.ld (Val := Elt Ideal) (e' := EltTy.f32) x4 (Rect.unit (s := S1024x512) ![0, 256] ![1024, 256] inb_S1024x512_S1024x256_0_256))
        (View.ld (Val := Elt Ideal) (e' := EltTy.f32) xs0 (Rect.unit (s := S1024x128) ![0, 0] ![1024, 128] inb_S1024x128_S1024x128_0_0))⟩] y
      = xs0 y + part (mixN (R := 1024) (C := 512) x0 x1 x2 x3 x4 (y 0)) (y 1).val := by
  refine View.canon_apply_of_pieces (Val := Elt Ideal) (e := .f32) (S := S1024x128) (fun y => xs0 y + part (mixN (R := 1024) (C := 512) x0 x1 x2 x3 x4 (y 0)) (y 1).val) _ ?_ y ?_
  · intro pc hpc
    rcases List.mem_cons.mp hpc with rfl | hpc
    · intro x
      have hx : (Rect.unit (s := S1024x128) ![0, 0] ![1024, 128] inb_S1024x128_S1024x128_0_0).emb x = x := funext fun a => Fin.ext (by
        match a with
        | ⟨0, _⟩ => show 0 + 1 * (x 0).val = (x 0).val; omega
        | ⟨1, _⟩ => show 0 + 1 * (x 1).val = (x 1).val; omega)
      refine Eq.trans ?_ (congrArg (fun y : S1024x128.Idx => xs0 y + part (mixN (R := 1024) (C := 512) x0 x1 x2 x3 x4 (y 0)) (y 1).val) hx.symm)
      exact (congrFun (pay5_eq ..) x).trans (congrArg₂ (· + ·) (congrFun (ld_s xs0) x) (part_apply x0 x1 x2 x3 x4 _ _ _ _ x))
    nomatch hpc
  · exact View.cover_of_tiledL _ S1024x128.size (by sl_kernel_rfl) y

section Points

set_option maxRecDepth 16384

variable (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x128 .f32) (harg10 : arg10.IsWhole) (arg11 : Memref sig .tc .vmem S1024x128 .f32) (harg11 : arg11.IsWhole)
    (x0 x1 : Vec Ideal S1024x2048 .bf16) (x2 x3 : Vec Ideal S2048x512 .bf16) (x4 : Vec Ideal S1024x512 .f32) (x5 : Vec Ideal S1x1x512 .f32) (xs0 : Vec Ideal S1024x128 .f32)

/-- The value block a point of case A leaves. -/
theorem out6_A (hc0 : cond0_0 i) (hc1 : ¬cond0_1 i) (hc2 : ¬cond0_2 i) (y : S1024x512.Idx) :
    out0_A_6 (F := Ideal) c i arg2 harg2 arg3 harg3 arg4 harg4 arg5 harg5 arg6 harg6 arg7 harg7 arg8 harg8 arg9 harg9 arg10 harg10 arg11 harg11 hc0 hc1 hc2 x0 x1 x2 x3 x4 x5 y = mix (R := 1024) (C := 512) x0 x1 x2 x3 x4 (y 0) (y 1) := by
  unfold out0_A_6
  unfold kernelRun0_A
  dsimp only
  sl_unfold_words
  simp only [View.readAt_eq_ld, Memref.IsWhole.read_unread]
  rw [View.read_writes_junk_apply_eq_canon]
  refine View.canon_apply_of_pieces (Val := Elt Ideal) (e := .f32) (S := S1024x512) (fun y => mix (R := 1024) (C := 512) x0 x1 x2 x3 x4 (y 0) (y 1)) _ ?_ y ?_
  · intro pc hpc
    rcases List.mem_cons.mp hpc with rfl | hpc
    · intro x
      exact (congrFun (pay1_eq ..) x).trans (chunk x0 x1 x2 x3 x4 256 _ _ x _ _ (by show 0 + 1 * (x 0).val = _; omega) (by show 256 + 1 * (x 1).val = _; omega))
    rcases List.mem_cons.mp hpc with rfl | hpc
    · intro x
      exact chunk x0 x1 x2 x3 x4 0 _ _ x _ _ (by show 0 + 1 * (x 0).val = _; omega) (by show 0 + 1 * (x 1).val = _; omega)
    nomatch hpc
  · exact View.cover_of_tiledL (s := S1024x512) _ S1024x256.size (by sl_kernel_rfl) y

/-- The gained block a point of case A leaves. -/
theorem out7_A (hc0 : cond0_0 i) (hc1 : ¬cond0_1 i) (hc2 : ¬cond0_2 i) (y : S1024x512.Idx) :
    out0_A_7 (F := Ideal) c i arg2 harg2 arg3 harg3 arg4 harg4 arg5 harg5 arg6 harg6 arg7 harg7 arg8 harg8 arg9 harg9 arg10 harg10 arg11 harg11 hc0 hc1 hc2 x0 x1 x2 x3 x4 x5 y = mix (R := 1024) (C := 512) x0 x1 x2 x3 x4 (y 0) (y 1) * x5 (ix3 (0 : Fin 1) (0 : Fin 1) (y 1 : Fin 512)) := by
  unfold out0_A_7
  unfold kernelRun0_A
  dsimp only
  sl_unfold_words
  simp only [View.readAt_eq_ld, Memref.IsWhole.read_unread]
  rw [View.read_writes_junk_apply_eq_canon]
  refine View.canon_apply_of_pieces (Val := Elt Ideal) (e := .bf16) (S := S1024x512) (fun y => mix (R := 1024) (C := 512) x0 x1 x2 x3 x4 (y 0) (y 1) * x5 (ix3 (0 : Fin 1) (0 : Fin 1) (y 1 : Fin 512))) _ ?_ y ?_
  · intro pc hpc
    rcases List.mem_cons.mp hpc with rfl | hpc
    · intro x
      refine (pay2_eq _ _ _ _ _ _ x).trans (congrArg₂ (· * ·) (chunk x0 x1 x2 x3 x4 256 _ _ x _ _ (by show 0 + 1 * (x 0).val = _; omega) (by show 256 + 1 * (x 1).val = _; omega)) ?_)
      show x5 _ = x5 _
      refine congrArg x5 (funext fun a => Fin.ext ?_)
      match a with
      | ⟨0, _⟩ => rfl
      | ⟨1, _⟩ => rfl
      | ⟨2, _⟩ => rfl
    rcases List.mem_cons.mp hpc with rfl | hpc
    · intro x
      refine (pay8_eq _ _ _ _ _ _ x).trans (congrArg₂ (· * ·) (chunk x0 x1 x2 x3 x4 0 _ _ x _ _ (by show 0 + 1 * (x 0).val = _; omega) (by show 0 + 1 * (x 1).val = _; omega)) ?_)
      show x5 _ = x5 _
      refine congrArg x5 (funext fun a => Fin.ext ?_)
      match a with
      | ⟨0, _⟩ => rfl
      | ⟨1, _⟩ => rfl
      | ⟨2, _⟩ => rfl
    nomatch hpc
  · exact View.cover_of_tiledL (s := S1024x512) _ S1024x256.size (by sl_kernel_rfl) y

/-- The lanes' sums a point of case A leaves. -/
theorem sout_A (hc0 : cond0_0 i) (hc1 : ¬cond0_1 i) (hc2 : ¬cond0_2 i) (y : S1024x128.Idx) :
    sout0_A_0 (F := Ideal) c i arg2 harg2 arg3 harg3 arg4 harg4 arg5 harg5 arg6 harg6 arg7 harg7 arg8 harg8 arg9 harg9 arg10 harg10 arg11 harg11 hc0 hc1 hc2 x0 x1 x2 x3 x4 x5 y = part (mixN (R := 1024) (C := 512) x0 x1 x2 x3 x4 (y 0)) (y 1).val := by
  unfold sout0_A_0
  unfold kernelRun0_A
  dsimp only
  sl_unfold_words
  simp only [View.readAt_eq_ld, Memref.IsWhole.read_unread]
  rw [View.read_writes_junk_apply_eq_canon]
  refine View.canon_apply_of_pieces (Val := Elt Ideal) (e := .f32) (S := S1024x128) (fun y => part (mixN (R := 1024) (C := 512) x0 x1 x2 x3 x4 (y 0)) (y 1).val) _ ?_ y ?_
  · intro pc hpc
    rcases List.mem_cons.mp hpc with rfl | hpc
    · intro x
      have hx : (Rect.unit (s := S1024x128) ![0, 0] ![1024, 128] inb_S1024x128_S1024x128_0_0).emb x = x := funext fun a => Fin.ext (by
        match a with
        | ⟨0, _⟩ => show 0 + 1 * (x 0).val = (x 0).val; omega
        | ⟨1, _⟩ => show 0 + 1 * (x 1).val = (x 1).val; omega)
      refine Eq.trans ?_ (congrArg (fun y : S1024x128.Idx => part (mixN (R := 1024) (C := 512) x0 x1 x2 x3 x4 (y 0)) (y 1).val) hx.symm)
      exact (congrFun (pay4_eq ..) x).trans (part_apply x0 x1 x2 x3 x4 _ _ _ _ x)
    nomatch hpc
  · exact View.cover_of_tiledL _ S1024x128.size (by sl_kernel_rfl) y

/-- The value block a point of case B leaves. -/
theorem out6_B (hc0 : ¬cond0_0 i) (hc1 : cond0_1 i) (hc2 : ¬cond0_2 i) (y : S1024x512.Idx) :
    out0_B_6 (F := Ideal) c i arg2 harg2 arg3 harg3 arg4 harg4 arg5 harg5 arg6 harg6 arg7 harg7 arg8 harg8 arg9 harg9 arg10 harg10 arg11 harg11 hc0 hc1 hc2 x0 x1 x2 x3 x4 x5 xs0 y = mix (R := 1024) (C := 512) x0 x1 x2 x3 x4 (y 0) (y 1) := by
  unfold out0_B_6
  unfold kernelRun0_B
  dsimp only
  sl_unfold_words
  simp only [View.readAt_eq_ld, Memref.IsWhole.read_unread]
  rw [View.read_writes_junk_apply_eq_canon]
  refine View.canon_apply_of_pieces (Val := Elt Ideal) (e := .f32) (S := S1024x512) (fun y => mix (R := 1024) (C := 512) x0 x1 x2 x3 x4 (y 0) (y 1)) _ ?_ y ?_
  · intro pc hpc
    rcases List.mem_cons.mp hpc with rfl | hpc
    · intro x
      exact (congrFun (pay1_eq ..) x).trans (chunk x0 x1 x2 x3 x4 256 _ _ x _ _ (by show 0 + 1 * (x 0).val = _; omega) (by show 256 + 1 * (x 1).val = _; omega))
    rcases List.mem_cons.mp hpc with rfl | hpc
    · intro x
      exact chunk x0 x1 x2 x3 x4 0 _ _ x _ _ (by show 0 + 1 * (x 0).val = _; omega) (by show 0 + 1 * (x 1).val = _; omega)
    nomatch hpc
  · exact View.cover_of_tiledL (s := S1024x512) _ S1024x256.size (by sl_kernel_rfl) y

/-- The gained block a point of case B leaves. -/
theorem out7_B (hc0 : ¬cond0_0 i) (hc1 : cond0_1 i) (hc2 : ¬cond0_2 i) (y : S1024x512.Idx) :
    out0_B_7 (F := Ideal) c i arg2 harg2 arg3 harg3 arg4 harg4 arg5 harg5 arg6 harg6 arg7 harg7 arg8 harg8 arg9 harg9 arg10 harg10 arg11 harg11 hc0 hc1 hc2 x0 x1 x2 x3 x4 x5 xs0 y = mix (R := 1024) (C := 512) x0 x1 x2 x3 x4 (y 0) (y 1) * x5 (ix3 (0 : Fin 1) (0 : Fin 1) (y 1 : Fin 512)) := by
  unfold out0_B_7
  unfold kernelRun0_B
  dsimp only
  sl_unfold_words
  simp only [View.readAt_eq_ld, Memref.IsWhole.read_unread]
  rw [View.read_writes_junk_apply_eq_canon]
  refine View.canon_apply_of_pieces (Val := Elt Ideal) (e := .bf16) (S := S1024x512) (fun y => mix (R := 1024) (C := 512) x0 x1 x2 x3 x4 (y 0) (y 1) * x5 (ix3 (0 : Fin 1) (0 : Fin 1) (y 1 : Fin 512))) _ ?_ y ?_
  · intro pc hpc
    rcases List.mem_cons.mp hpc with rfl | hpc
    · intro x
      refine (pay2_eq _ _ _ _ _ _ x).trans (congrArg₂ (· * ·) (chunk x0 x1 x2 x3 x4 256 _ _ x _ _ (by show 0 + 1 * (x 0).val = _; omega) (by show 256 + 1 * (x 1).val = _; omega)) ?_)
      show x5 _ = x5 _
      refine congrArg x5 (funext fun a => Fin.ext ?_)
      match a with
      | ⟨0, _⟩ => rfl
      | ⟨1, _⟩ => rfl
      | ⟨2, _⟩ => rfl
    rcases List.mem_cons.mp hpc with rfl | hpc
    · intro x
      refine (pay8_eq _ _ _ _ _ _ x).trans (congrArg₂ (· * ·) (chunk x0 x1 x2 x3 x4 0 _ _ x _ _ (by show 0 + 1 * (x 0).val = _; omega) (by show 0 + 1 * (x 1).val = _; omega)) ?_)
      show x5 _ = x5 _
      refine congrArg x5 (funext fun a => Fin.ext ?_)
      match a with
      | ⟨0, _⟩ => rfl
      | ⟨1, _⟩ => rfl
      | ⟨2, _⟩ => rfl
    nomatch hpc
  · exact View.cover_of_tiledL (s := S1024x512) _ S1024x256.size (by sl_kernel_rfl) y

/-- The lanes' sums a point of case B leaves. -/
theorem sout_B (hc0 : ¬cond0_0 i) (hc1 : cond0_1 i) (hc2 : ¬cond0_2 i) (y : S1024x128.Idx) :
    sout0_B_0 (F := Ideal) c i arg2 harg2 arg3 harg3 arg4 harg4 arg5 harg5 arg6 harg6 arg7 harg7 arg8 harg8 arg9 harg9 arg10 harg10 arg11 harg11 hc0 hc1 hc2 x0 x1 x2 x3 x4 x5 xs0 y = xs0 y + part (mixN (R := 1024) (C := 512) x0 x1 x2 x3 x4 (y 0)) (y 1).val := by
  unfold sout0_B_0
  unfold kernelRun0_B
  dsimp only
  sl_unfold_words
  simp only [View.readAt_eq_ld, Memref.IsWhole.read_unread]
  rw [View.read_writes_junk_apply_eq_canon]
  refine View.canon_apply_of_pieces (Val := Elt Ideal) (e := .f32) (S := S1024x128) (fun y => xs0 y + part (mixN (R := 1024) (C := 512) x0 x1 x2 x3 x4 (y 0)) (y 1).val) _ ?_ y ?_
  · intro pc hpc
    rcases List.mem_cons.mp hpc with rfl | hpc
    · intro x
      have hx : (Rect.unit (s := S1024x128) ![0, 0] ![1024, 128] inb_S1024x128_S1024x128_0_0).emb x = x := funext fun a => Fin.ext (by
        match a with
        | ⟨0, _⟩ => show 0 + 1 * (x 0).val = (x 0).val; omega
        | ⟨1, _⟩ => show 0 + 1 * (x 1).val = (x 1).val; omega)
      refine Eq.trans ?_ (congrArg (fun y : S1024x128.Idx => xs0 y + part (mixN (R := 1024) (C := 512) x0 x1 x2 x3 x4 (y 0)) (y 1).val) hx.symm)
      refine (congrFun (pay5_eq ..) x).trans (congrArg₂ (· + ·) (congrFun (ld_s xs0) x) (part_apply x0 x1 x2 x3 x4 _ _ _ _ x))
    nomatch hpc
  · exact View.cover_of_tiledL _ S1024x128.size (by sl_kernel_rfl) y

/-- The value block a point of case C leaves. -/
theorem out6_C (hc0 : ¬cond0_0 i) (hc1 : cond0_1 i) (hc2 : cond0_2 i) (y : S1024x512.Idx) :
    out0_C_6 (F := Ideal) c i arg2 harg2 arg3 harg3 arg4 harg4 arg5 harg5 arg6 harg6 arg7 harg7 arg8 harg8 arg9 harg9 arg10 harg10 arg11 harg11 hc0 hc1 hc2 x0 x1 x2 x3 x4 x5 xs0 y = mix (R := 1024) (C := 512) x0 x1 x2 x3 x4 (y 0) (y 1) := by
  unfold out0_C_6
  unfold kernelRun0_C
  dsimp only
  sl_unfold_words
  simp only [View.readAt_eq_ld, Memref.IsWhole.read_unread]
  rw [View.read_writes_junk_apply_eq_canon]
  refine View.canon_apply_of_pieces (Val := Elt Ideal) (e := .f32) (S := S1024x512) (fun y => mix (R := 1024) (C := 512) x0 x1 x2 x3 x4 (y 0) (y 1)) _ ?_ y ?_
  · intro pc hpc
    rcases List.mem_cons.mp hpc with rfl | hpc
    · intro x
      exact (congrFun (pay1_eq ..) x).trans (chunk x0 x1 x2 x3 x4 256 _ _ x _ _ (by show 0 + 1 * (x 0).val = _; omega) (by show 256 + 1 * (x 1).val = _; omega))
    rcases List.mem_cons.mp hpc with rfl | hpc
    · intro x
      exact chunk x0 x1 x2 x3 x4 0 _ _ x _ _ (by show 0 + 1 * (x 0).val = _; omega) (by show 0 + 1 * (x 1).val = _; omega)
    nomatch hpc
  · exact View.cover_of_tiledL (s := S1024x512) _ S1024x256.size (by sl_kernel_rfl) y

/-- The gained block a point of case C leaves. -/
theorem out7_C (hc0 : ¬cond0_0 i) (hc1 : cond0_1 i) (hc2 : cond0_2 i) (y : S1024x512.Idx) :
    out0_C_7 (F := Ideal) c i arg2 harg2 arg3 harg3 arg4 harg4 arg5 harg5 arg6 harg6 arg7 harg7 arg8 harg8 arg9 harg9 arg10 harg10 arg11 harg11 hc0 hc1 hc2 x0 x1 x2 x3 x4 x5 xs0 y = mix (R := 1024) (C := 512) x0 x1 x2 x3 x4 (y 0) (y 1) * x5 (ix3 (0 : Fin 1) (0 : Fin 1) (y 1 : Fin 512)) := by
  unfold out0_C_7
  unfold kernelRun0_C
  dsimp only
  sl_unfold_words
  simp only [View.readAt_eq_ld, Memref.IsWhole.read_unread]
  rw [View.read_writes_junk_apply_eq_canon]
  refine View.canon_apply_of_pieces (Val := Elt Ideal) (e := .bf16) (S := S1024x512) (fun y => mix (R := 1024) (C := 512) x0 x1 x2 x3 x4 (y 0) (y 1) * x5 (ix3 (0 : Fin 1) (0 : Fin 1) (y 1 : Fin 512))) _ ?_ y ?_
  · intro pc hpc
    rcases List.mem_cons.mp hpc with rfl | hpc
    · intro x
      refine (pay2_eq _ _ _ _ _ _ x).trans (congrArg₂ (· * ·) (chunk x0 x1 x2 x3 x4 256 _ _ x _ _ (by show 0 + 1 * (x 0).val = _; omega) (by show 256 + 1 * (x 1).val = _; omega)) ?_)
      show x5 _ = x5 _
      refine congrArg x5 (funext fun a => Fin.ext ?_)
      match a with
      | ⟨0, _⟩ => rfl
      | ⟨1, _⟩ => rfl
      | ⟨2, _⟩ => rfl
    rcases List.mem_cons.mp hpc with rfl | hpc
    · intro x
      refine (pay8_eq _ _ _ _ _ _ x).trans (congrArg₂ (· * ·) (chunk x0 x1 x2 x3 x4 0 _ _ x _ _ (by show 0 + 1 * (x 0).val = _; omega) (by show 0 + 1 * (x 1).val = _; omega)) ?_)
      show x5 _ = x5 _
      refine congrArg x5 (funext fun a => Fin.ext ?_)
      match a with
      | ⟨0, _⟩ => rfl
      | ⟨1, _⟩ => rfl
      | ⟨2, _⟩ => rfl
    nomatch hpc
  · exact View.cover_of_tiledL (s := S1024x512) _ S1024x256.size (by sl_kernel_rfl) y

/-- The lanes' sums a point of case C leaves. -/
theorem sout_C (hc0 : ¬cond0_0 i) (hc1 : cond0_1 i) (hc2 : cond0_2 i) (y : S1024x128.Idx) :
    sout0_C_0 (F := Ideal) c i arg2 harg2 arg3 harg3 arg4 harg4 arg5 harg5 arg6 harg6 arg7 harg7 arg8 harg8 arg9 harg9 arg10 harg10 arg11 harg11 hc0 hc1 hc2 x0 x1 x2 x3 x4 x5 xs0 y = xs0 y + part (mixN (R := 1024) (C := 512) x0 x1 x2 x3 x4 (y 0)) (y 1).val := by
  unfold sout0_C_0
  unfold kernelRun0_C
  dsimp only
  sl_unfold_words
  simp only [View.readAt_eq_ld, Memref.IsWhole.read_unread]
  rw [View.read_writes_junk_apply_eq_canon]
  refine View.canon_apply_of_pieces (Val := Elt Ideal) (e := .f32) (S := S1024x128) (fun y => xs0 y + part (mixN (R := 1024) (C := 512) x0 x1 x2 x3 x4 (y 0)) (y 1).val) _ ?_ y ?_
  · intro pc hpc
    rcases List.mem_cons.mp hpc with rfl | hpc
    · intro x
      have hx : (Rect.unit (s := S1024x128) ![0, 0] ![1024, 128] inb_S1024x128_S1024x128_0_0).emb x = x := funext fun a => Fin.ext (by
        match a with
        | ⟨0, _⟩ => show 0 + 1 * (x 0).val = (x 0).val; omega
        | ⟨1, _⟩ => show 0 + 1 * (x 1).val = (x 1).val; omega)
      refine Eq.trans ?_ (congrArg (fun y : S1024x128.Idx => xs0 y + part (mixN (R := 1024) (C := 512) x0 x1 x2 x3 x4 (y 0)) (y 1).val) hx.symm)
      refine (congrFun (pay5_eq ..) x).trans (congrArg₂ (· + ·) (congrFun (ld_s xs0) x) (part_apply x0 x1 x2 x3 x4 _ _ _ _ x))
    nomatch hpc
  · exact View.cover_of_tiledL _ S1024x128.size (by sl_kernel_rfl) y

/-- The row scale the last column block's point leaves. -/
theorem out8_C (hc0 : ¬cond0_0 i) (hc1 : cond0_1 i) (hc2 : cond0_2 i) (y : S1024x128.Idx) :
    out0_C_8 (F := Ideal) c i arg2 harg2 arg3 harg3 arg4 harg4 arg5 harg5 arg6 harg6 arg7 harg7 arg8 harg8 arg9 harg9 arg10 harg10 arg11 harg11 hc0 hc1 hc2 x0 x1 x2 x3 x4 x5 xs0 y = scale (∑ l : Fin 128, (xs0 (ix2 (y 0 : Fin 1024) l) + part (mixN (R := 1024) (C := 512) x0 x1 x2 x3 x4 (y 0)) l.val)) := by
  unfold out0_C_8
  unfold kernelRun0_C
  dsimp only
  sl_unfold_words
  simp only [View.readAt_eq_ld, Memref.IsWhole.read_unread, View.readCov_eq_canon']
  rw [View.read_writes_junk_apply_eq_canon]
  refine View.canon_apply_of_pieces (Val := Elt Ideal) (e := .f32) (S := S1024x128) (fun y => scale (∑ l : Fin 128, (xs0 (ix2 (y 0 : Fin 1024) l) + part (mixN (R := 1024) (C := 512) x0 x1 x2 x3 x4 (y 0)) l.val))) _ ?_ y ?_
  · intro pc hpc
    rcases List.mem_cons.mp hpc with rfl | hpc
    · intro x
      have hx : (Rect.unit (s := S1024x128) ![0, 0] ![1024, 128] inb_S1024x128_S1024x128_0_0).emb x = x := funext fun a => Fin.ext (by
        match a with
        | ⟨0, _⟩ => show 0 + 1 * (x 0).val = (x 0).val; omega
        | ⟨1, _⟩ => show 0 + 1 * (x 1).val = (x 1).val; omega)
      refine Eq.trans ?_ (congrArg (fun y : S1024x128.Idx => scale (∑ l : Fin 128, (xs0 (ix2 (y 0 : Fin 1024) l) + part (mixN (R := 1024) (C := 512) x0 x1 x2 x3 x4 (y 0)) l.val))) hx.symm)
      refine (pay6_eq _ x).trans (congrArg scale (Finset.sum_congr rfl fun l _ => ?_))
      refine (acc_canon x0 x1 x2 x3 x4 xs0 _).trans ?_
      have hz : (Rect.unit (s := S1024x128) ![0, 0] ![1024, 128] inb_S1024x128_S1024x128_0_0).toLoadRect.idx (ix2 (x 0 : Fin 1024) l : S1024x128.Idx) = (ix2 (x 0 : Fin 1024) l : S1024x128.Idx) := funext fun a => Fin.ext (by
        match a with
        | ⟨0, _⟩ => show 0 + 1 * (x 0).val = (x 0).val; omega
        | ⟨1, _⟩ => show 0 + 1 * l.val = l.val; omega)
      exact congrArg (fun z : S1024x128.Idx => xs0 z + part (mixN (R := 1024) (C := 512) x0 x1 x2 x3 x4 (z 0)) (z 1).val) hz
    nomatch hpc
  · exact View.cover_of_tiledL _ S1024x128.size (by sl_kernel_rfl) y

end Points

variable (m : (ℓ : Loc nD τ sig) → Buf (Elt Ideal) ℓ)

/-- How the windows' blocks lie at a grid point, decided over the points. -/
theorem idx_facts : ∀ t : Fin cfg0.N,
    win0_0.index t 0 = t.val / 8 ∧ win0_0.index t 1 = 0 ∧ win0_1.index t 0 = t.val / 8 ∧ win0_1.index t 1 = 0
    ∧ win0_2.index t 0 = 0 ∧ win0_2.index t 1 = t.val % 8 ∧ win0_3.index t 0 = 1 ∧ win0_3.index t 1 = t.val % 8
    ∧ win0_4.index t 0 = t.val / 8 ∧ win0_4.index t 1 = t.val % 8
    ∧ win0_5.index t 0 = 0 ∧ win0_5.index t 1 = 0 ∧ win0_5.index t 2 = t.val % 8
    ∧ win0_6.index t 0 = t.val / 8 ∧ win0_6.index t 1 = t.val % 8
    ∧ win0_7.index t 0 = t.val / 8 ∧ win0_7.index t 1 = t.val % 8
    ∧ win0_8.index t 0 = t.val / 8 ∧ win0_8.index t 1 = 0 ∧ t.val < 64 :=
  (by decide +kernel : ∀ t : Fin grid0.N, _)

/-- The gains as the launch passes them: one row a layer. -/
theorem V_gain (c : Dev nD) (a : Fin 4) (b : Fin 1) (k : Fin 4096) :
    V m c main_v0 (ix3 a b k : S4x1x4096.Idx) = m ((c : Thread nD τ).loc main_arg4) (ix2 a k : S4x4096.Idx) := by
  have e : V m c main_v0 = shapeCast S4x1x4096 (m ((c : Thread nD τ).loc main_arg4)) shapeCasts_S4x4096_S4x1x4096 := rfl
  rw [e]
  refine shapeCast_apply _ shapeCasts_S4x4096_S4x1x4096 _ _ ?_
  rw [Shape.rowMajor_val_two, Shape.rowMajor_val_three]
  show a.val * 4096 + k.val = (a.val * 1 + b.val) * 4096 + k.val
  have := b.isLt
  omega

/-- The weight's upper rows, the first operand's. -/
def upper (w : FVec Ideal S4096x4096 .bf16) : FVec Ideal ⟨2, ![2048, 4096]⟩ .bf16 :=
  fun i => w (ix2 (⟨(i 0).val, Nat.lt_of_lt_of_le (i 0).isLt (by decide)⟩ : Fin 4096) (i 1 : Fin 4096))

/-- The weight's lower rows, the second operand's. -/
def lower (w : FVec Ideal S4096x4096 .bf16) : FVec Ideal ⟨2, ![2048, 4096]⟩ .bf16 :=
  fun i => w (ix2 (⟨2048 + (i 0).val, Nat.add_lt_add_left (i 0).isLt 2048⟩ : Fin 4096) (i 1 : Fin 4096))

/-- The value over the whole arrays. -/
abbrev Y (c : Dev nD) (r : Fin 8192) (j : Fin 4096) : EReal :=
  mix (R := 8192) (C := 4096) (m ((c : Thread nD τ).loc main_arg0)) (m ((c : Thread nD τ).loc main_arg1)) (upper (m ((c : Thread nD τ).loc main_arg2)))
    (lower (m ((c : Thread nD τ).loc main_arg2))) (m ((c : Thread nD τ).loc main_arg3)) r j

/-- The value over the naturals, nothing off the array. -/
def YN (c : Dev nD) (r j : ℕ) : EReal := if h : r < 8192 ∧ j < 4096 then Y m c ⟨r, h.1⟩ ⟨j, h.2⟩ else 0

/-- On the array it is the value. -/
theorem YN_eq (c : Dev nD) (r : Fin 8192) (j : Fin 4096) : YN m c r.val j.val = Y m c r j := dif_pos ⟨r.isLt, j.isLt⟩

/-- A point's block of the value is the whole array's there. -/
theorem blockN (c : Dev nD) (t : Fin cfg0.N) (r : Fin 1024) (j : Fin 512) :
    mix (R := 1024) (C := 512) (iblk m c 0 t) (iblk m c 1 t) (iblk m c 2 t) (iblk m c 3 t) (iblk m c 4 t) r j = YN m c (1024 * (t.val / 8) + r.val) (512 * (t.val % 8) + j.val) := by
  obtain ⟨h00, h01, h10, h11, h20, h21, h30, h31, h40, h41, -, -, -, -, -, -, -, -, -, ht⟩ := idx_facts t
  have hr := r.isLt
  have hj := j.isLt
  unfold YN
  rw [dif_pos ⟨by omega, by omega⟩]
  unfold Y mix
  refine congrArg₂ (· + ·) ?_ (congrArg₂ (· + ·) (Finset.sum_congr rfl fun k _ => congrArg₂ (· * ·) ?_ ?_) (Finset.sum_congr rfl fun k _ => congrArg₂ (· * ·) ?_ ?_))
  · show V m c main_arg3 ((win0_4.rect t).emb (ix2 r j : S1024x512.Idx)) = _
    rw [V_main_arg3]
    refine congrArg _ (funext fun a => Fin.ext ?_)
    match a with
    | ⟨0, _⟩ => show win0_4.index t 0 * 1024 + 1 * r.val = 1024 * (t.val / 8) + r.val; rw [h40]; omega
    | ⟨1, _⟩ => show win0_4.index t 1 * 512 + 1 * j.val = 512 * (t.val % 8) + j.val; rw [h41]; omega
  · show V m c main_arg0 ((win0_0.rect t).emb (ix2 r k : S1024x2048.Idx)) = _
    rw [V_main_arg0]
    refine congrArg _ (funext fun a => Fin.ext ?_)
    match a with
    | ⟨0, _⟩ => show win0_0.index t 0 * 1024 + 1 * r.val = 1024 * (t.val / 8) + r.val; rw [h00]; omega
    | ⟨1, _⟩ => show win0_0.index t 1 * 2048 + 1 * k.val = k.val; rw [h01]; omega
  · show V m c main_arg2 ((win0_2.rect t).emb (ix2 k j : S2048x512.Idx)) = _
    rw [V_main_arg2]
    unfold upper
    refine congrArg _ (funext fun a => Fin.ext ?_)
    match a with
    | ⟨0, _⟩ => show win0_2.index t 0 * 2048 + 1 * k.val = k.val; rw [h20]; omega
    | ⟨1, _⟩ => show win0_2.index t 1 * 512 + 1 * j.val = 512 * (t.val % 8) + j.val; rw [h21]; omega
  · show V m c main_arg1 ((win0_1.rect t).emb (ix2 r k : S1024x2048.Idx)) = _
    rw [V_main_arg1]
    refine congrArg _ (funext fun a => Fin.ext ?_)
    match a with
    | ⟨0, _⟩ => show win0_1.index t 0 * 1024 + 1 * r.val = 1024 * (t.val / 8) + r.val; rw [h10]; omega
    | ⟨1, _⟩ => show win0_1.index t 1 * 2048 + 1 * k.val = k.val; rw [h11]; omega
  · show V m c main_arg2 ((win0_3.rect t).emb (ix2 k j : S2048x512.Idx)) = _
    rw [V_main_arg2]
    unfold lower
    refine congrArg _ (funext fun a => Fin.ext ?_)
    match a with
    | ⟨0, _⟩ => show win0_3.index t 0 * 2048 + 1 * k.val = 2048 + k.val; rw [h30]; omega
    | ⟨1, _⟩ => show win0_3.index t 1 * 512 + 1 * j.val = 512 * (t.val % 8) + j.val; rw [h31]; omega

/-- A point's part of the lanes' sums, from the whole array. -/
theorem part_block (c : Dev nD) (t : Fin cfg0.N) (r : Fin 1024) (l : Fin 128) :
    part (mixN (R := 1024) (C := 512) (iblk m c 0 t) (iblk m c 1 t) (iblk m c 2 t) (iblk m c 3 t) (iblk m c 4 t) r) l.val
      = part (YN m c (1024 * (t.val / 8) + r.val)) (512 * (t.val % 8) + l.val) := by
  have hl := l.isLt
  have e : ∀ o : ℕ, o + l.val < 512 → mixN (R := 1024) (C := 512) (iblk m c 0 t) (iblk m c 1 t) (iblk m c 2 t) (iblk m c 3 t) (iblk m c 4 t) r (o + l.val)
      = YN m c (1024 * (t.val / 8) + r.val) (o + (512 * (t.val % 8) + l.val)) := fun o ho => by
    rw [mixN_eq _ _ _ _ _ _ _ ho, blockN]
    exact congrArg _ (Nat.add_left_comm _ _ _)
  refine part_congr ?_ (e 128 (by omega)) (e 256 (by omega)) (e 384 (by omega))
  have := e 0 (by omega)
  simpa only [Nat.zero_add] using this

/-- The lanes' sums after a row block's first point. -/
theorem lanes_A (c : Dev nD) (t : Fin cfg0.N) (h0 : t.val % 8 = 0) (y : S1024x128.Idx) :
    (outsAt0 m c t.val t.isLt).2.2.2 y = part (YN m c (1024 * (t.val / 8) + (y 0).val)) (512 * (t.val % 8) + (y 1).val) := by
  rw [outsAt0_A m c t h0 (by omega) (by omega)]
  dsimp only
  exact (sout_A ..).trans (part_block m c t (y 0) (y 1))

/-- The lanes' sums after a later point: what the point before left and this point's part. -/
theorem lanes_BC (c : Dev nD) (t : Fin cfg0.N) (h0 : ¬t.val % 8 = 0) (y : S1024x128.Idx) :
    (outsAt0 m c t.val t.isLt).2.2.2 y = (outsAt0 m c (t.val - 1) (Nat.lt_of_le_of_lt (Nat.sub_le _ _) t.isLt)).2.2.2 y
      + part (YN m c (1024 * (t.val / 8) + (y 0).val)) (512 * (t.val % 8) + (y 1).val) := by
  by_cases h2 : t.val % 8 = 7
  · rw [outsAt0_C m c t h0 (by omega) h2]
    dsimp only
    exact (sout_C ..).trans (congrArg (_ + ·) (part_block m c t (y 0) (y 1)))
  · rw [outsAt0_B m c t h0 (by omega) h2]
    dsimp only
    exact (sout_B ..).trans (congrArg (_ + ·) (part_block m c t (y 0) (y 1)))

/-- The lanes' sums after a point: the parts of the row block's column blocks so far. -/
theorem lanes (c : Dev nD) : ∀ (n : ℕ) (hn : n < cfg0.N) (y : S1024x128.Idx),
    (outsAt0 m c n hn).2.2.2 y = ∑ j ∈ Finset.range (n % 8 + 1), part (YN m c (1024 * (n / 8) + (y 0).val)) (512 * j + (y 1).val) := by
  intro n
  induction n with
  | zero => exact fun hn y => (lanes_A m c ⟨0, hn⟩ rfl y).trans (Finset.sum_range_one (fun j => part (YN m c (1024 * (0 / 8) + (y 0).val)) (512 * j + (y 1).val))).symm
  | succ n ih =>
    intro hn y
    by_cases h0 : (n + 1) % 8 = 0
    · refine (lanes_A m c ⟨n + 1, hn⟩ h0 y).trans ?_
      show part (YN m c (1024 * ((n + 1) / 8) + (y 0).val)) (512 * ((n + 1) % 8) + (y 1).val) = _
      rw [h0]
      exact (Finset.sum_range_one (fun j => part (YN m c (1024 * ((n + 1) / 8) + (y 0).val)) (512 * j + (y 1).val))).symm
    · have hm : n % 8 + 1 = (n + 1) % 8 := by omega
      have hd : n / 8 = (n + 1) / 8 := by omega
      have st := ih (Nat.lt_of_succ_lt hn) y
      rw [hm, hd] at st
      refine (lanes_BC m c ⟨n + 1, hn⟩ h0 y).trans ((congrArg (· + _) st).trans ?_)
      exact (Finset.sum_range_succ (fun j => part (YN m c (1024 * ((n + 1) / 8) + (y 0).val)) (512 * j + (y 1).val)) ((n + 1) % 8)).symm

/-- The value's array. -/
abbrev G6 (c : Dev nD) : Buf (Elt Ideal) ((c : Thread nD τ).loc main_v1_0) := fun y => Y m c (y 0) (y 1)

/-- The gained copy's array. -/
abbrev G7 (c : Dev nD) : Buf (Elt Ideal) ((c : Thread nD τ).loc main_v1_1) :=
  fun y => Y m c (y 0) (y 1) * m ((c : Thread nD τ).loc main_arg4) (ix2 (0 : Fin 4) (y 1 : Fin 4096) : S4x4096.Idx)

/-- The row scale's array. -/
abbrev G8 (c : Dev nD) : Buf (Elt Ideal) ((c : Thread nD τ).loc main_v1_2) :=
  fun y => scale (∑ k : Fin 4096, Y m c (y 0) k * Y m c (y 0) k)

/-- A point's block of the value, by the array's own indices. -/
theorem block6 (c : Dev nD) (t : Fin cfg0.N) (y : S1024x512.Idx) :
    mix (R := 1024) (C := 512) (iblk m c 0 t) (iblk m c 1 t) (iblk m c 2 t) (iblk m c 3 t) (iblk m c 4 t) (y 0) (y 1) = Y m c ((win0_6.rect t).emb y 0) ((win0_6.rect t).emb y 1) := by
  obtain ⟨-, -, -, -, -, -, -, -, -, -, -, -, -, h60, h61, -⟩ := idx_facts t
  refine (blockN m c t (y 0) (y 1)).trans (Eq.trans ?_ (YN_eq m c _ _))
  refine congrArg₂ (YN m c) ?_ ?_
  · show _ = win0_6.index t 0 * 1024 + 1 * (y 0).val; rw [h60]; omega
  · show _ = win0_6.index t 1 * 512 + 1 * (y 1).val; rw [h61]; omega

/-- What a point writes back of the value is its block of the whole array's. -/
theorem flushed6_eq (c : Dev nD) (t : Fin cfg0.N) : (dats m 0 c).flushed 6 t = ((cfg0.win 6).blk t).view.read (Elt Ideal) (G6 m c) := by
  by_cases h0 : t.val % 8 = 0
  · rw [Value.flushed6_A m c t h0 (by omega) (by omega)]
    exact funext fun y => (out6_A .. : _ = _).trans (block6 m c t y)
  by_cases h2 : t.val % 8 = 7
  · rw [Value.flushed6_C m c t h0 (by omega) h2]
    exact funext fun y => (out6_C .. : _ = _).trans (block6 m c t y)
  · rw [Value.flushed6_B m c t h0 (by omega) h2]
    exact funext fun y => (out6_B .. : _ = _).trans (block6 m c t y)

/-- A point's block of the gained copy, by the array's own indices. -/
theorem block7 (c : Dev nD) (t : Fin cfg0.N) (y : S1024x512.Idx) :
    mix (R := 1024) (C := 512) (iblk m c 0 t) (iblk m c 1 t) (iblk m c 2 t) (iblk m c 3 t) (iblk m c 4 t) (y 0) (y 1) * (iblk m c 5 t) (ix3 (0 : Fin 1) (0 : Fin 1) (y 1 : Fin 512) : S1x1x512.Idx)
      = G7 m c ((win0_7.rect t).emb y) := by
  obtain ⟨-, -, -, -, -, -, -, -, -, -, h50, h51, h52, -, -, h70, h71, -⟩ := idx_facts t
  refine congrArg₂ (· * ·) ?_ ?_
  · refine (blockN m c t (y 0) (y 1)).trans (Eq.trans ?_ (YN_eq m c _ _))
    refine congrArg₂ (YN m c) ?_ ?_
    · show _ = win0_7.index t 0 * 1024 + 1 * (y 0).val; rw [h70]; omega
    · show _ = win0_7.index t 1 * 512 + 1 * (y 1).val; rw [h71]; omega
  · show V m c main_v0 ((win0_5.rect t).emb (ix3 (0 : Fin 1) (0 : Fin 1) (y 1 : Fin 512) : S1x1x512.Idx)) = _
    refine Eq.trans ?_ (V_gain m c (0 : Fin 4) (0 : Fin 1) ((win0_7.rect t).emb y 1))
    refine congrArg (V m c main_v0) (funext fun a => Fin.ext ?_)
    match a with
    | ⟨0, _⟩ => show win0_5.index t 0 * 1 + 1 * 0 = 0; rw [h50]
    | ⟨1, _⟩ => show win0_5.index t 1 * 1 + 1 * 0 = 0; rw [h51]
    | ⟨2, _⟩ => show win0_5.index t 2 * 512 + 1 * (y 1).val = win0_7.index t 1 * 512 + 1 * (y 1).val; rw [h52, h71]

/-- What a point writes back of the gained copy is its block of the whole array's. -/
theorem flushed7_eq (c : Dev nD) (t : Fin cfg0.N) : (dats m 0 c).flushed 7 t = ((cfg0.win 7).blk t).view.read (Elt Ideal) (G7 m c) := by
  by_cases h0 : t.val % 8 = 0
  · rw [Value.flushed7_A m c t h0 (by omega) (by omega)]
    exact funext fun y => (out7_A .. : _ = _).trans (block7 m c t y)
  by_cases h2 : t.val % 8 = 7
  · rw [Value.flushed7_C m c t h0 (by omega) h2]
    exact funext fun y => (out7_C .. : _ = _).trans (block7 m c t y)
  · rw [Value.flushed7_B m c t h0 (by omega) h2]
    exact funext fun y => (out7_B .. : _ = _).trans (block7 m c t y)

/-- What the last column block's point writes back of the row scale is its block of the whole array's. -/
theorem flushed8_eq (c : Dev nD) (t : Fin cfg0.N) (hf : (cfg0.win 8).flush t = true) :
    (dats m 0 c).flushed 8 t = ((cfg0.win 8).blk t).view.read (Elt Ideal) (G8 m c) := by
  have h2 : t.val % 8 = 7 := (flush0_8 t).mp hf
  obtain ⟨-, -, -, -, -, -, -, -, -, -, -, -, -, -, -, -, -, h80, h81, ht⟩ := idx_facts t
  rw [Value.flushed8_C m c t (by omega) (by omega) h2]
  funext y
  refine (out8_C .. : _ = _).trans (congrArg scale ?_)
  have hrow : ((win0_8.rect t).emb y 0 : Fin 8192).val = 1024 * (t.val / 8) + (y 0).val := by
    show win0_8.index t 0 * 1024 + 1 * (y 0).val = _; rw [h80]; omega
  have hsq : ∑ k : Fin 4096, Y m c ((win0_8.rect t).emb y 0) k * Y m c ((win0_8.rect t).emb y 0) k
      = ∑ k : Fin 4096, YN m c (1024 * (t.val / 8) + (y 0).val) k.val * YN m c (1024 * (t.val / 8) + (y 0).val) k.val :=
    Finset.sum_congr rfl fun k _ => (congrArg (fun v : EReal => v * v) ((YN_eq m c _ k).symm.trans (congrArg (fun r => YN m c r k.val) hrow)))
  refine Eq.trans ?_ (hsq.trans (sum_lanes (YN m c (1024 * (t.val / 8) + (y 0).val))).symm).symm
  refine Finset.sum_congr rfl fun l _ => ?_
  have hp : (t.val - 1) % 8 + 1 = 7 := by omega
  have hq : (t.val - 1) / 8 = t.val / 8 := by omega
  rw [lanes]
  refine (congrArg (_ + ·) (part_block m c t (y 0) l)).trans ?_
  rw [hp, hq, h2]
  exact (Finset.sum_range_succ (fun j => part (YN m c (1024 * (t.val / 8) + (y 0).val)) (512 * j + l.val)) 7).symm

/-- The value's array after the run. -/
theorem final6 (c : Dev nD) : (dats m 0 c).arrAt 6 cfg0.N = G6 m c := by
  refine (dats m 0 c).arrAt_eq_of_cover 6 (G6 m c) (fun t _ => flushed6_eq m c t) fun i => ?_
  have h0 : (i 0).val < 8192 := (i 0).isLt
  have h1 : (i 1).val < 4096 := (i 1).isLt
  have hN : 8 * ((i 0).val / 1024) + (i 1).val / 512 < cfg0.N := by rw [show cfg0.N = 64 from N_0]; omega
  obtain ⟨-, -, -, -, -, -, -, -, -, -, -, -, -, h60, h61, -⟩ := idx_facts ⟨_, hN⟩
  refine ⟨⟨_, hN⟩, flush0_6 _, ?_⟩
  show i ∈ ((View.whole main_v1_0).slice (win0_6.rect ⟨_, hN⟩)).set
  rw [View.set_slice_whole, Rect.mem_set_unit]
  intro a
  match a with
  | ⟨0, _⟩ => show win0_6.index ⟨_, hN⟩ 0 * 1024 ≤ (i 0).val ∧ (i 0).val < win0_6.index ⟨_, hN⟩ 0 * 1024 + 1024; rw [h60]; dsimp only; omega
  | ⟨1, _⟩ => show win0_6.index ⟨_, hN⟩ 1 * 512 ≤ (i 1).val ∧ (i 1).val < win0_6.index ⟨_, hN⟩ 1 * 512 + 512; rw [h61]; dsimp only; omega

/-- The gained copy's array after the run. -/
theorem final7 (c : Dev nD) : (dats m 0 c).arrAt 7 cfg0.N = G7 m c := by
  refine (dats m 0 c).arrAt_eq_of_cover 7 (G7 m c) (fun t _ => flushed7_eq m c t) fun i => ?_
  have h0 : (i 0).val < 8192 := (i 0).isLt
  have h1 : (i 1).val < 4096 := (i 1).isLt
  have hN : 8 * ((i 0).val / 1024) + (i 1).val / 512 < cfg0.N := by rw [show cfg0.N = 64 from N_0]; omega
  obtain ⟨-, -, -, -, -, -, -, -, -, -, -, -, -, -, -, h70, h71, -⟩ := idx_facts ⟨_, hN⟩
  refine ⟨⟨_, hN⟩, flush0_7 _, ?_⟩
  show i ∈ ((View.whole main_v1_1).slice (win0_7.rect ⟨_, hN⟩)).set
  rw [View.set_slice_whole, Rect.mem_set_unit]
  intro a
  match a with
  | ⟨0, _⟩ => show win0_7.index ⟨_, hN⟩ 0 * 1024 ≤ (i 0).val ∧ (i 0).val < win0_7.index ⟨_, hN⟩ 0 * 1024 + 1024; rw [h70]; dsimp only; omega
  | ⟨1, _⟩ => show win0_7.index ⟨_, hN⟩ 1 * 512 ≤ (i 1).val ∧ (i 1).val < win0_7.index ⟨_, hN⟩ 1 * 512 + 512; rw [h71]; dsimp only; omega

/-- The row scale's array after the run. -/
theorem final8 (c : Dev nD) : (dats m 0 c).arrAt 8 cfg0.N = G8 m c := by
  refine (dats m 0 c).arrAt_eq_of_cover 8 (G8 m c) (fun t hf => flushed8_eq m c t hf) fun i => ?_
  have h0 : (i 0).val < 8192 := (i 0).isLt
  have h1 : (i 1).val < 128 := (i 1).isLt
  have hN : 8 * ((i 0).val / 1024) + 7 < cfg0.N := by rw [show cfg0.N = 64 from N_0]; omega
  obtain ⟨-, -, -, -, -, -, -, -, -, -, -, -, -, -, -, -, -, h80, h81, -⟩ := idx_facts ⟨_, hN⟩
  refine ⟨⟨_, hN⟩, (flush0_8 _).mpr (by dsimp only; omega), ?_⟩
  show i ∈ ((View.whole main_v1_2).slice (win0_8.rect ⟨_, hN⟩)).set
  rw [View.set_slice_whole, Rect.mem_set_unit]
  intro a
  match a with
  | ⟨0, _⟩ => show win0_8.index ⟨_, hN⟩ 0 * 1024 ≤ (i 0).val ∧ (i 0).val < win0_8.index ⟨_, hN⟩ 0 * 1024 + 1024; rw [h80]; dsimp only; omega
  | ⟨1, _⟩ => show win0_8.index ⟨_, hN⟩ 1 * 128 ≤ (i 1).val ∧ (i 1).val < win0_8.index ⟨_, hN⟩ 1 * 128 + 128; rw [h81]; dsimp only; omega

/-- A sum over the joined columns is the two halves' sums. -/
theorem sum_halves (f : Fin 4096 → EReal) :
    ∑ k : Fin 4096, f k = ∑ k : Fin 2048, f ⟨k.val, Nat.lt_of_lt_of_le k.isLt (by decide)⟩ + ∑ k : Fin 2048, f ⟨2048 + k.val, Nat.add_lt_add_left k.isLt 2048⟩ :=
  Fin.sum_univ_add (a := 2048) (b := 2048) f

open Cert.MixRefIdeal.Read Cert.MixRefIdeal.Gen in
/-- The joined operands' first half is the first operand. -/
theorem cat_left (x0 x1 : Vec Ideal S8192x2048 .bf16) (r : Fin 8192) (k : Fin 2048) (i : S8192x4096.Idx) (h0 : (i 0).val = r.val) (h1 : (i 1).val = k.val) :
    val_main_v0 (F := Ideal) x0 x1 i = x0 (ix2 r k) := by
  unfold val_main_v0
  refine concatenate_pair_apply_left _ x0 x1 _ i rfl (ix2 r k) fun b => ?_
  match b with
  | ⟨0, _⟩ => exact h0.symm
  | ⟨1, _⟩ => exact h1.symm

open Cert.MixRefIdeal.Read in
/-- The joined operands' second half is the second operand. -/
theorem cat_right (x0 x1 : Vec Ideal S8192x2048 .bf16) (r : Fin 8192) (k : Fin 2048) (i : S8192x4096.Idx) (h0 : (i 0).val = r.val) (h1 : (i 1).val = 2048 + k.val) :
    val_main_v0 (F := Ideal) x0 x1 i = x1 (ix2 r k) := by
  unfold val_main_v0
  refine concatenate_pair_apply_right _ x0 x1 _ i rfl rfl (ix2 r k) (fun b hb => ?_) ?_
  · match b, hb with
    | ⟨0, _⟩, _ => exact h0.symm
    | ⟨1, _⟩, hb => exact absurd rfl hb
  · show k.val + 2048 = (i 1).val
    omega

section Reference

variable (x0 x1 : Vec Ideal S8192x2048 .bf16) (x2 : Vec Ideal S4096x4096 .bf16) (x3 : Vec Ideal S8192x4096 .f32) (x4 : Vec Ideal S4x4096 .f32)

open Cert.MixRefIdeal.Read in
/-- The reference's value is the same function. -/
theorem ref6 (i : S8192x4096.Idx) :
    val_main_v2 (F := Ideal) x0 x1 x2 x3 i = mix (R := 8192) (C := 4096) x0 x1 (upper x2) (lower x2) x3 (i 0) (i 1) := by
  rw [val_main_v2_apply, val_main_v1_apply, sum_halves]
  refine congrArg₂ (fun u v : EReal => u + v) (congrArg x3 (eq_ix2 i)) (congrArg₂ (fun u v : EReal => u + v) (Finset.sum_congr rfl fun k _ => congrArg₂ (fun u v : EReal => u * v) ?_ ?_) (Finset.sum_congr rfl fun k _ => congrArg₂ (fun u v : EReal => u * v) ?_ ?_))
  · exact cat_left x0 x1 (i 0) k _ rfl rfl
  · refine congrArg x2 (funext fun a => Fin.ext ?_)
    match a with
    | ⟨0, _⟩ => rfl
    | ⟨1, _⟩ => rfl
  · exact cat_right x0 x1 (i 0) k _ rfl rfl
  · refine congrArg x2 (funext fun a => Fin.ext ?_)
    match a with
    | ⟨0, _⟩ => rfl
    | ⟨1, _⟩ => rfl

open Cert.MixRefIdeal.Read in
/-- The reference's gained copy is the same function. -/
theorem ref7 (i : S8192x4096.Idx) :
    val_main_v16 (F := Ideal) x0 x1 x2 x3 x4 i = mix (R := 8192) (C := 4096) x0 x1 (upper x2) (lower x2) x3 (i 0) (i 1) * x4 (ix2 (0 : Fin 4) (i 1 : Fin 4096)) := by
  rw [val_main_v16_apply, val_main_v15_apply]
  refine congrArg₂ (fun u v : EReal => u * v) (ref6 x0 x1 x2 x3 i) ?_
  rw [val_main_v14_apply, val_main_v13_apply, val_main_v12_apply, val_main_v11_apply]
  refine congrArg x4 (funext fun a => Fin.ext ?_)
  have h1 : (i 1).val < 4096 := (i 1).isLt
  match a with
  | ⟨0, _⟩ => rfl
  | ⟨1, _⟩ => show (i 1).val % 4096 = (i 1).val; omega

open Cert.MixRefIdeal.Read in
/-- The reference's row scale is the same function. -/
theorem ref8 (i : S8192x128.Idx) :
    val_main_v17 (F := Ideal) x0 x1 x2 x3 i
      = scale (∑ k : Fin 4096, mix (R := 8192) (C := 4096) x0 x1 (upper x2) (lower x2) x3 (i 0) k * mix (R := 8192) (C := 4096) x0 x1 (upper x2) (lower x2) x3 (i 0) k) := by
  rw [val_main_v17_apply, val_main_v10_apply, val_main_v9_apply, val_main_v8_apply, val_main_cst_1_apply, val_main_v7_apply, val_main_v6_apply, val_main_cst_0_apply, val_main_v5_apply, val_main_v4_apply, val_main_cst_apply]
  refine congrArg (fun s => scale s) ?_
  refine (congrArg (· + _) Ideal.ofBits_zero_f32).trans ((zero_add _).trans (Finset.sum_congr rfl fun k _ => ?_))
  rw [val_main_v3_apply, ref6]
  rfl

end Reference

end Cert.MixIdeal.RefValue

end
-- ==== Proof.MixClaim.lean ====
/-
  The output projection's value claim: the kernel's run and the reference's, each ending at the same three functions.
-/
module

public import proofs.«01_k».proof.Defs
public import proofs.«01_k».proof.Proof.MixValue

@[expose] public section

noncomputable section

namespace Cert.MixIdeal.RefValue

open Idealize.ShloMosaic Idealize.ShloMosaic.TcCoe Idealize.SL.Sem

/-- The kernel's results are the residual's sum, its gained copy and its row scale, and so are the reference's. -/
theorem algebraic : @Cert.algebraic_MixIdeal_MixRefIdeal Cert.MixIdeal.Gen.facts Cert.MixRefIdeal.Gen.facts := by
  intro m g m' g' _ hag
  refine ⟨fun c => G6 m c, fun c => G7 m c, fun c => G8 m c, ?_, ?_⟩
  · exact (θ_run _ _ _).mono (fun _ h c => ⟨(h c).1.trans (final6 m c), (h c).2.1.trans (final7 m c), (h c).2.2.1.trans (final8 m c), (h c).2.2.2⟩) (Cert.MixIdeal.Value.run_blocks m g)
  · refine (θ_run _ _ _).mono (fun _ h c => ⟨(h c).1.trans ?_, (h c).2.1.trans ?_, (h c).2.2.1.trans ?_, (h c).2.2.2⟩) (Cert.MixRefIdeal.Value.run (F := Ideal) m' g')
    · obtain ⟨h0, h1, h2, h3, h4⟩ := hag c
      rw [h0, h1, h2, h3]
      exact (Cert.MixRefIdeal.Read.val_main_v2_eq ..).trans (funext fun i => ref6 _ _ _ _ i)
    · obtain ⟨h0, h1, h2, h3, h4⟩ := hag c
      rw [h0, h1, h2, h3, h4]
      exact (Cert.MixRefIdeal.Read.val_main_v16_eq ..).trans (funext fun i => ref7 _ _ _ _ _ i)
    · obtain ⟨h0, h1, h2, h3, h4⟩ := hag c
      rw [h0, h1, h2, h3]
      exact (Cert.MixRefIdeal.Read.val_main_v17_eq ..).trans (funext fun i => ref8 _ _ _ _ i)

end Cert.MixIdeal.RefValue

end
-- ==== Proof.QkvValue.lean ====
/-
  The query, key and value projections with the rotary turn of queries and keys, and the two weight casts in passing: what each grid
  point's blocks hold, the whole arrays after the run, and the reference's read the same way.
-/
module

public import proofs.«01_k».proof.Proof.Tiles
public import proofs.«01_k».proof.Proof.Gen.QkvIdeal.Value
public import proofs.«01_k».proof.Proof.Gen.QkvRefIdeal.Read
public import Idealize.ShloMosaic.Lib.KernelVsHost

@[expose] public section

noncomputable section

namespace Cert.QkvIdeal.RefValue

open Cert.QkvIdeal Cert.QkvIdeal.Gen Cert.Tiles Idealize.ShloMosaic Idealize.ShloMosaic.ValueIdx Idealize.ShloMosaic.TcCoe Idealize.SL.Sem
open Idealize.ShloMosaic.Pipeline (Dat)

/-- A column's lane in its head. -/
abbrev lane (j : ℕ) : Fin 128 := ⟨j % 128, Nat.mod_lt _ (by decide)⟩

/-- The column `o` lanes after a column in its own head, around the end. -/
def turn {C : ℕ} (hC : 128 ∣ C) (o : ℕ) (j : Fin C) : Fin C :=
  ⟨j.val / 128 * 128 + (j.val + o) % 128, by
    have := j.isLt; have := Nat.mod_lt (j.val + o) (by decide : 0 < 128); obtain ⟨q, rfl⟩ := hC
    have : j.val / 128 < q := Nat.div_lt_of_lt_mul (by omega)
    omega⟩

/-- One projection at a row and a column: the row's product with the weight's column, times the row's scale, which the
    scale array repeats over its 128 lanes. -/
def proj {R C : ℕ} (x : FVec Ideal ⟨2, ![R, 4096]⟩ .bf16) (rs : FVec Ideal ⟨2, ![R, 128]⟩ .f32) (w : FVec Ideal ⟨2, ![4096, C]⟩ .bf16)
    (r : Fin R) (j : Fin C) : EReal :=
  (∑ k : Fin 4096, x (ix2 r k) * w (ix2 k j)) * rs (ix2 r (lane j.val))

/-- The rotary turn of a projection: the column under the first table, the column 16 lanes on under the second and the column
    16 lanes back under the third. -/
def rot {R C : ℕ} (hC : 128 ∣ C) (x : FVec Ideal ⟨2, ![R, 4096]⟩ .bf16) (rs : FVec Ideal ⟨2, ![R, 128]⟩ .f32) (w : FVec Ideal ⟨2, ![4096, C]⟩ .bf16)
    (ct st ht : FVec Ideal ⟨2, ![R, 128]⟩ .f32) (r : Fin R) (j : Fin C) : EReal :=
  proj x rs w r j * ct (ix2 r (lane j.val)) + proj x rs w r (turn hC 16 j) * st (ix2 r (lane j.val))
    + proj x rs w r (turn hC 112 j) * ht (ix2 r (lane j.val))

/-- Equal parts have equal turns. -/
theorem turn_congr {a b c d e f a' b' c' d' e' f' : EReal} (ha : a = a') (hb : b = b') (hc : c = c') (hd : d = d') (he : e = e') (hf : f = f') :
    a * b + c * d + e * f = a' * b' + c' * d' + e' * f' := by
  rw [ha, hb, hc, hd, he, hf]

/-- A whole-block load of the rows is the block. -/
theorem ld_x (x : Vec Ideal S1024x4096 .bf16) :
    View.ld (Val := Elt Ideal) (e' := EltTy.bf16) x (Rect.unit (s := S1024x4096) ![0, 0] ![1024, 4096] inb_S1024x4096_S1024x4096_0_0) = x :=
  View.ld_unit_zero (S := S1024x4096) hz2 _ _

/-- A whole-block load of a table is the block. -/
theorem ld_s (x : Vec Ideal S1024x128 .f32) :
    View.ld (Val := Elt Ideal) (e' := EltTy.f32) x (Rect.unit (s := S1024x128) ![0, 0] ![1024, 128] inb_S1024x128_S1024x128_0_0) = x :=
  View.ld_unit_zero (S := S1024x128) hz2 _ _

/-- A lane slice of a 256-column product, times the scale. -/
abbrev sl (o : ℕ) (hs : S1024x256.Slices ![0, o] S1024x128) (v4 : FVec Ideal S1024x4096 .bf16) (v5 : FVec Ideal S1024x128 .f32) (w : FVec Ideal S4096x256 .bf16) :
    FVec Ideal S1024x128 .f32 :=
  mulf (extractStridedSlice S1024x128 ![0, o]
    (matmul (φ₂ := .bf16) dot_S1024x4096_S4096x256_S1024x256_1_0_0_1_n_n none v4 w (constant (F := Ideal) S1024x256 .f32 0x00000000#32)) hs) v5

/-- A head's tile turned by the tables. -/
abbrev turned (v c s h : FVec Ideal S1024x128 .f32) : FVec Ideal S1024x128 .f32 :=
  addf (addf (mulf v c) (mulf (dynamicRotate 1 112#32 none v rotates_S1024x128_d1) s)) (mulf (dynamicRotate 1 16#32 none v rotates_S1024x128_d1) h)

/-- A lane slice of a 256-column product, times the scale, is the projection at the column under it. -/
theorem lane_proj (x0 : FVec Ideal S1024x4096 .bf16) (x1 : FVec Ideal S1024x128 .f32) (w : FVec Ideal S4096x512 .bf16)
    (o b : ℕ) (inb : ∀ a : Fin 2, ![0, b] a + ![4096, 256] a ≤ S4096x512.size a) (hs : S1024x256.Slices ![0, o] S1024x128)
    (hob : 128 ∣ o + b) (x : S1024x128.Idx) (r : Fin 1024) (j : Fin 512) (hr : r.val = (x 0).val) (hj : j.val = b + o + (x 1).val) :
    sl o hs x0 x1 (View.ld (Val := Elt Ideal) (e' := EltTy.bf16) w (Rect.unit (s := S4096x512) ![0, b] ![4096, 256] inb)) x = proj x0 x1 w r j := by
  have h1 : (x 1).val < 128 := (x 1).isLt
  have ho : o + 128 ≤ 256 := hs.2 1
  have hx : x = ix2 r (lane j.val) := by
    funext a
    match a with
    | ⟨0, _⟩ => exact Fin.ext hr.symm
    | ⟨1, _⟩ => exact Fin.ext (by show (x 1).val = j.val % 128; obtain ⟨q, hq⟩ := hob; omega)
  unfold sl
  refine (congrArg (· * x1 x) ((extractStridedSlice_apply _ _ hs x (ix2 (x 0 : Fin 1024) (⟨o + (x 1).val, by omega⟩ : Fin 256)) (fun a => by
    match a with
    | ⟨0, _⟩ => show (x 0).val = 0 + (x 0).val; omega
    | ⟨1, _⟩ => rfl)).trans (mm_apply _ rfl none x0 _ _))).trans ?_
  unfold proj
  refine congrArg₂ (· * ·) (Finset.sum_congr rfl fun k _ => ?_) (congrArg x1 hx)
  refine congrArg₂ (· * ·) ?_ ?_
  · refine congrArg x0 ?_
    funext a
    match a with
    | ⟨0, _⟩ => exact Fin.ext hr.symm
    | ⟨1, _⟩ => rfl
  · show w _ = w _
    refine congrArg w ?_
    funext a
    match a with
    | ⟨0, _⟩ => exact Fin.ext (by show 0 + 1 * k.val = k.val; omega)
    | ⟨1, _⟩ => exact Fin.ext (by show b + 1 * (o + (x 1).val) = j.val; omega)

/-- A rotation along the lanes at an index. -/
theorem rotate_at (s : BitVec 32) (o : ℕ) (v : FVec Ideal S1024x128 .f32) (x : S1024x128.Idx) (ho : s.toNat + o = 128) :
    dynamicRotate 1 s none v rotates_S1024x128_d1 x = v (ix2 (x 0 : Fin 1024) (lane ((x 1).val + o))) := by
  have h1 : (x 1).val < 128 := (x 1).isLt
  refine dynamicRotate_apply (1 : Fin S1024x128.rank) s v rotates_S1024x128_d1 x _ fun b => ?_
  match b with
  | ⟨0, _⟩ => rfl
  | ⟨1, _⟩ =>
    show ((x 1).val + o) % 128 = ((x 1).val + 128 - s.toNat % 128) % 128
    by_cases hs : s.toNat = 128
    · rw [hs]; have : o = 0 := by omega
      subst this; omega
    · rw [Nat.mod_eq_of_lt (by omega : s.toNat < 128)]; congr 1; omega

/-- A turned head tile is the turn of the projection at the column under it. -/
theorem lane_rot (x0 : FVec Ideal S1024x4096 .bf16) (x1 : FVec Ideal S1024x128 .f32) (w : FVec Ideal S4096x512 .bf16) (c s h : FVec Ideal S1024x128 .f32)
    (o b : ℕ) (inb : ∀ a : Fin 2, ![0, b] a + ![4096, 256] a ≤ S4096x512.size a) (hs : S1024x256.Slices ![0, o] S1024x128)
    (hob : 128 ∣ o + b) (hb : b + o ≤ 384) (x : S1024x128.Idx) (r : Fin 1024) (j : Fin 512) (hr : r.val = (x 0).val) (hj : j.val = b + o + (x 1).val) :
    turned (sl o hs x0 x1 (View.ld (Val := Elt Ideal) (e' := EltTy.bf16) w (Rect.unit (s := S4096x512) ![0, b] ![4096, 256] inb))) c s h x
      = rot (C := 512) (by decide) x0 x1 w c s h r j := by
  have h1 : (x 1).val < 128 := (x 1).isLt
  have hx : x = ix2 r (lane j.val) := by
    funext a
    match a with
    | ⟨0, _⟩ => exact Fin.ext hr.symm
    | ⟨1, _⟩ => exact Fin.ext (by show (x 1).val = j.val % 128; obtain ⟨q, hq⟩ := hob; omega)
  have tn : ∀ p : ℕ, (turn (C := 512) (by decide) p j).val = b + o + (lane ((x 1).val + p)).val := fun p => by
    show j.val / 128 * 128 + (j.val + p) % 128 = b + o + ((x 1).val + p) % 128
    obtain ⟨q, hq⟩ := hob
    omega
  unfold rot
  refine turn_congr (lane_proj x0 x1 w o b inb hs hob x r j hr hj) (congrArg c hx) ?_ (congrArg s hx) ?_ (congrArg h hx)
  · exact (rotate_at 112#32 16 _ x rfl).trans (lane_proj x0 x1 w o b inb hs hob _ r _ hr (tn 16))
  · exact (rotate_at 16#32 112 _ x rfl).trans (lane_proj x0 x1 w o b inb hs hob _ r _ hr (tn 112))

/-- The turned case's first tile. -/
theorem pay10_eq (v4 : FVec Ideal S1024x4096 .bf16) (v5 : FVec Ideal S1024x128 .f32) (w : FVec Ideal S4096x256 .bf16) (c s h : FVec Ideal S1024x128 .f32) :
    k0_pay10 (F := Ideal) v4 v5 w c s h = turned (sl 0 slices_S1024x256_o0_0_S1024x128 v4 v5 w) c s h := by
  unfold k0_pay10
  simp only [shapeCast_self]
  rfl

/-- The turned case's second tile. -/
theorem pay14_eq (v4 : FVec Ideal S1024x4096 .bf16) (v5 : FVec Ideal S1024x128 .f32) (w : FVec Ideal S4096x256 .bf16) (c s h : FVec Ideal S1024x128 .f32) :
    k0_pay14 (F := Ideal) (k0_pay12 (F := Ideal) v4 v5 w c s) (k0_pay13 (F := Ideal) v4 v5 w h) = turned (sl 128 slices_S1024x256_o0_128_S1024x128 v4 v5 w) c s h := by
  unfold k0_pay14 k0_pay12 k0_pay13
  simp only [shapeCast_self]
  rfl

/-- The turned case's third tile. -/
theorem pay16_eq (v4 : FVec Ideal S1024x4096 .bf16) (v5 : FVec Ideal S1024x128 .f32) (w : FVec Ideal S4096x256 .bf16) (c s h : FVec Ideal S1024x128 .f32) :
    k0_pay16 (F := Ideal) v4 v5 w c s h = turned (sl 0 slices_S1024x256_o0_0_S1024x128 v4 v5 w) c s h := by
  unfold k0_pay16
  simp only [shapeCast_self]
  rfl

/-- The turned case's fourth tile. -/
theorem pay17_eq (v4 : FVec Ideal S1024x4096 .bf16) (v5 : FVec Ideal S1024x128 .f32) (w : FVec Ideal S4096x256 .bf16) (c s h : FVec Ideal S1024x128 .f32) :
    k0_pay17 (F := Ideal) v4 v5 w c s h = turned (sl 128 slices_S1024x256_o0_128_S1024x128 v4 v5 w) c s h := by
  unfold k0_pay17
  simp only [shapeCast_self]
  rfl

section Points

set_option maxRecDepth 16384

variable (c : Dev nD) (i : grid0.Coords) (arg2 : Memref sig .tc .vmem S1024x4096 .bf16) (harg2 : arg2.IsWhole) (arg3 : Memref sig .tc .vmem S1024x128 .f32) (harg3 : arg3.IsWhole) (arg4 : Memref sig .tc .vmem S4096x512 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x512x512 .f32) (harg8 : arg8.IsWhole) (arg9 : Memref sig .tc .vmem S1x512x512 .f32) (harg9 : arg9.IsWhole) (arg10 : Memref sig .tc .vmem S1024x512 .f32) (harg10 : arg10.IsWhole) (arg11 : Memref sig .tc .vmem S512x512 .bf16) (harg11 : arg11.IsWhole) (arg12 : Memref sig .tc .vmem S512x512 .bf16) (harg12 : arg12.IsWhole)
    (x0 : Vec Ideal S1024x4096 .bf16) (x1 : Vec Ideal S1024x128 .f32) (x2 : Vec Ideal S4096x512 .bf16) (x3 x4 x5 : Vec Ideal S1024x128 .f32) (x6 x7 : Vec Ideal S1x512x512 .f32)

/-- The block a point of the turned case leaves. -/
theorem out8_A (hc0 : cond0_0 i) (hc1 : ¬cond0_1 i) (y : S1024x512.Idx) :
    out0_A_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 y = rot (R := 1024) (C := 512) (by decide) x0 x1 x2 x3 x4 x5 (y 0) (y 1) := by
  unfold out0_A_8
  unfold kernelRun0_A
  dsimp only
  sl_unfold_words
  simp only [View.readAt_eq_ld, Memref.IsWhole.read_unread]
  rw [View.read_writes_junk_apply_eq_canon]
  refine View.canon_apply_of_pieces (Val := Elt Ideal) (e := .f32) (S := S1024x512) (fun y => rot (R := 1024) (C := 512) (by decide) x0 x1 x2 x3 x4 x5 (y 0) (y 1)) _ ?_ y ?_
  · intro pc hpc
    rcases List.mem_cons.mp hpc with rfl | hpc
    · intro x
      refine (congrFun (pay17_eq ..) x).trans ?_
      rw [ld_x, ld_s, ld_s, ld_s, ld_s]
      exact lane_rot x0 x1 x2 x3 x4 x5 128 256 _ _ (by decide) (by decide) x _ _ (by show 0 + 1 * (x 0).val = _; omega) (by show 384 + 1 * (x 1).val = _; omega)
    rcases List.mem_cons.mp hpc with rfl | hpc
    · intro x
      refine (congrFun (pay16_eq ..) x).trans ?_
      rw [ld_x, ld_s, ld_s, ld_s, ld_s]
      exact lane_rot x0 x1 x2 x3 x4 x5 0 256 _ _ (by decide) (by decide) x _ _ (by show 0 + 1 * (x 0).val = _; omega) (by show 256 + 1 * (x 1).val = _; omega)
    rcases List.mem_cons.mp hpc with rfl | hpc
    · intro x
      refine (congrFun (pay14_eq ..) x).trans ?_
      rw [ld_x, ld_s, ld_s, ld_s, ld_s]
      exact lane_rot x0 x1 x2 x3 x4 x5 128 0 _ _ (by decide) (by decide) x _ _ (by show 0 + 1 * (x 0).val = _; omega) (by show 128 + 1 * (x 1).val = _; omega)
    rcases List.mem_cons.mp hpc with rfl | hpc
    · intro x
      refine (congrFun (pay10_eq ..) x).trans ?_
      rw [ld_x, ld_s, ld_s, ld_s, ld_s]
      exact lane_rot x0 x1 x2 x3 x4 x5 0 0 _ _ (by decide) (by decide) x _ _ (by show 0 + 1 * (x 0).val = _; omega) (by show 0 + 1 * (x 1).val = _; omega)
    nomatch hpc
  · exact View.cover_of_tiledL (s := S1024x512) _ S1024x128.size (by sl_kernel_rfl) y

/-- The block a point of the plain case leaves. -/
theorem out8_B (hc0 : ¬cond0_0 i) (hc1 : cond0_1 i) (y : S1024x512.Idx) :
    out0_B_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 y = proj (R := 1024) (C := 512) x0 x1 x2 (y 0) (y 1) := by
  unfold out0_B_8
  unfold kernelRun0_B
  dsimp only
  sl_unfold_words
  simp only [View.readAt_eq_ld, Memref.IsWhole.read_unread]
  rw [View.read_writes_junk_apply_eq_canon]
  refine View.canon_apply_of_pieces (Val := Elt Ideal) (e := .f32) (S := S1024x512) (fun y => proj (R := 1024) (C := 512) x0 x1 x2 (y 0) (y 1)) _ ?_ y ?_
  · intro pc hpc
    rcases List.mem_cons.mp hpc with rfl | hpc
    · intro x
      dsimp only
      rw [ld_x, ld_s]
      exact lane_proj x0 x1 x2 128 256 _ slices_S1024x256_o0_128_S1024x128 (by decide) x _ _ (by show 0 + 1 * (x 0).val = _; omega) (by show 384 + 1 * (x 1).val = _; omega)
    rcases List.mem_cons.mp hpc with rfl | hpc
    · intro x
      dsimp only
      rw [ld_x, ld_s]
      exact lane_proj x0 x1 x2 0 256 _ slices_S1024x256_o0_0_S1024x128 (by decide) x _ _ (by show 0 + 1 * (x 0).val = _; omega) (by show 256 + 1 * (x 1).val = _; omega)
    rcases List.mem_cons.mp hpc with rfl | hpc
    · intro x
      dsimp only
      rw [ld_x, ld_s]
      exact lane_proj x0 x1 x2 128 0 _ slices_S1024x256_o0_128_S1024x128 (by decide) x _ _ (by show 0 + 1 * (x 0).val = _; omega) (by show 128 + 1 * (x 1).val = _; omega)
    rcases List.mem_cons.mp hpc with rfl | hpc
    · intro x
      dsimp only
      rw [ld_x, ld_s]
      exact lane_proj x0 x1 x2 0 0 _ slices_S1024x256_o0_0_S1024x128 (by decide) x _ _ (by show 0 + 1 * (x 0).val = _; omega) (by show 0 + 1 * (x 1).val = _; omega)
    nomatch hpc
  · exact View.cover_of_tiledL (s := S1024x512) _ S1024x128.size (by sl_kernel_rfl) y

/-- A cast weight block at an index. -/
theorem cast_apply (v : Vec Ideal S1x512x512 .f32) (x : S512x512.Idx) : k0_pay1 (F := Ideal) v x = v (ix3 (0 : Fin 1) (x 0 : Fin 512) (x 1 : Fin 512)) := by
  refine (?_ : _ = shapeCast S512x512 v shapeCasts_S1x512x512_S512x512 x).trans ?_
  · rfl
  · refine shapeCast_apply v shapeCasts_S1x512x512_S512x512 x _ ?_
    rw [Shape.rowMajor_val_two, Shape.rowMajor_val_three]
    show (0 * 512 + (x 0).val) * 512 + (x 1).val = (x 0).val * 512 + (x 1).val
    omega

/-- A whole-block load of a weight block is the block. -/
theorem ld_c (x : Vec Ideal S1x512x512 .f32) :
    View.ld (Val := Elt Ideal) (e' := EltTy.f32) x (Rect.unit (s := S1x512x512) ![0, 0, 0] ![1, 512, 512] inb_S1x512x512_S1x512x512_0_0_0) = x :=
  View.ld_unit_zero (S := S1x512x512) hz3 _ _

/-- The first cast weight's block a point of the turned case leaves. -/
theorem out9_A (hc0 : cond0_0 i) (hc1 : ¬cond0_1 i) (y : S512x512.Idx) :
    out0_A_9 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 y = x6 (ix3 (0 : Fin 1) (y 0 : Fin 512) (y 1 : Fin 512)) := by
  unfold out0_A_9
  unfold kernelRun0_A
  dsimp only
  sl_unfold_words
  simp only [View.readAt_eq_ld, Memref.IsWhole.read_unread]
  rw [View.read_writes_junk_apply_eq_canon]
  refine View.canon_apply_of_pieces (Val := Elt Ideal) (e := .bf16) (S := S512x512) (fun y => x6 (ix3 (0 : Fin 1) (y 0 : Fin 512) (y 1 : Fin 512))) _ ?_ y ?_
  · intro pc hpc
    rcases List.mem_cons.mp hpc with rfl | hpc
    · intro x
      refine (cast_apply _ x).trans ?_
      rw [ld_c]
      refine congrArg x6 (funext fun a => Fin.ext ?_)
      match a with
      | ⟨0, _⟩ => rfl
      | ⟨1, _⟩ => show (x 0).val = 0 + 1 * (x 0).val; omega
      | ⟨2, _⟩ => show (x 1).val = 0 + 1 * (x 1).val; omega
    nomatch hpc
  · exact View.cover_of_tiledL (s := S512x512) _ S512x512.size (by sl_kernel_rfl) y

/-- The second cast weight's block a point of the turned case leaves. -/
theorem out10_A (hc0 : cond0_0 i) (hc1 : ¬cond0_1 i) (y : S512x512.Idx) :
    out0_A_10 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 y = x7 (ix3 (0 : Fin 1) (y 0 : Fin 512) (y 1 : Fin 512)) := by
  unfold out0_A_10
  unfold kernelRun0_A
  dsimp only
  sl_unfold_words
  simp only [View.readAt_eq_ld, Memref.IsWhole.read_unread]
  rw [View.read_writes_junk_apply_eq_canon]
  refine View.canon_apply_of_pieces (Val := Elt Ideal) (e := .bf16) (S := S512x512) (fun y => x7 (ix3 (0 : Fin 1) (y 0 : Fin 512) (y 1 : Fin 512))) _ ?_ y ?_
  · intro pc hpc
    rcases List.mem_cons.mp hpc with rfl | hpc
    · intro x
      refine (cast_apply _ x).trans ?_
      rw [ld_c]
      refine congrArg x7 (funext fun a => Fin.ext ?_)
      match a with
      | ⟨0, _⟩ => rfl
      | ⟨1, _⟩ => show (x 0).val = 0 + 1 * (x 0).val; omega
      | ⟨2, _⟩ => show (x 1).val = 0 + 1 * (x 1).val; omega
    nomatch hpc
  · exact View.cover_of_tiledL (s := S512x512) _ S512x512.size (by sl_kernel_rfl) y

/-- The first cast weight's block a point of the plain case leaves. -/
theorem out9_B (hc0 : ¬cond0_0 i) (hc1 : cond0_1 i) (y : S512x512.Idx) :
    out0_B_9 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 y = x6 (ix3 (0 : Fin 1) (y 0 : Fin 512) (y 1 : Fin 512)) := by
  unfold out0_B_9
  unfold kernelRun0_B
  dsimp only
  sl_unfold_words
  simp only [View.readAt_eq_ld, Memref.IsWhole.read_unread]
  rw [View.read_writes_junk_apply_eq_canon]
  refine View.canon_apply_of_pieces (Val := Elt Ideal) (e := .bf16) (S := S512x512) (fun y => x6 (ix3 (0 : Fin 1) (y 0 : Fin 512) (y 1 : Fin 512))) _ ?_ y ?_
  · intro pc hpc
    rcases List.mem_cons.mp hpc with rfl | hpc
    · intro x
      refine (cast_apply _ x).trans ?_
      rw [ld_c]
      refine congrArg x6 (funext fun a => Fin.ext ?_)
      match a with
      | ⟨0, _⟩ => rfl
      | ⟨1, _⟩ => show (x 0).val = 0 + 1 * (x 0).val; omega
      | ⟨2, _⟩ => show (x 1).val = 0 + 1 * (x 1).val; omega
    nomatch hpc
  · exact View.cover_of_tiledL (s := S512x512) _ S512x512.size (by sl_kernel_rfl) y

/-- The second cast weight's block a point of the plain case leaves. -/
theorem out10_B (hc0 : ¬cond0_0 i) (hc1 : cond0_1 i) (y : S512x512.Idx) :
    out0_B_10 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 y = x7 (ix3 (0 : Fin 1) (y 0 : Fin 512) (y 1 : Fin 512)) := by
  unfold out0_B_10
  unfold kernelRun0_B
  dsimp only
  sl_unfold_words
  simp only [View.readAt_eq_ld, Memref.IsWhole.read_unread]
  rw [View.read_writes_junk_apply_eq_canon]
  refine View.canon_apply_of_pieces (Val := Elt Ideal) (e := .bf16) (S := S512x512) (fun y => x7 (ix3 (0 : Fin 1) (y 0 : Fin 512) (y 1 : Fin 512))) _ ?_ y ?_
  · intro pc hpc
    rcases List.mem_cons.mp hpc with rfl | hpc
    · intro x
      refine (cast_apply _ x).trans ?_
      rw [ld_c]
      refine congrArg x7 (funext fun a => Fin.ext ?_)
      match a with
      | ⟨0, _⟩ => rfl
      | ⟨1, _⟩ => show (x 0).val = 0 + 1 * (x 0).val; omega
      | ⟨2, _⟩ => show (x 1).val = 0 + 1 * (x 1).val; omega
    nomatch hpc
  · exact View.cover_of_tiledL (s := S512x512) _ S512x512.size (by sl_kernel_rfl) y

end Points

/-- The first table's lanes that do not turn. -/
def ones : FVec Ideal S8192x96 .f32 := broadcastInDim S8192x96 ![] bcast_S_S8192x96 (constant S_ .f32 0x3F800000#32)

/-- The other tables' lanes that do not turn. -/
def zeros96 : FVec Ideal S8192x96 .f32 := broadcastInDim S8192x96 ![] bcast_S_S8192x96 (constant S_ .f32 0x00000000#32)

/-- A table's half of the turned lanes that it leaves out. -/
def zeros16 : FVec Ideal S8192x16 .f32 := broadcastInDim S8192x16 ![] bcast_S_S8192x16 (constant S_ .f32 0x00000000#32)

/-- The angles' cosines. -/
abbrev cs : FVec Ideal S8192x16 .f32 := Cert.QkvRefIdeal.Read.val_main_v22 (F := Ideal)

/-- The angles' sines. -/
abbrev sn : FVec Ideal S8192x16 .f32 := Cert.QkvRefIdeal.Read.val_main_v24 (F := Ideal)

/-- A table of two halves of the turned lanes and the rest. -/
abbrev table (a b : FVec Ideal S8192x16 .f32) (d : FVec Ideal S8192x96 .f32) : FVec Ideal S8192x128 .f32 :=
  concatenate S8192x128 1 [⟨S8192x16, a⟩, ⟨S8192x16, b⟩, ⟨S8192x96, d⟩] concatenates_S8192x16_S8192x16_S8192x96_S8192x128_d1

/-- The first table: cosines twice, then ones. -/
def cosT : FVec Ideal S8192x128 .f32 := table cs cs ones

/-- The second table: the sines negated under the first half. -/
def sinLo : FVec Ideal S8192x128 .f32 := table (Host.negf sn) zeros16 zeros96

/-- The third table: the sines under the second half. -/
def sinHi : FVec Ideal S8192x128 .f32 := table zeros16 sn zeros96

/-- A table's first half. -/
theorem table_fst (a b : FVec Ideal S8192x16 .f32) (d : FVec Ideal S8192x96 .f32) (r : Fin 8192) (l : Fin 128) (h : l.val < 16) :
    table a b d (ix2 r l) = a (ix2 r (⟨l.val, h⟩ : Fin 16)) :=
  concatenate_apply_piece (t := S8192x128) 1 [⟨S8192x16, a⟩, ⟨S8192x16, b⟩, ⟨S8192x96, d⟩] _ (ix2 r l) 0 (by show 0 < 3; omega) S8192x16 a rfl rfl 0 rfl
    (ix2 r (⟨l.val, h⟩ : Fin 16))
    (fun b hb => match b with
      | ⟨0, _⟩ => rfl
      | ⟨1, _⟩ => absurd rfl hb)
    (by show 0 + l.val = l.val; omega)

/-- A table's second half. -/
theorem table_snd (a b : FVec Ideal S8192x16 .f32) (d : FVec Ideal S8192x96 .f32) (r : Fin 8192) (l : Fin 128) (h : 16 ≤ l.val) (h' : l.val < 32) :
    table a b d (ix2 r l) = b (ix2 r (⟨l.val - 16, by omega⟩ : Fin 16)) :=
  concatenate_apply_piece (t := S8192x128) 1 [⟨S8192x16, a⟩, ⟨S8192x16, b⟩, ⟨S8192x96, d⟩] _ (ix2 r l) 1 (by show 1 < 3; omega) S8192x16 b rfl rfl 16 rfl
    (ix2 r (⟨l.val - 16, by omega⟩ : Fin 16))
    (fun b hb => match b with
      | ⟨0, _⟩ => rfl
      | ⟨1, _⟩ => absurd rfl hb)
    (by show 16 + (l.val - 16) = l.val; omega)

/-- A table's rest. -/
theorem table_trd (a b : FVec Ideal S8192x16 .f32) (d : FVec Ideal S8192x96 .f32) (r : Fin 8192) (l : Fin 128) (h : 32 ≤ l.val) :
    table a b d (ix2 r l) = d (ix2 r (⟨l.val - 32, by omega⟩ : Fin 96)) :=
  concatenate_apply_piece (t := S8192x128) 1 [⟨S8192x16, a⟩, ⟨S8192x16, b⟩, ⟨S8192x96, d⟩] _ (ix2 r l) 2 (by show 2 < 3; omega) S8192x96 d rfl rfl 32 rfl
    (ix2 r (⟨l.val - 32, by omega⟩ : Fin 96))
    (fun b hb => match b with
      | ⟨0, _⟩ => rfl
      | ⟨1, _⟩ => absurd rfl hb)
    (by show 32 + (l.val - 32) = l.val; omega)

/-- The ones are one. -/
theorem ones_apply (i : S8192x96.Idx) : ones i = 1 := one_bits

/-- The zeros are zero. -/
theorem zeros96_apply (i : S8192x96.Idx) : zeros96 i = 0 := Ideal.ofBits_zero_f32

/-- The zeros are zero. -/
theorem zeros16_apply (i : S8192x16.Idx) : zeros16 i = 0 := Ideal.ofBits_zero_f32

/-- The turn on the first half of the turned lanes. -/
theorem rot_fst {C : ℕ} (hC : 128 ∣ C) (x : FVec Ideal S8192x4096 .bf16) (rs : FVec Ideal S8192x128 .f32) (w : FVec Ideal ⟨2, ![4096, C]⟩ .bf16)
    (r : Fin 8192) (j : Fin C) (h : j.val % 128 < 16) :
    rot (R := 8192) hC x rs w cosT sinLo sinHi r j
      = proj x rs w r j * cs (ix2 r (⟨j.val % 128, h⟩ : Fin 16)) - proj x rs w r (turn hC 16 j) * sn (ix2 r (⟨j.val % 128, h⟩ : Fin 16)) := by
  unfold rot cosT sinLo sinHi
  rw [table_fst _ _ _ r (lane j.val) h, table_fst _ _ _ r (lane j.val) h, table_fst _ _ _ r (lane j.val) h, zeros16_apply, mul_zero, add_zero, sub_eq_add_neg]
  exact congrArg (_ + ·) (mul_neg _ _)

/-- The turn on the second half of the turned lanes. -/
theorem rot_snd {C : ℕ} (hC : 128 ∣ C) (x : FVec Ideal S8192x4096 .bf16) (rs : FVec Ideal S8192x128 .f32) (w : FVec Ideal ⟨2, ![4096, C]⟩ .bf16)
    (r : Fin 8192) (j : Fin C) (h : 16 ≤ j.val % 128) (h' : j.val % 128 < 32) :
    rot (R := 8192) hC x rs w cosT sinLo sinHi r j
      = proj x rs w r j * cs (ix2 r (⟨j.val % 128 - 16, by omega⟩ : Fin 16)) + proj x rs w r (turn hC 112 j) * sn (ix2 r (⟨j.val % 128 - 16, by omega⟩ : Fin 16)) := by
  unfold rot cosT sinLo sinHi
  rw [table_snd _ _ _ r (lane j.val) h h', table_snd _ _ _ r (lane j.val) h h', table_snd _ _ _ r (lane j.val) h h', zeros16_apply, mul_zero, add_zero]

/-- The turn on the rest of a head's lanes: nothing. -/
theorem rot_trd {C : ℕ} (hC : 128 ∣ C) (x : FVec Ideal S8192x4096 .bf16) (rs : FVec Ideal S8192x128 .f32) (w : FVec Ideal ⟨2, ![4096, C]⟩ .bf16)
    (r : Fin 8192) (j : Fin C) (h : 32 ≤ j.val % 128) : rot (R := 8192) hC x rs w cosT sinLo sinHi r j = proj x rs w r j := by
  unfold rot cosT sinLo sinHi
  rw [table_trd _ _ _ r (lane j.val) h, table_trd _ _ _ r (lane j.val) h, table_trd _ _ _ r (lane j.val) h, ones_apply, zeros96_apply, mul_zero, mul_one,
    mul_zero, add_zero, add_zero]

/-- A result's column among the weight's. -/
abbrev up (j : Fin 6144) : Fin 10240 := ⟨j.val, Nat.lt_trans j.isLt (by decide)⟩

/-- The projections over the whole arrays: queries and keys turned, values plain. -/
def qkv (x : FVec Ideal S8192x4096 .bf16) (rs : FVec Ideal S8192x128 .f32) (w : FVec Ideal S4096x10240 .bf16) (y : S8192x6144.Idx) : EReal :=
  if (y 1).val < 4096 then rot (R := 8192) (C := 10240) (by decide) x rs w cosT sinLo sinHi (y 0) (up (y 1)) else proj x rs w (y 0) (up (y 1))

variable (m : (ℓ : Loc nD τ sig) → Buf (Elt Ideal) ℓ)

/-- The first table as the launch passes it. -/
theorem V_cosT (c : Dev nD) : V m c main_v21 = cosT := rfl

/-- The second table as the launch passes it. -/
theorem V_sinLo (c : Dev nD) : V m c main_v23 = sinLo := rfl

/-- The third table as the launch passes it. -/
theorem V_sinHi (c : Dev nD) : V m c main_v24 = sinHi := rfl

/-- How the windows' blocks lie at a grid point, decided over the points. -/
theorem idx_facts : ∀ t : Fin cfg0.N,
    win0_0.index t 0 = t.val / 12 ∧ win0_0.index t 1 = 0 ∧ win0_1.index t 0 = t.val / 12 ∧ win0_1.index t 1 = 0
    ∧ win0_2.index t 0 = 0 ∧ win0_2.index t 1 = t.val % 12
    ∧ win0_3.index t 0 = t.val / 12 ∧ win0_3.index t 1 = 0 ∧ win0_4.index t 0 = t.val / 12 ∧ win0_4.index t 1 = 0
    ∧ win0_5.index t 0 = t.val / 12 ∧ win0_5.index t 1 = 0
    ∧ win0_6.index t 0 = 0 ∧ win0_6.index t 1 = t.val / 12 ∧ win0_6.index t 2 = t.val % 12
    ∧ win0_7.index t 0 = 0 ∧ win0_7.index t 1 = t.val / 12 ∧ win0_7.index t 2 = t.val % 12
    ∧ win0_8.index t 0 = t.val / 12 ∧ win0_8.index t 1 = t.val % 12
    ∧ win0_9.index t 0 = t.val / 12 ∧ win0_9.index t 1 = t.val % 12
    ∧ win0_10.index t 0 = t.val / 12 ∧ win0_10.index t 1 = t.val % 12 ∧ t.val < 96 :=
  (by decide +kernel : ∀ t : Fin grid0.N, _)

/-- The points. -/
theorem point_lt (t : Fin cfg0.N) : t.val < 96 := by
  obtain ⟨-, -, -, -, -, -, -, -, -, -, -, -, -, -, -, -, -, -, -, -, -, -, -, -, h⟩ := idx_facts t
  exact h

/-- A block's row among the array's. -/
abbrev row (t : Fin cfg0.N) (r : Fin 1024) : Fin 8192 := ⟨1024 * (t.val / 12) + r.val, by have := point_lt t; have := r.isLt; omega⟩

/-- A block's column among the weight's. -/
abbrev col (t : Fin cfg0.N) (j : Fin 512) : Fin 10240 := ⟨512 * (t.val % 12) + j.val, by have := j.isLt; omega⟩

/-- A block's column has its column's lane. -/
theorem lane_col (t : Fin cfg0.N) (j : Fin 512) : lane j.val = lane (col t j).val :=
  Fin.ext (by show j.val % 128 = (512 * (t.val % 12) + j.val) % 128; omega)

/-- Turning a block's column turns its column. -/
theorem turn_col (o : ℕ) (t : Fin cfg0.N) (j : Fin 512) : col t (turn (C := 512) (by decide) o j) = turn (C := 10240) (by decide) o (col t j) :=
  Fin.ext (by
    show 512 * (t.val % 12) + (j.val / 128 * 128 + (j.val + o) % 128) = (512 * (t.val % 12) + j.val) / 128 * 128 + (512 * (t.val % 12) + j.val + o) % 128
    omega)

/-- A block's projection is the arrays'. -/
theorem proj_block (c : Dev nD) (t : Fin cfg0.N) (r : Fin 1024) (j : Fin 512) :
    proj (R := 1024) (C := 512) (iblk m c 0 t) (iblk m c 1 t) (iblk m c 2 t) r j
      = proj (R := 8192) (C := 10240) (m ((c : Thread nD τ).loc main_arg0)) (m ((c : Thread nD τ).loc main_arg1)) (m ((c : Thread nD τ).loc main_arg2)) (row t r) (col t j) := by
  obtain ⟨h00, h01, h10, h11, h20, h21, -⟩ := idx_facts t
  unfold proj
  refine congrArg₂ (fun u v : EReal => u * v) (Finset.sum_congr rfl fun k _ => congrArg₂ (fun u v : EReal => u * v) ?_ ?_) ?_
  · show V m c main_arg0 ((win0_0.rect t).emb (ix2 r k : S1024x4096.Idx)) = _
    rw [V_main_arg0]
    refine congrArg _ (funext fun a => Fin.ext ?_)
    match a with
    | ⟨0, _⟩ => show win0_0.index t 0 * 1024 + 1 * r.val = 1024 * (t.val / 12) + r.val; rw [h00]; omega
    | ⟨1, _⟩ => show win0_0.index t 1 * 4096 + 1 * k.val = k.val; rw [h01]; omega
  · show V m c main_arg2 ((win0_2.rect t).emb (ix2 k j : S4096x512.Idx)) = _
    rw [V_main_arg2]
    refine congrArg _ (funext fun a => Fin.ext ?_)
    match a with
    | ⟨0, _⟩ => show win0_2.index t 0 * 4096 + 1 * k.val = k.val; rw [h20]; omega
    | ⟨1, _⟩ => show win0_2.index t 1 * 512 + 1 * j.val = 512 * (t.val % 12) + j.val; rw [h21]; omega
  · show V m c main_arg1 ((win0_1.rect t).emb (ix2 r (lane j.val) : S1024x128.Idx)) = _
    rw [V_main_arg1, lane_col t j]
    refine congrArg _ (funext fun a => Fin.ext ?_)
    match a with
    | ⟨0, _⟩ => show win0_1.index t 0 * 1024 + 1 * r.val = 1024 * (t.val / 12) + r.val; rw [h10]; omega
    | ⟨1, _⟩ => show win0_1.index t 1 * 128 + 1 * (lane (col t j).val).val = (lane (col t j).val).val; rw [h11]; omega

/-- A block of the first table. -/
theorem tab3 (c : Dev nD) (t : Fin cfg0.N) (r : Fin 1024) (l : Fin 128) : (iblk m c 3 t) (ix2 r l : S1024x128.Idx) = cosT (ix2 (row t r) l) := by
  obtain ⟨-, -, -, -, -, -, h0, h1, -⟩ := idx_facts t
  show V m c main_v21 ((win0_3.rect t).emb (ix2 r l : S1024x128.Idx)) = _
  refine (congrFun (V_cosT m c) _).trans (congrArg cosT (funext fun a => Fin.ext ?_))
  match a with
  | ⟨0, _⟩ => show win0_3.index t 0 * 1024 + 1 * r.val = 1024 * (t.val / 12) + r.val; rw [h0]; omega
  | ⟨1, _⟩ => show win0_3.index t 1 * 128 + 1 * l.val = l.val; rw [h1]; omega

/-- A block of the second table. -/
theorem tab4 (c : Dev nD) (t : Fin cfg0.N) (r : Fin 1024) (l : Fin 128) : (iblk m c 4 t) (ix2 r l : S1024x128.Idx) = sinLo (ix2 (row t r) l) := by
  obtain ⟨-, -, -, -, -, -, -, -, h0, h1, -⟩ := idx_facts t
  show V m c main_v23 ((win0_4.rect t).emb (ix2 r l : S1024x128.Idx)) = _
  refine (congrFun (V_sinLo m c) _).trans (congrArg sinLo (funext fun a => Fin.ext ?_))
  match a with
  | ⟨0, _⟩ => show win0_4.index t 0 * 1024 + 1 * r.val = 1024 * (t.val / 12) + r.val; rw [h0]; omega
  | ⟨1, _⟩ => show win0_4.index t 1 * 128 + 1 * l.val = l.val; rw [h1]; omega

/-- A block of the third table. -/
theorem tab5 (c : Dev nD) (t : Fin cfg0.N) (r : Fin 1024) (l : Fin 128) : (iblk m c 5 t) (ix2 r l : S1024x128.Idx) = sinHi (ix2 (row t r) l) := by
  obtain ⟨-, -, -, -, -, -, -, -, -, -, h0, h1, -⟩ := idx_facts t
  show V m c main_v24 ((win0_5.rect t).emb (ix2 r l : S1024x128.Idx)) = _
  refine (congrFun (V_sinHi m c) _).trans (congrArg sinHi (funext fun a => Fin.ext ?_))
  match a with
  | ⟨0, _⟩ => show win0_5.index t 0 * 1024 + 1 * r.val = 1024 * (t.val / 12) + r.val; rw [h0]; omega
  | ⟨1, _⟩ => show win0_5.index t 1 * 128 + 1 * l.val = l.val; rw [h1]; omega

/-- A block's turn is the arrays'. -/
theorem rot_block (c : Dev nD) (t : Fin cfg0.N) (r : Fin 1024) (j : Fin 512) :
    rot (R := 1024) (C := 512) (by decide) (iblk m c 0 t) (iblk m c 1 t) (iblk m c 2 t) (iblk m c 3 t) (iblk m c 4 t) (iblk m c 5 t) r j
      = rot (R := 8192) (C := 10240) (by decide) (m ((c : Thread nD τ).loc main_arg0)) (m ((c : Thread nD τ).loc main_arg1)) (m ((c : Thread nD τ).loc main_arg2)) cosT sinLo sinHi
          (row t r) (col t j) := by
  have e : ∀ o : ℕ, proj (R := 1024) (C := 512) (iblk m c 0 t) (iblk m c 1 t) (iblk m c 2 t) r (turn (C := 512) (by decide) o j)
      = proj (R := 8192) (C := 10240) (m ((c : Thread nD τ).loc main_arg0)) (m ((c : Thread nD τ).loc main_arg1)) (m ((c : Thread nD τ).loc main_arg2)) (row t r) (turn (C := 10240) (by decide) o (col t j)) :=
    fun o => (proj_block m c t r _).trans (congrArg _ (turn_col o t j))
  unfold rot
  rw [← lane_col t j]
  exact turn_congr (proj_block m c t r j) (tab3 m c t r _) (e 16) (tab4 m c t r _) (e 112) (tab5 m c t r _)

/-- The projections of the whole arrays. -/
abbrev G8 (c : Dev nD) : Buf (Elt Ideal) ((c : Thread nD τ).loc main_v25_0) :=
  qkv (m ((c : Thread nD τ).loc main_arg0)) (m ((c : Thread nD τ).loc main_arg1)) (m ((c : Thread nD τ).loc main_arg2))

/-- The first layer of the first cast weight. -/
abbrev G9 (c : Dev nD) : Buf (Elt Ideal) ((c : Thread nD τ).loc main_v25_1) :=
  fun y => m ((c : Thread nD τ).loc main_arg3) (ix3 (0 : Fin 4) (y 0 : Fin 4096) (y 1 : Fin 6144))

/-- The first layer of the second cast weight. -/
abbrev G10 (c : Dev nD) : Buf (Elt Ideal) ((c : Thread nD τ).loc main_v25_2) :=
  fun y => m ((c : Thread nD τ).loc main_arg4) (ix3 (0 : Fin 4) (y 0 : Fin 4096) (y 1 : Fin 6144))

/-- A block's row and column in the result. -/
theorem emb8 (t : Fin cfg0.N) (y : S1024x512.Idx) :
    ((win0_8.rect t).emb y 0 : Fin 8192) = row t (y 0) ∧ up ((win0_8.rect t).emb y 1) = col t (y 1) := by
  obtain ⟨-, -, -, -, -, -, -, -, -, -, -, -, -, -, -, -, -, -, h80, h81, -⟩ := idx_facts t
  refine ⟨Fin.ext ?_, Fin.ext ?_⟩
  · show win0_8.index t 0 * 1024 + 1 * (y 0).val = 1024 * (t.val / 12) + (y 0).val; rw [h80]; omega
  · show win0_8.index t 1 * 512 + 1 * (y 1).val = 512 * (t.val % 12) + (y 1).val; rw [h81]; omega

/-- What a point writes back of the projections is its block of the whole array's. -/
theorem flushed8_eq (c : Dev nD) (t : Fin cfg0.N) : (dats m 0 c).flushed 8 t = ((cfg0.win 8).blk t).view.read (Elt Ideal) (G8 m c) := by
  by_cases h0 : t.val % 12 ≤ 7
  · rw [Value.flushed8_A m c t h0 (by omega)]
    funext y
    refine (out8_A .. : _ = _).trans ((rot_block m c t (y 0) (y 1)).trans ?_)
    show _ = qkv _ _ _ ((win0_8.rect t).emb y)
    obtain ⟨e0, e1⟩ := emb8 t y
    have hlt : ((win0_8.rect t).emb y 1 : Fin 6144).val < 4096 := by
      have hj : (y 1).val < 512 := (y 1).isLt
      have : ((win0_8.rect t).emb y 1 : Fin 6144).val = 512 * (t.val % 12) + (y 1).val := congrArg Fin.val e1
      omega
    unfold qkv
    refine Eq.trans ?_ (if_pos hlt).symm
    rw [← e0, ← e1]
  · rw [Value.flushed8_B m c t h0 (by omega)]
    funext y
    refine (out8_B .. : _ = _).trans ((proj_block m c t (y 0) (y 1)).trans ?_)
    show _ = qkv _ _ _ ((win0_8.rect t).emb y)
    obtain ⟨e0, e1⟩ := emb8 t y
    have hlt : ¬((win0_8.rect t).emb y 1 : Fin 6144).val < 4096 := by
      have : ((win0_8.rect t).emb y 1 : Fin 6144).val = 512 * (t.val % 12) + (y 1).val := congrArg Fin.val e1
      omega
    unfold qkv
    refine Eq.trans ?_ (if_neg hlt).symm
    rw [← e0, ← e1]

/-- A point's block of the first cast weight, by the array's own indices. -/
theorem block9 (c : Dev nD) (t : Fin cfg0.N) (y : S512x512.Idx) :
    (iblk m c 6 t) (ix3 (0 : Fin 1) (y 0 : Fin 512) (y 1 : Fin 512) : S1x512x512.Idx) = G9 m c ((win0_9.rect t).emb y) := by
  obtain ⟨-, -, -, -, -, -, -, -, -, -, -, -, h0, h1, h2, -, -, -, -, -, k0, k1, -⟩ := idx_facts t
  show V m c main_arg3 ((win0_6.rect t).emb (ix3 (0 : Fin 1) (y 0 : Fin 512) (y 1 : Fin 512) : S1x512x512.Idx)) = _
  rw [V_main_arg3]
  refine congrArg _ (funext fun a => Fin.ext ?_)
  match a with
  | ⟨0, _⟩ => show win0_6.index t 0 * 1 + 1 * 0 = 0; rw [h0]
  | ⟨1, _⟩ => show win0_6.index t 1 * 512 + 1 * (y 0).val = win0_9.index t 0 * 512 + 1 * (y 0).val; rw [h1, k0]
  | ⟨2, _⟩ => show win0_6.index t 2 * 512 + 1 * (y 1).val = win0_9.index t 1 * 512 + 1 * (y 1).val; rw [h2, k1]

/-- What a point writes back of the first cast weight is its block of the layer's weight. -/
theorem flushed9_eq (c : Dev nD) (t : Fin cfg0.N) : (dats m 0 c).flushed 9 t = ((cfg0.win 9).blk t).view.read (Elt Ideal) (G9 m c) := by
  by_cases h0 : t.val % 12 ≤ 7
  · rw [Value.flushed9_A m c t h0 (by omega)]
    exact funext fun y => (out9_A .. : _ = _).trans (block9 m c t y)
  · rw [Value.flushed9_B m c t h0 (by omega)]
    exact funext fun y => (out9_B .. : _ = _).trans (block9 m c t y)

/-- A point's block of the second cast weight, by the array's own indices. -/
theorem block10 (c : Dev nD) (t : Fin cfg0.N) (y : S512x512.Idx) :
    (iblk m c 7 t) (ix3 (0 : Fin 1) (y 0 : Fin 512) (y 1 : Fin 512) : S1x512x512.Idx) = G10 m c ((win0_10.rect t).emb y) := by
  obtain ⟨-, -, -, -, -, -, -, -, -, -, -, -, -, -, -, h0, h1, h2, -, -, -, -, k0, k1, -⟩ := idx_facts t
  show V m c main_arg4 ((win0_7.rect t).emb (ix3 (0 : Fin 1) (y 0 : Fin 512) (y 1 : Fin 512) : S1x512x512.Idx)) = _
  rw [V_main_arg4]
  refine congrArg _ (funext fun a => Fin.ext ?_)
  match a with
  | ⟨0, _⟩ => show win0_7.index t 0 * 1 + 1 * 0 = 0; rw [h0]
  | ⟨1, _⟩ => show win0_7.index t 1 * 512 + 1 * (y 0).val = win0_10.index t 0 * 512 + 1 * (y 0).val; rw [h1, k0]
  | ⟨2, _⟩ => show win0_7.index t 2 * 512 + 1 * (y 1).val = win0_10.index t 1 * 512 + 1 * (y 1).val; rw [h2, k1]

/-- What a point writes back of the second cast weight is its block of the layer's weight. -/
theorem flushed10_eq (c : Dev nD) (t : Fin cfg0.N) : (dats m 0 c).flushed 10 t = ((cfg0.win 10).blk t).view.read (Elt Ideal) (G10 m c) := by
  by_cases h0 : t.val % 12 ≤ 7
  · rw [Value.flushed10_A m c t h0 (by omega)]
    exact funext fun y => (out10_A .. : _ = _).trans (block10 m c t y)
  · rw [Value.flushed10_B m c t h0 (by omega)]
    exact funext fun y => (out10_B .. : _ = _).trans (block10 m c t y)

/-- Every block of the projections' array is some point's. -/
theorem onto8 : ∀ (p : Fin 8) (q : Fin 12), ∃ t : Fin cfg0.N, win0_8.index t 0 = p.val ∧ win0_8.index t 1 = q.val :=
  (by decide +kernel : ∀ (p : Fin 8) (q : Fin 12), ∃ t : Fin grid0.N, _)

/-- The projections' array after the run. -/
theorem final8 (c : Dev nD) : (dats m 0 c).arrAt 8 cfg0.N = G8 m c := by
  refine (dats m 0 c).arrAt_eq_of_cover 8 (G8 m c) (fun t _ => flushed8_eq m c t) fun i => ?_
  have h0 : (i 0).val < 8192 := (i 0).isLt
  have h1 : (i 1).val < 6144 := (i 1).isLt
  obtain ⟨t, ht0, ht1⟩ := onto8 ⟨(i 0).val / 1024, by omega⟩ ⟨(i 1).val / 512, by omega⟩
  refine ⟨t, flush0_8 t, ?_⟩
  show i ∈ ((View.whole main_v25_0).slice (win0_8.rect t)).set
  rw [View.set_slice_whole, Rect.mem_set_unit]
  intro a
  match a with
  | ⟨0, _⟩ => show win0_8.index t 0 * 1024 ≤ (i 0).val ∧ (i 0).val < win0_8.index t 0 * 1024 + 1024; rw [ht0]; show (i 0).val / 1024 * 1024 ≤ _ ∧ _ < (i 0).val / 1024 * 1024 + 1024; omega
  | ⟨1, _⟩ => show win0_8.index t 1 * 512 ≤ (i 1).val ∧ (i 1).val < win0_8.index t 1 * 512 + 512; rw [ht1]; show (i 1).val / 512 * 512 ≤ _ ∧ _ < (i 1).val / 512 * 512 + 512; omega

/-- Every block of the first cast weight's array is some point's. -/
theorem onto9 : ∀ (p : Fin 8) (q : Fin 12), ∃ t : Fin cfg0.N, win0_9.index t 0 = p.val ∧ win0_9.index t 1 = q.val :=
  (by decide +kernel : ∀ (p : Fin 8) (q : Fin 12), ∃ t : Fin grid0.N, _)

/-- The first cast weight's array after the run. -/
theorem final9 (c : Dev nD) : (dats m 0 c).arrAt 9 cfg0.N = G9 m c := by
  refine (dats m 0 c).arrAt_eq_of_cover 9 (G9 m c) (fun t _ => flushed9_eq m c t) fun i => ?_
  have h0 : (i 0).val < 4096 := (i 0).isLt
  have h1 : (i 1).val < 6144 := (i 1).isLt
  obtain ⟨t, ht0, ht1⟩ := onto9 ⟨(i 0).val / 512, by omega⟩ ⟨(i 1).val / 512, by omega⟩
  refine ⟨t, flush0_9 t, ?_⟩
  show i ∈ ((View.whole main_v25_1).slice (win0_9.rect t)).set
  rw [View.set_slice_whole, Rect.mem_set_unit]
  intro a
  match a with
  | ⟨0, _⟩ => show win0_9.index t 0 * 512 ≤ (i 0).val ∧ (i 0).val < win0_9.index t 0 * 512 + 512; rw [ht0]; show (i 0).val / 512 * 512 ≤ _ ∧ _ < (i 0).val / 512 * 512 + 512; omega
  | ⟨1, _⟩ => show win0_9.index t 1 * 512 ≤ (i 1).val ∧ (i 1).val < win0_9.index t 1 * 512 + 512; rw [ht1]; show (i 1).val / 512 * 512 ≤ _ ∧ _ < (i 1).val / 512 * 512 + 512; omega

/-- Every block of the second cast weight's array is some point's. -/
theorem onto10 : ∀ (p : Fin 8) (q : Fin 12), ∃ t : Fin cfg0.N, win0_10.index t 0 = p.val ∧ win0_10.index t 1 = q.val :=
  (by decide +kernel : ∀ (p : Fin 8) (q : Fin 12), ∃ t : Fin grid0.N, _)

/-- The second cast weight's array after the run. -/
theorem final10 (c : Dev nD) : (dats m 0 c).arrAt 10 cfg0.N = G10 m c := by
  refine (dats m 0 c).arrAt_eq_of_cover 10 (G10 m c) (fun t _ => flushed10_eq m c t) fun i => ?_
  have h0 : (i 0).val < 4096 := (i 0).isLt
  have h1 : (i 1).val < 6144 := (i 1).isLt
  obtain ⟨t, ht0, ht1⟩ := onto10 ⟨(i 0).val / 512, by omega⟩ ⟨(i 1).val / 512, by omega⟩
  refine ⟨t, flush0_10 t, ?_⟩
  show i ∈ ((View.whole main_v25_2).slice (win0_10.rect t)).set
  rw [View.set_slice_whole, Rect.mem_set_unit]
  intro a
  match a with
  | ⟨0, _⟩ => show win0_10.index t 0 * 512 ≤ (i 0).val ∧ (i 0).val < win0_10.index t 0 * 512 + 512; rw [ht0]; show (i 0).val / 512 * 512 ≤ _ ∧ _ < (i 0).val / 512 * 512 + 512; omega
  | ⟨1, _⟩ => show win0_10.index t 1 * 512 ≤ (i 1).val ∧ (i 1).val < win0_10.index t 1 * 512 + 512; rw [ht1]; show (i 1).val / 512 * 512 ≤ _ ∧ _ < (i 1).val / 512 * 512 + 512; omega

section Reference

open Cert.QkvRefIdeal.Read
open Cert.QkvRefIdeal (S8192x32x16 S8192x32x96 S8192x32x128)

variable (x0 : Vec Ideal S8192x4096 .bf16) (x1 : Vec Ideal S8192x128 .f32) (x2 : Vec Ideal S4096x10240 .bf16)

/-- The reference's projection. -/
theorem ref5 (i : S8192x6144.Idx) (r : Fin 8192) (j : Fin 10240) (hr : (i 0).val = r.val) (hj : (i 1).val = j.val) :
    val_main_v5 (F := Ideal) x0 x1 x2 i = proj x0 x1 x2 r j := by
  have h0 : (i 0).val < 8192 := (i 0).isLt
  have h1 : (i 1).val < 6144 := (i 1).isLt
  rw [val_main_v5_apply, val_main_v1_apply, val_main_v4_apply, val_main_v3_apply, val_main_v2_apply]
  unfold proj
  refine congrArg₂ (fun u v : EReal => u * v) (Finset.sum_congr rfl fun k _ => congrArg₂ (fun u v : EReal => u * v) (congrArg x0 ?_) ((val_main_v0_apply x2 _).trans (congrArg x2 ?_))) (congrArg x1 ?_)
  · funext a
    match a with
    | ⟨0, _⟩ => exact Fin.ext hr
    | ⟨1, _⟩ => rfl
  · funext a
    match a with
    | ⟨0, _⟩ => rfl
    | ⟨1, _⟩ => exact Fin.ext hj
  · funext a
    refine Fin.ext ?_
    match a with
    | ⟨0, _⟩ => show (((0 * 8192 + ((i 0).val * 6144 + (i 1).val) / 6144 % 8192) * 1 + 0) * 128 + ((i 0).val * 6144 + (i 1).val) % 128) / 128 = r.val; omega
    | ⟨1, _⟩ => show (((0 * 8192 + ((i 0).val * 6144 + (i 1).val) / 6144 % 8192) * 1 + 0) * 128 + ((i 0).val * 6144 + (i 1).val) % 128) % 128 = j.val % 128; omega

/-- The reference's heads. -/
theorem ref27 (r : Fin 8192) (d : Fin 32) (l : Fin 128) (i : S8192x32x128.Idx) (j : Fin 10240) (h0 : (i 0).val = r.val) (h1 : (i 1).val = d.val)
    (h2 : (i 2).val = l.val) (hj : 128 * d.val + l.val = j.val) : val_main_v27 (F := Ideal) x0 x1 x2 i = proj x0 x1 x2 r j := by
  have hr := r.isLt
  have hd := d.isLt
  have hl := l.isLt
  rw [val_main_v27_apply, val_main_v26_apply]
  refine ref5 x0 x1 x2 _ r j ?_ ?_
  · show (((i 0).val * 32 + (i 1).val) * 128 + (i 2).val) / 4096 = r.val; rw [h0, h1, h2]; omega
  · show (((i 0).val * 32 + (i 1).val) * 128 + (i 2).val) % 4096 = j.val; rw [h0, h1, h2]; omega

/-- A head's lanes in three pieces: the first. -/
theorem cat_fst (a b : FVec Ideal S8192x32x16 .f32) (d : FVec Ideal S8192x32x96 .f32) (h : Shape.Concatenates [S8192x32x16, S8192x32x16, S8192x32x96] S8192x32x128 2)
    (r : Fin 8192) (e : Fin 32) (l : Fin 128) (hl : l.val < 16) :
    concatenate S8192x32x128 2 [⟨S8192x32x16, a⟩, ⟨S8192x32x16, b⟩, ⟨S8192x32x96, d⟩] h (ix3 r e l) = a (ix3 r e (⟨l.val, hl⟩ : Fin 16)) :=
  concatenate_apply_piece (t := S8192x32x128) 2 [⟨S8192x32x16, a⟩, ⟨S8192x32x16, b⟩, ⟨S8192x32x96, d⟩] _ (ix3 r e l) 0 (by show 0 < 3; omega) S8192x32x16 a rfl rfl 0 rfl
    (ix3 r e (⟨l.val, hl⟩ : Fin 16))
    (fun b hb => match b with
      | ⟨0, _⟩ => rfl
      | ⟨1, _⟩ => rfl
      | ⟨2, _⟩ => absurd rfl hb)
    (by show 0 + l.val = l.val; omega)

/-- A head's lanes in three pieces: the second. -/
theorem cat_snd (a b : FVec Ideal S8192x32x16 .f32) (d : FVec Ideal S8192x32x96 .f32) (h : Shape.Concatenates [S8192x32x16, S8192x32x16, S8192x32x96] S8192x32x128 2)
    (r : Fin 8192) (e : Fin 32) (l : Fin 128) (hl : 16 ≤ l.val) (hl' : l.val < 32) :
    concatenate S8192x32x128 2 [⟨S8192x32x16, a⟩, ⟨S8192x32x16, b⟩, ⟨S8192x32x96, d⟩] h (ix3 r e l) = b (ix3 r e (⟨l.val - 16, by omega⟩ : Fin 16)) :=
  concatenate_apply_piece (t := S8192x32x128) 2 [⟨S8192x32x16, a⟩, ⟨S8192x32x16, b⟩, ⟨S8192x32x96, d⟩] _ (ix3 r e l) 1 (by show 1 < 3; omega) S8192x32x16 b rfl rfl 16 rfl
    (ix3 r e (⟨l.val - 16, by omega⟩ : Fin 16))
    (fun b hb => match b with
      | ⟨0, _⟩ => rfl
      | ⟨1, _⟩ => rfl
      | ⟨2, _⟩ => absurd rfl hb)
    (by show 16 + (l.val - 16) = l.val; omega)

/-- A head's lanes in three pieces: the third. -/
theorem cat_trd (a b : FVec Ideal S8192x32x16 .f32) (d : FVec Ideal S8192x32x96 .f32) (h : Shape.Concatenates [S8192x32x16, S8192x32x16, S8192x32x96] S8192x32x128 2)
    (r : Fin 8192) (e : Fin 32) (l : Fin 128) (hl : 32 ≤ l.val) :
    concatenate S8192x32x128 2 [⟨S8192x32x16, a⟩, ⟨S8192x32x16, b⟩, ⟨S8192x32x96, d⟩] h (ix3 r e l) = d (ix3 r e (⟨l.val - 32, by omega⟩ : Fin 96)) :=
  concatenate_apply_piece (t := S8192x32x128) 2 [⟨S8192x32x16, a⟩, ⟨S8192x32x16, b⟩, ⟨S8192x32x96, d⟩] _ (ix3 r e l) 2 (by show 2 < 3; omega) S8192x32x96 d rfl rfl 32 rfl
    (ix3 r e (⟨l.val - 32, by omega⟩ : Fin 96))
    (fun b hb => match b with
      | ⟨0, _⟩ => rfl
      | ⟨1, _⟩ => rfl
      | ⟨2, _⟩ => absurd rfl hb)
    (by show 32 + (l.val - 32) = l.val; omega)

/-- The reference's first half of a head's turned lanes. -/
theorem ref35 (r : Fin 8192) (d : Fin 32) (k : Fin 16) (j j' : Fin 10240) (hj : 128 * d.val + k.val = j.val) (hj' : 128 * d.val + (16 + k.val) = j'.val) :
    val_main_v35 (F := Ideal) x0 x1 x2 (ix3 r d k : S8192x32x16.Idx) = proj x0 x1 x2 r j * cs (ix2 r k) - proj x0 x1 x2 r j' * sn (ix2 r k) := by
  have hk := k.isLt
  rw [val_main_v35_apply, val_main_v32_apply, val_main_v34_apply, val_main_v28_apply, val_main_v29_apply, val_main_v31_apply, val_main_v33_apply, val_main_v23_apply, val_main_v25_apply]
  refine congrArg₂ (fun u v : EReal => u - v) (congrArg₂ (fun u v : EReal => u * v) (ref27 x0 x1 x2 r d ⟨k.val, by omega⟩ _ j rfl rfl rfl hj) (congrArg cs ?_))
    (congrArg₂ (fun u v : EReal => u * v) (ref27 x0 x1 x2 r d ⟨16 + k.val, by omega⟩ _ j' rfl rfl rfl hj') (congrArg sn ?_))
  · funext a
    match a with
    | ⟨0, _⟩ => rfl
    | ⟨1, _⟩ => rfl
  · funext a
    match a with
    | ⟨0, _⟩ => rfl
    | ⟨1, _⟩ => rfl

/-- The reference's second half of a head's turned lanes. -/
theorem ref40 (r : Fin 8192) (d : Fin 32) (k : Fin 16) (j j' : Fin 10240) (hj : 128 * d.val + (16 + k.val) = j.val) (hj' : 128 * d.val + k.val = j'.val) :
    val_main_v40 (F := Ideal) x0 x1 x2 (ix3 r d k : S8192x32x16.Idx) = proj x0 x1 x2 r j * cs (ix2 r k) + proj x0 x1 x2 r j' * sn (ix2 r k) := by
  have hk := k.isLt
  rw [val_main_v40_apply, val_main_v37_apply, val_main_v39_apply, val_main_v28_apply, val_main_v29_apply, val_main_v36_apply, val_main_v38_apply, val_main_v23_apply, val_main_v25_apply]
  refine congrArg₂ (fun u v : EReal => u + v) (congrArg₂ (fun u v : EReal => u * v) (ref27 x0 x1 x2 r d ⟨16 + k.val, by omega⟩ _ j rfl rfl rfl hj) (congrArg cs ?_))
    (congrArg₂ (fun u v : EReal => u * v) (ref27 x0 x1 x2 r d ⟨k.val, by omega⟩ _ j' rfl rfl rfl hj') (congrArg sn ?_))
  · funext a
    match a with
    | ⟨0, _⟩ => rfl
    | ⟨1, _⟩ => rfl
  · funext a
    match a with
    | ⟨0, _⟩ => rfl
    | ⟨1, _⟩ => rfl

/-- The reference's heads after the turn. -/
theorem ref41 (r : Fin 8192) (d : Fin 32) (l : Fin 128) (j : Fin 10240) (hj : 128 * d.val + l.val = j.val) :
    val_main_v41 (F := Ideal) x0 x1 x2 (ix3 r d l : S8192x32x128.Idx) = rot (R := 8192) (C := 10240) (by decide) x0 x1 x2 cosT sinLo sinHi r j := by
  have hl := l.isLt
  have hm : j.val % 128 = l.val := by omega
  unfold val_main_v41
  by_cases h1 : l.val < 16
  · refine (cat_fst _ _ _ _ r d l h1).trans ((ref35 x0 x1 x2 r d ⟨l.val, h1⟩ j (turn (by decide) 16 j) hj ?_).trans ?_)
    · show 128 * d.val + (16 + l.val) = j.val / 128 * 128 + (j.val + 16) % 128; omega
    · rw [rot_fst _ x0 x1 x2 r j (by omega)]
      have e : (⟨l.val, h1⟩ : Fin 16) = ⟨j.val % 128, by omega⟩ := Fin.ext hm.symm
      rw [e]
  by_cases h2 : l.val < 32
  · refine (cat_snd _ _ _ _ r d l (by omega) h2).trans ((ref40 x0 x1 x2 r d ⟨l.val - 16, by omega⟩ j (turn (by decide) 112 j) ?_ ?_).trans ?_)
    · show 128 * d.val + (16 + (l.val - 16)) = j.val; omega
    · show 128 * d.val + (l.val - 16) = j.val / 128 * 128 + (j.val + 112) % 128; omega
    · rw [rot_snd _ x0 x1 x2 r j (by omega) (by omega)]
      have e : (⟨l.val - 16, by omega⟩ : Fin 16) = ⟨j.val % 128 - 16, by omega⟩ := Fin.ext (by show l.val - 16 = j.val % 128 - 16; omega)
      rw [e]
  · refine (cat_trd _ _ _ _ r d l (by omega)).trans ((val_main_v30_apply ..).trans ((ref27 x0 x1 x2 r d l _ j rfl rfl ?_ hj).trans (rot_trd _ x0 x1 x2 r j (by omega)).symm))
    show 32 + (l.val - 32) = l.val; omega

/-- The reference's projections are the same function. -/
theorem ref44 (i : S8192x6144.Idx) : val_main_v44 (F := Ideal) x0 x1 x2 i = qkv x0 x1 x2 i := by
  have h0 : (i 0).val < 8192 := (i 0).isLt
  have h1 : (i 1).val < 6144 := (i 1).isLt
  unfold val_main_v44 qkv
  by_cases hlt : (i 1).val < 4096
  · refine Eq.trans ?_ (if_pos hlt).symm
    refine (concatenate_pair_apply_left (t := S8192x6144) (s₁ := ⟨2, ![8192, 4096]⟩) (s₂ := ⟨2, ![8192, 2048]⟩) 1 _ _ _ i rfl (ix2 (i 0 : Fin 8192) (⟨(i 1).val, hlt⟩ : Fin 4096)) (fun b => match b with
      | ⟨0, _⟩ => rfl
      | ⟨1, _⟩ => rfl)).trans ((val_main_v42_apply ..).trans ?_)
    refine Eq.trans (congrArg (val_main_v41 (F := Ideal) x0 x1 x2) (?_ : _ = (ix3 (i 0 : Fin 8192) (⟨(i 1).val / 128, by omega⟩ : Fin 32) (lane (i 1).val) : S8192x32x128.Idx)))
      (ref41 x0 x1 x2 (i 0) ⟨(i 1).val / 128, by omega⟩ (lane (i 1).val) (up (i 1)) (by show 128 * ((i 1).val / 128) + (i 1).val % 128 = (i 1).val; omega))
    funext a
    refine Fin.ext ?_
    match a with
    | ⟨0, _⟩ => show ((i 0).val * 4096 + (i 1).val) / 4096 = (i 0).val; omega
    | ⟨1, _⟩ => show ((i 0).val * 4096 + (i 1).val) / 128 % 32 = (i 1).val / 128; omega
    | ⟨2, _⟩ => show ((i 0).val * 4096 + (i 1).val) % 128 = (i 1).val % 128; omega
  · refine Eq.trans ?_ (if_neg hlt).symm
    refine (concatenate_pair_apply_right (t := S8192x6144) (s₁ := ⟨2, ![8192, 4096]⟩) (s₂ := ⟨2, ![8192, 2048]⟩) 1 _ _ _ i rfl rfl (ix2 (i 0 : Fin 8192) (⟨(i 1).val - 4096, by omega⟩ : Fin 2048)) (fun b hb => match b with
      | ⟨0, _⟩ => rfl
      | ⟨1, _⟩ => absurd rfl hb) (by show (i 1).val - 4096 + 4096 = (i 1).val; omega)).trans ((val_main_v43_apply ..).trans ?_)
    exact ref5 x0 x1 x2 _ (i 0) (up (i 1)) rfl (by show 4096 + ((i 1).val - 4096) = (i 1).val; omega)

/-- The reference's first cast weight is the same function. -/
theorem ref47 (x : Vec Ideal S4x4096x6144 .f32) (i : S4096x6144.Idx) :
    val_main_v47 (F := Ideal) x i = x (ix3 (0 : Fin 4) (i 0 : Fin 4096) (i 1 : Fin 6144)) := by
  have h0 : (i 0).val < 4096 := (i 0).isLt
  have h1 : (i 1).val < 6144 := (i 1).isLt
  rw [val_main_v47_apply, val_main_v46_apply, val_main_v45_apply]
  show x _ = _
  refine congrArg x (funext fun a => Fin.ext ?_)
  match a with
  | ⟨0, _⟩ => rfl
  | ⟨1, _⟩ => show ((i 0).val * 6144 + (i 1).val) / 6144 % 4096 = (i 0).val; omega
  | ⟨2, _⟩ => show ((i 0).val * 6144 + (i 1).val) % 6144 = (i 1).val; omega

/-- The reference's second cast weight is the same function. -/
theorem ref50 (x : Vec Ideal S4x4096x6144 .f32) (i : S4096x6144.Idx) :
    val_main_v50 (F := Ideal) x i = x (ix3 (0 : Fin 4) (i 0 : Fin 4096) (i 1 : Fin 6144)) := by
  have h0 : (i 0).val < 4096 := (i 0).isLt
  have h1 : (i 1).val < 6144 := (i 1).isLt
  rw [val_main_v50_apply, val_main_v49_apply, val_main_v48_apply]
  show x _ = _
  refine congrArg x (funext fun a => Fin.ext ?_)
  match a with
  | ⟨0, _⟩ => rfl
  | ⟨1, _⟩ => show ((i 0).val * 6144 + (i 1).val) / 6144 % 4096 = (i 0).val; omega
  | ⟨2, _⟩ => show ((i 0).val * 6144 + (i 1).val) % 6144 = (i 1).val; omega

end Reference

end Cert.QkvIdeal.RefValue

end
-- ==== Proof.QkvClaim.lean ====
/-
  The query, key and value projections' value claim: the kernel's run and the reference's, each ending at the same three functions.
-/
module

public import proofs.«01_k».proof.Defs
public import proofs.«01_k».proof.Proof.QkvValue

@[expose] public section

noncomputable section

namespace Cert.QkvIdeal.RefValue

open Idealize.ShloMosaic Idealize.ShloMosaic.TcCoe Idealize.SL.Sem

/-- The kernel's results are the turned projections and the two cast weights, and so are the reference's. -/
theorem algebraic : @Cert.algebraic_QkvIdeal_QkvRefIdeal Cert.QkvIdeal.Gen.facts Cert.QkvRefIdeal.Gen.facts := by
  intro m g m' g' _ hag
  refine ⟨fun c => G8 m c, fun c => G9 m c, fun c => G10 m c, ?_, ?_⟩
  · exact (θ_run _ _ _).mono (fun _ h c => ⟨(h c).1.trans (final8 m c), (h c).2.1.trans (final9 m c), (h c).2.2.1.trans (final10 m c), (h c).2.2.2⟩)
      (Cert.QkvIdeal.Value.run_blocks m g)
  · refine (θ_run _ _ _).mono (fun _ h c => ⟨(h c).1.trans ?_, (h c).2.1.trans ?_, (h c).2.2.1.trans ?_, (h c).2.2.2⟩) (Cert.QkvRefIdeal.Value.run (F := Ideal) m' g')
    · obtain ⟨h0, h1, h2, -⟩ := hag c
      refine (Cert.QkvRefIdeal.Read.val_main_v44_eq ..).trans ((funext fun i => ref44 _ _ _ i).trans ?_)
      exact congr (congr (congrArg qkv h0) h1) h2
    · obtain ⟨-, -, -, h3, -⟩ := hag c
      refine (Cert.QkvRefIdeal.Read.val_main_v47_eq ..).trans (funext fun i => (ref47 _ i).trans ?_)
      exact congrFun h3 _
    · obtain ⟨-, -, -, -, h4⟩ := hag c
      refine (Cert.QkvRefIdeal.Read.val_main_v50_eq ..).trans (funext fun i => (ref50 _ i).trans ?_)
      exact congrFun h4 _

end Cert.QkvIdeal.RefValue

end
-- ==== Proof.GluTiles.lean ====
/-
  The gated convolution's parts read at an index: an array as a function of its row and column numbers, what the lists of writes to
  a lane's buffer and to the shifted copies hold, one tap's product, the gated product of a lane tile, and the sum of the taps.
-/
module

public import proofs.«01_k».proof.Proof.Tiles
public import proofs.«01_k».proof.Proof.Gen.GluIdeal.Value

@[expose] public section

noncomputable section

namespace Cert.GluIdeal.RefValue

open Cert.GluIdeal Cert.GluIdeal.Gen Cert.Tiles Idealize.ShloMosaic Idealize.ShloMosaic.ValueIdx Idealize.ShloMosaic.TcCoe Idealize.SL.Sem

/-- A matrix at a row number and a column number, zero outside. -/
def n2 {R C : ℕ} (f : (⟨2, ![R, C]⟩ : Shape).Idx → EReal) (r c : ℕ) : EReal :=
  if h : r < R ∧ c < C then f (ix2 ⟨r, h.1⟩ ⟨c, h.2⟩) else 0

/-- The first matrix of a stack at a row number and a column number, zero outside. -/
def n3 {A R C : ℕ} (f : (⟨3, ![A + 1, R, C]⟩ : Shape).Idx → EReal) (r c : ℕ) : EReal :=
  if h : r < R ∧ c < C then f (ix3 0 ⟨r, h.1⟩ ⟨c, h.2⟩) else 0

theorem n2_of {R C : ℕ} (f : (⟨2, ![R, C]⟩ : Shape).Idx → EReal) (r c : ℕ) (hr : r < R) (hc : c < C) :
    n2 f r c = f (ix2 ⟨r, hr⟩ ⟨c, hc⟩) := dif_pos ⟨hr, hc⟩

theorem n3_of {A R C : ℕ} (f : (⟨3, ![A + 1, R, C]⟩ : Shape).Idx → EReal) (r c : ℕ) (hr : r < R) (hc : c < C) :
    n3 f r c = f (ix3 0 ⟨r, hr⟩ ⟨c, hc⟩) := dif_pos ⟨hr, hc⟩

/-- A list of writes to a lane's buffer. -/
abbrev PL2 := List (View.Piece (Elt Ideal) S544x128 .f32)

/-- A list of writes to the shifted copies. -/
abbrev PL4 := List (View.Piece (Elt Ideal) S2x7x536x128 .f32)

/-- What a lane's buffer holds after a list of writes. -/
def c2 (L : PL2) (r c : ℕ) : EReal := n2 (R := 544) (C := 128) (View.canon L) r c

/-- What a shifted copy holds after a list of writes. -/
def c4 (L : PL4) (t s p l : ℕ) : EReal :=
  if h : t < 2 ∧ s < 7 ∧ p < 536 ∧ l < 128 then View.canon L (ix4 ⟨t, h.1⟩ ⟨s, h.2.1⟩ ⟨p, h.2.2.1⟩ ⟨l, h.2.2.2⟩ : S2x7x536x128.Idx) else 0

/-- A read of 64 rows of a lane's buffer. -/
theorem rd2 (v : View sig .tc .vmem S544x128 .f32) (L : PL2) (o : ℕ) (h : ∀ a : Fin 2, ![o, 0] a + S64x128.size a ≤ S544x128.size a) (y : S64x128.Idx) :
    v.readCov L (Rect.unit (s := S544x128) ![o, 0] S64x128.size h).toLoadRect y = c2 L ((y 0).val + o) (y 1).val := by
  have h0 : o + 64 ≤ 544 := h 0
  have y0 : (y 0).val < 64 := (y 0).isLt
  have y1 : (y 1).val < 128 := (y 1).isLt
  rw [View.readCov_eq_canon']
  unfold c2
  rw [n2_of _ _ _ (by omega) y1]
  refine congrArg (View.canon L) ?_
  funext a
  match a with
  | ⟨0, _⟩ => exact Fin.ext (by show o + 1 * (y 0).val = (y 0).val + o; omega)
  | ⟨1, _⟩ => exact Fin.ext (by show 0 + 1 * (y 1).val = (y 1).val; omega)

/-- The same, the read's extents written out. -/
theorem rd2' (v : View sig .tc .vmem S544x128 .f32) (L : PL2) (o : ℕ) (h : ∀ a : Fin 2, ![o, 0] a + ![64, 128] a ≤ S544x128.size a) (y : S64x128.Idx) :
    v.readCov L (Rect.unit (s := S544x128) ![o, 0] ![64, 128] h).toLoadRect y = c2 L ((y 0).val + o) (y 1).val := rd2 v L o h y

/-- A read of all but the last rows of a lane's buffer, from a row on. -/
theorem rd2s (v : View sig .tc .vmem S544x128 .f32) (L : PL2) (o : ℕ) (h : ∀ a : Fin 2, ![o, 0] a + S536x128.size a ≤ S544x128.size a) (y : S536x128.Idx) :
    v.readCov L (Rect.unit (s := S544x128) ![o, 0] S536x128.size h).toLoadRect y = c2 L ((y 0).val + o) (y 1).val := by
  have h0 : o + 536 ≤ 544 := h 0
  have y0 : (y 0).val < 536 := (y 0).isLt
  have y1 : (y 1).val < 128 := (y 1).isLt
  rw [View.readCov_eq_canon']
  unfold c2
  rw [n2_of _ _ _ (by omega) y1]
  refine congrArg (View.canon L) ?_
  funext a
  match a with
  | ⟨0, _⟩ => exact Fin.ext (by show o + 1 * (y 0).val = (y 0).val + o; omega)
  | ⟨1, _⟩ => exact Fin.ext (by show 0 + 1 * (y 1).val = (y 1).val; omega)

/-- A read of 64 rows of a shifted copy. -/
theorem rd4 (v : View sig .tc .vmem S2x7x536x128 .f32) (L : PL4) (t s o : ℕ)
    (h : ∀ a : Fin 4, ![t, s, o, 0] a + S1x1x64x128.size a ≤ S2x7x536x128.size a) (y : S64x128.Idx) :
    v.readCov L (Rect.unit (s := S2x7x536x128) ![t, s, o, 0] S1x1x64x128.size h).toLoadRect (ix4 0 0 (y 0) (y 1) : S1x1x64x128.Idx)
      = c4 L t s ((y 0).val + o) (y 1).val := by
  have h0 : t + 1 ≤ 2 := h 0
  have h1 : s + 1 ≤ 7 := h 1
  have h2 : o + 64 ≤ 536 := h 2
  have y0 : (y 0).val < 64 := (y 0).isLt
  have y1 : (y 1).val < 128 := (y 1).isLt
  rw [View.readCov_eq_canon']
  unfold c4
  rw [dif_pos ⟨by omega, by omega, by omega, y1⟩]
  refine congrArg (View.canon L) ?_
  funext a
  match a with
  | ⟨0, _⟩ => exact Fin.ext (by show t + 1 * 0 = t; omega)
  | ⟨1, _⟩ => exact Fin.ext (by show s + 1 * 0 = s; omega)
  | ⟨2, _⟩ => exact Fin.ext (by show o + 1 * (y 0).val = (y 0).val + o; omega)
  | ⟨3, _⟩ => exact Fin.ext (by show 0 + 1 * (y 1).val = (y 1).val; omega)

/-- The last write to a shifted copy is what it holds. -/
theorem c4_hit (t s : ℕ) (h : ∀ a : Fin 4, ![t, s, 0, 0] a + S1x1x536x128.size a ≤ S2x7x536x128.size a) (w : S1x1x536x128.Idx → EReal)
    (L : PL4) (p l : ℕ) (hp : p < 536) (hl : l < 128) :
    c4 (⟨Rect.unit (s := S2x7x536x128) ![t, s, 0, 0] S1x1x536x128.size h, w⟩ :: L) t s p l = w (ix4 0 0 ⟨p, hp⟩ ⟨l, hl⟩ : S1x1x536x128.Idx) := by
  have h0 : t + 1 ≤ 2 := h 0
  have h1 : s + 1 ≤ 7 := h 1
  have ht : t < 2 := by omega
  have hs : s < 7 := by omega
  have e : (ix4 ⟨t, ht⟩ ⟨s, hs⟩ ⟨p, hp⟩ ⟨l, hl⟩ : S2x7x536x128.Idx)
      = (Rect.unit (s := S2x7x536x128) ![t, s, 0, 0] S1x1x536x128.size h).emb (ix4 0 0 ⟨p, hp⟩ ⟨l, hl⟩ : S1x1x536x128.Idx) := by
    funext a
    match a with
    | ⟨0, _⟩ => exact Fin.ext (by show t = t + 1 * 0; omega)
    | ⟨1, _⟩ => exact Fin.ext (by show s = s + 1 * 0; omega)
    | ⟨2, _⟩ => exact Fin.ext (by show p = 0 + 1 * p; omega)
    | ⟨3, _⟩ => exact Fin.ext (by show l = 0 + 1 * l; omega)
  have g := View.canon_cons_emb (Val := Elt Ideal) (e := .f32) (Rect.unit (s := S2x7x536x128) ![t, s, 0, 0] S1x1x536x128.size h) w L (ix4 0 0 ⟨p, hp⟩ ⟨l, hl⟩ : S1x1x536x128.Idx)
  rw [← e] at g
  unfold c4
  exact (dif_pos ⟨ht, hs, hp, hl⟩).trans g

/-- A write to another shifted copy leaves this one. -/
theorem c4_miss (t' s' : ℕ) (h : ∀ a : Fin 4, ![t', s', 0, 0] a + S1x1x536x128.size a ≤ S2x7x536x128.size a) (w : S1x1x536x128.Idx → EReal)
    (L : PL4) (t s p l : ℕ) (hne : s' ≠ s) :
    c4 (⟨Rect.unit (s := S2x7x536x128) ![t', s', 0, 0] S1x1x536x128.size h, w⟩ :: L) t s p l = c4 L t s p l := by
  unfold c4
  by_cases hb : t < 2 ∧ s < 7 ∧ p < 536 ∧ l < 128
  · rw [dif_pos hb, dif_pos hb]
    refine View.canon_cons_of_not_mem (Val := Elt Ideal) _ L fun hm => ?_
    have := (Rect.mem_set_unit (inb := h)).mp hm (1 : Fin 4)
    have : s' ≤ s ∧ s < s' + 1 := this
    omega
  · rw [dif_neg hb, dif_neg hb]

/-- A stored shifted copy of a lane's buffer at an index: the buffer's row that many rows on. -/
theorem cp (v : View sig .tc .vmem S544x128 .f32) (L : PL2) (o : ℕ) (h : ∀ a : Fin 2, ![o, 0] a + S536x128.size a ≤ S544x128.size a)
    (hs : S536x128.ShapeCasts S1x1x536x128) (p l : ℕ) (hp : p < 536) (hl : l < 128) :
    shapeCast S1x1x536x128 (v.readCov L (Rect.unit (s := S544x128) ![o, 0] S536x128.size h).toLoadRect) hs (ix4 0 0 ⟨p, hp⟩ ⟨l, hl⟩ : S1x1x536x128.Idx)
      = c2 L (p + o) l := by
  refine (shapeCast_apply _ hs _ (ix2 ⟨p, hp⟩ ⟨l, hl⟩ : S536x128.Idx) ?_).trans (rd2s v L o h _)
  rw [Shape.rowMajor_val_two, Shape.rowMajor_val_four]
  show p * 128 + l = ((0 * 1 + 0) * 536 + p) * 128 + l
  omega

/-- A read of a shifted copy is a read of the lane's buffer, when the copy is one. -/
theorem sh_of (v : View sig .tc .vmem S2x7x536x128 .f32) (L : PL4) (L' : PL2) (t s u o : ℕ)
    (h : ∀ a : Fin 4, ![t, s, o, 0] a + S1x1x64x128.size a ≤ S2x7x536x128.size a) (y : S64x128.Idx)
    (hl : ∀ (p l : ℕ) (_ : p < 536) (_ : l < 128), c4 L t s p l = c2 L' (p + u) l) :
    v.readCov L (Rect.unit (s := S2x7x536x128) ![t, s, o, 0] S1x1x64x128.size h).toLoadRect (ix4 0 0 (y 0) (y 1) : S1x1x64x128.Idx)
      = c2 L' ((y 0).val + (o + u)) (y 1).val := by
  have h2 : o + 64 ≤ 536 := h 2
  have y0 : (y 0).val < 64 := (y 0).isLt
  exact (rd4 v L t s o h y).trans ((hl _ _ (by omega) (y 1).isLt).trans (by rw [Nat.add_assoc]))

/-- What a lane's buffer holds: the last of its rows from the later write, the first 32 from the earlier. -/
theorem c2_two (h : ∀ a : Fin 2, ![32, 0] a + S512x128.size a ≤ S544x128.size a) (h' : ∀ a : Fin 2, ![0, 0] a + S32x128.size a ≤ S544x128.size a)
    (w : S512x128.Idx → EReal) (u : S32x128.Idx → EReal) (p l : ℕ) (hp : p < 544) (hl : l < 128) :
    c2 [⟨Rect.unit (s := S544x128) ![32, 0] S512x128.size h, w⟩, ⟨Rect.unit (s := S544x128) ![0, 0] S32x128.size h', u⟩] p l
      = if hq : p < 32 then u (ix2 ⟨p, hq⟩ ⟨l, hl⟩ : S32x128.Idx) else w (ix2 ⟨p - 32, by omega⟩ ⟨l, hl⟩ : S512x128.Idx) := by
  unfold c2
  rw [n2_of _ _ _ hp hl]
  by_cases hq : p < 32
  · rw [dif_pos hq]
    refine (View.canon_cons_of_not_mem (Val := Elt Ideal) (e := .f32) ⟨Rect.unit (s := S544x128) ![32, 0] S512x128.size h, w⟩ _ (fun hm => by
      have hm : 32 ≤ p ∧ p < 32 + 512 := (Rect.mem_set_unit (inb := h)).mp hm (0 : Fin 2)
      omega)).trans ?_
    have e : (ix2 ⟨p, hp⟩ ⟨l, hl⟩ : S544x128.Idx) = (Rect.unit (s := S544x128) ![0, 0] S32x128.size h').emb (ix2 ⟨p, hq⟩ ⟨l, hl⟩ : S32x128.Idx) := by
      funext a
      match a with
      | ⟨0, _⟩ => exact Fin.ext (by show p = 0 + 1 * p; omega)
      | ⟨1, _⟩ => exact Fin.ext (by show l = 0 + 1 * l; omega)
    rw [e]
    exact View.canon_cons_emb (Val := Elt Ideal) (e := .f32) (Rect.unit (s := S544x128) ![0, 0] S32x128.size h') u [] _
  · rw [dif_neg hq]
    have e : (ix2 ⟨p, hp⟩ ⟨l, hl⟩ : S544x128.Idx)
        = (Rect.unit (s := S544x128) ![32, 0] S512x128.size h).emb (ix2 ⟨p - 32, by omega⟩ ⟨l, hl⟩ : S512x128.Idx) := by
      funext a
      match a with
      | ⟨0, _⟩ => exact Fin.ext (by show p = 32 + 1 * (p - 32); omega)
      | ⟨1, _⟩ => exact Fin.ext (by show l = 0 + 1 * l; omega)
    rw [e]
    exact View.canon_cons_emb (Val := Elt Ideal) (e := .f32) (Rect.unit (s := S544x128) ![32, 0] S512x128.size h) w _ _

/-- A sum of two tiles at an index. -/
theorem add_at (a b : FVec Ideal S64x128 .f32) (y : S64x128.Idx) : addf a b y = a y + b y := rfl

/-- A product of two tiles at an index. -/
theorem mul_at (a b : FVec Ideal S64x128 .f32) (y : S64x128.Idx) : mulf a b y = a y * b y := rfl

/-- A shifted copy's rows as a tile. -/
theorem cast_at {α : Type} (v : S1x1x64x128.Idx → α) (hs : S1x1x64x128.ShapeCasts S64x128) (y : S64x128.Idx) :
    shapeCast S64x128 v hs y = v (ix4 0 0 (y 0) (y 1) : S1x1x64x128.Idx) := by
  refine shapeCast_apply v hs y _ ?_
  rw [Shape.rowMajor_val_two, Shape.rowMajor_val_four]
  show ((0 * 1 + 0) * 64 + (y 0).val) * 128 + (y 1).val = (y 0).val * 128 + (y 1).val
  omega

/-- One tap's weights, repeated over the rows. -/
theorem tap_at (b k : ℕ) (w : Vec Ideal S1x31x1024 .f32) (inb : ∀ a : Fin 3, ![0, 0, b] a + S1x31x128.size a ≤ S1x31x1024.size a)
    (hc : S1x31x128.ShapeCasts S31x128) (hs : S31x128.Slices ![k, 0] S1x128) (hb : S1x128.Broadcasts S64x128) (y : S64x128.Idx) :
    broadcastTo S64x128 (extractStridedSlice S1x128 ![k, 0] (shapeCast S31x128
      (View.ld (Val := Elt Ideal) (e' := EltTy.f32) w (Rect.unit (s := S1x31x1024) ![0, 0, b] S1x31x128.size inb)) hc) hs) hb y = n3 (A := 0) w k (b + (y 1).val) := by
  have y1 : (y 1).val < 128 := (y 1).isLt
  have hk : k + 1 ≤ 31 := hs.2 0
  have hbb : b + 128 ≤ 1024 := inb 2
  rw [n3_of _ _ _ (by omega) (by omega)]
  refine (broadcastTo_apply _ hb y (ix2 0 (y 1) : S1x128.Idx) (fun a => by
    match a with
    | ⟨0, _⟩ => rfl
    | ⟨1, _⟩ => rfl)).trans ?_
  refine (extractStridedSlice_apply _ _ hs _ (ix2 ⟨k, by omega⟩ (y 1) : S31x128.Idx) (fun a => by
    match a with
    | ⟨0, _⟩ => rfl
    | ⟨1, _⟩ => show (y 1).val = 0 + (y 1).val; omega)).trans ?_
  refine (shapeCast_apply _ hc _ (ix3 0 ⟨k, by omega⟩ (y 1) : S1x31x128.Idx) (by
    rw [Shape.rowMajor_val_three, Shape.rowMajor_val_two]
    show (0 * 31 + k) * 128 + (y 1).val = k * 128 + (y 1).val
    omega)).trans ?_
  show w _ = w _
  refine congrArg w ?_
  funext a
  match a with
  | ⟨0, _⟩ => rfl
  | ⟨1, _⟩ => exact Fin.ext (by show 0 + 1 * k = k; omega)
  | ⟨2, _⟩ => exact Fin.ext (by show b + 1 * (y 1).val = b + (y 1).val; omega)

/-- The bias, repeated over the rows. -/
theorem bias_at (b : ℕ) (w : Vec Ideal S1x1x1024 .f32) (inb : ∀ a : Fin 3, ![0, 0, b] a + S1x1x128.size a ≤ S1x1x1024.size a)
    (hc : S1x1x128.ShapeCasts S1x128) (hb : S1x128.Broadcasts S64x128) (y : S64x128.Idx) :
    broadcastTo S64x128 (shapeCast S1x128
      (View.ld (Val := Elt Ideal) (e' := EltTy.f32) w (Rect.unit (s := S1x1x1024) ![0, 0, b] S1x1x128.size inb)) hc) hb y = n3 (A := 0) w 0 (b + (y 1).val) := by
  have y1 : (y 1).val < 128 := (y 1).isLt
  have hbb : b + 128 ≤ 1024 := inb 2
  rw [n3_of _ _ _ (by omega) (by omega)]
  refine (broadcastTo_apply _ hb y (ix2 0 (y 1) : S1x128.Idx) (fun a => by
    match a with
    | ⟨0, _⟩ => rfl
    | ⟨1, _⟩ => rfl)).trans ?_
  refine (shapeCast_apply _ hc _ (ix3 0 0 (y 1) : S1x1x128.Idx) (by
    rw [Shape.rowMajor_val_three, Shape.rowMajor_val_two]
    show (0 * 1 + 0) * 128 + (y 1).val = 0 * 128 + (y 1).val
    omega)).trans ?_
  show w _ = w _
  refine congrArg w ?_
  funext a
  match a with
  | ⟨0, _⟩ => rfl
  | ⟨1, _⟩ => rfl
  | ⟨2, _⟩ => exact Fin.ext (by show b + 1 * (y 1).val = b + (y 1).val; omega)

/-- The same, the read's extents written out. -/
theorem tap_at' (b k : ℕ) (w : Vec Ideal S1x31x1024 .f32) (inb : ∀ a : Fin 3, ![0, 0, b] a + ![1, 31, 128] a ≤ S1x31x1024.size a)
    (hc : S1x31x128.ShapeCasts S31x128) (hs : S31x128.Slices ![k, 0] S1x128) (hb : S1x128.Broadcasts S64x128) (y : S64x128.Idx) :
    broadcastTo S64x128 (extractStridedSlice S1x128 ![k, 0] (shapeCast S31x128
      (View.ld (Val := Elt Ideal) (e' := EltTy.f32) w (Rect.unit (s := S1x31x1024) ![0, 0, b] ![1, 31, 128] inb) : Vec Ideal S1x31x128 .f32) hc) hs) hb y
      = n3 (A := 0) w k (b + (y 1).val) := tap_at b k w inb hc hs hb y

/-- The same, the read's extents written out. -/
theorem bias_at' (b : ℕ) (w : Vec Ideal S1x1x1024 .f32) (inb : ∀ a : Fin 3, ![0, 0, b] a + ![1, 1, 128] a ≤ S1x1x1024.size a)
    (hc : S1x1x128.ShapeCasts S1x128) (hb : S1x128.Broadcasts S64x128) (y : S64x128.Idx) :
    broadcastTo S64x128 (shapeCast S1x128
      (View.ld (Val := Elt Ideal) (e' := EltTy.f32) w (Rect.unit (s := S1x1x1024) ![0, 0, b] ![1, 1, 128] inb) : Vec Ideal S1x1x128 .f32) hc) hb y
      = n3 (A := 0) w 0 (b + (y 1).val) := bias_at b w inb hc hb y

/-- The same of the numbers' own type. -/
theorem tap_at'' (b k : ℕ) (w : Vec Ideal S1x31x1024 .f32) (inb : ∀ a : Fin 3, ![0, 0, b] a + ![1, 31, 128] a ≤ S1x31x1024.size a)
    (hc : S1x31x128.ShapeCasts S31x128) (hs : S31x128.Slices ![k, 0] S1x128) (hb : S1x128.Broadcasts S64x128) (y : S64x128.Idx) :
    broadcastTo S64x128 (extractStridedSlice S1x128 ![k, 0] (shapeCast (α := Ideal .f32) S31x128
      (View.ld (Val := Elt Ideal) (e' := EltTy.f32) w (Rect.unit (s := S1x31x1024) ![0, 0, b] ![1, 31, 128] inb) : Vec Ideal S1x31x128 .f32) hc) hs) hb y
      = n3 (A := 0) w k (b + (y 1).val) := tap_at b k w inb hc hs hb y

/-- The same of the numbers' own type. -/
theorem bias_at'' (b : ℕ) (w : Vec Ideal S1x1x1024 .f32) (inb : ∀ a : Fin 3, ![0, 0, b] a + ![1, 1, 128] a ≤ S1x1x1024.size a)
    (hc : S1x1x128.ShapeCasts S1x128) (hb : S1x128.Broadcasts S64x128) (y : S64x128.Idx) :
    broadcastTo S64x128 (shapeCast (α := Ideal .f32) S1x128
      (View.ld (Val := Elt Ideal) (e' := EltTy.f32) w (Rect.unit (s := S1x1x1024) ![0, 0, b] ![1, 1, 128] inb) : Vec Ideal S1x1x128 .f32) hc) hb y
      = n3 (A := 0) w 0 (b + (y 1).val) := bias_at b w inb hc hb y

/-- The first terms of a sequence added from the first on. -/
def acc (t : ℕ → EReal) : ℕ → EReal
  | 0 => t 0
  | n + 1 => acc t n + t (n + 1)

/-- Sequences with equal terms have equal sums. -/
theorem acc_congr (t u : ℕ → EReal) (n : ℕ) (h : ∀ k, k ≤ n → t k = u k) : acc t n = acc u n := by
  induction n with
  | zero => exact h 0 le_rfl
  | succ n ih => exact congrArg₂ (fun a b : EReal => a + b) (ih fun k hk => h k (by omega)) (h (n + 1) le_rfl)

/-- The sum of the 31 taps at a row and a column, and the bias: tap `k` reads `f` 2 + `k` rows on. -/
def row (w : ℕ → ℕ → EReal) (b : ℕ → EReal) (f : ℕ → ℕ → EReal) (p j : ℕ) : EReal :=
  acc (fun k => w k j * f (p + (2 + k)) j) 30 + b j

/-- The sum of the 31 taps written out. -/
theorem row_out (w : ℕ → ℕ → EReal) (b : ℕ → EReal) (f : ℕ → ℕ → EReal) (p j : ℕ) :
    row w b f p j = w 0 j * f (p + 2) j + w 1 j * f (p + 3) j + w 2 j * f (p + 4) j + w 3 j * f (p + 5) j + w 4 j * f (p + 6) j + w 5 j * f (p + 7) j + w 6 j * f (p + 8) j + w 7 j * f (p + 9) j + w 8 j * f (p + 10) j + w 9 j * f (p + 11) j + w 10 j * f (p + 12) j + w 11 j * f (p + 13) j + w 12 j * f (p + 14) j + w 13 j * f (p + 15) j + w 14 j * f (p + 16) j + w 15 j * f (p + 17) j + w 16 j * f (p + 18) j + w 17 j * f (p + 19) j + w 18 j * f (p + 20) j + w 19 j * f (p + 21) j + w 20 j * f (p + 22) j + w 21 j * f (p + 23) j + w 22 j * f (p + 24) j + w 23 j * f (p + 25) j + w 24 j * f (p + 26) j + w 25 j * f (p + 27) j + w 26 j * f (p + 28) j + w 27 j * f (p + 29) j + w 28 j * f (p + 30) j + w 29 j * f (p + 31) j + w 30 j * f (p + 32) j + b j := rfl

/-- The sum of the taps depends on the weights' and the rows' values there only. -/
theorem row_congr (w w' : ℕ → ℕ → EReal) (b b' : ℕ → EReal) (f f' : ℕ → ℕ → EReal) (p j p' j' : ℕ) (hw : ∀ k, k < 31 → w k j = w' k j') (hb : b j = b' j')
    (hf : ∀ k, k < 31 → f (p + (2 + k)) j = f' (p' + (2 + k)) j') : row w b f p j = row w' b' f' p' j' := by
  unfold row
  exact congrArg₂ (fun a b : EReal => a + b) (acc_congr _ _ 30 fun k hk => by rw [hw k (by omega), hf k (by omega)]) hb

/-- One projection at a row and a column: the row's product with the weight's column, times the row's scale, which the
    scale array repeats over its 128 lanes. -/
def proj {R C : ℕ} (x : FVec Ideal ⟨2, ![R, 4096]⟩ .bf16) (rs : FVec Ideal ⟨2, ![R, 128]⟩ .f32) (w : FVec Ideal ⟨2, ![4096, C]⟩ .bf16)
    (r : Fin R) (j : Fin C) : EReal :=
  (∑ k : Fin 4096, x (ix2 r k) * w (ix2 k j)) * rs (ix2 r ⟨j.val % 128, Nat.mod_lt _ (by decide)⟩)

/-- The gated product at an index: the projection, times the logistic of the gate's projection. -/
def glu {R C : ℕ} (x : FVec Ideal ⟨2, ![R, 4096]⟩ .bf16) (rs : FVec Ideal ⟨2, ![R, 128]⟩ .f32) (wa wg : FVec Ideal ⟨2, ![4096, C]⟩ .bf16)
    (y : (⟨2, ![R, C]⟩ : Shape).Idx) : EReal :=
  proj x rs wa (y 0) (y 1) * Ideal.logistic (proj x rs wg (y 0) (y 1))

/-- The lane slice of a 256-column product at an index, times the scale there. -/
abbrev lsl (o : ℕ) (hs : S512x256.Slices ![0, o] S512x128) (v4 : FVec Ideal S512x4096 .bf16) (v5 : FVec Ideal S512x128 .f32) (w : FVec Ideal S4096x256 .bf16)
    (x : S512x128.Idx) : EReal :=
  extractStridedSlice S512x128 ![0, o]
    (matmul (φ₂ := .bf16) dot_S512x4096_S4096x256_S512x256_1_0_0_1_n_n none v4 w (constant (F := Ideal) S512x256 .f32 0x00000000#32)) hs x * v5 x

/-- A lane slice of a 256-column product, times the scale, is the projection at the column under it. -/
theorem lane_proj (x0 : FVec Ideal S512x4096 .bf16) (x1 : FVec Ideal S512x128 .f32) (w : FVec Ideal S4096x1024 .bf16)
    (o b : ℕ) (inb : ∀ a : Fin 2, ![0, b] a + S4096x256.size a ≤ S4096x1024.size a) (hs : S512x256.Slices ![0, o] S512x128)
    (hob : 128 ∣ o + b) (x : S512x128.Idx) (y : S512x1024.Idx) (hy0 : (y 0).val = (x 0).val) (hy1 : (y 1).val = b + o + (x 1).val) :
    lsl o hs x0 x1 (View.ld (Val := Elt Ideal) (e' := EltTy.bf16) w (Rect.unit (s := S4096x1024) ![0, b] S4096x256.size inb)) x = proj x0 x1 w (y 0) (y 1) := by
  have h1 : (x 1).val < 128 := (x 1).isLt
  have ho : o + 128 ≤ 256 := hs.2 1
  have hx : x = ix2 (y 0) ⟨(y 1).val % 128, Nat.mod_lt _ (by decide)⟩ := by
    funext a
    match a with
    | ⟨0, _⟩ => exact Fin.ext hy0.symm
    | ⟨1, _⟩ => exact Fin.ext (by show (x 1).val = (y 1).val % 128; obtain ⟨q, hq⟩ := hob; omega)
  unfold lsl
  rw [extractStridedSlice_apply _ _ hs x (ix2 (x 0 : Fin 512) (⟨o + (x 1).val, by omega⟩ : Fin 256)) (fun a => by
    match a with
    | ⟨0, _⟩ => show (x 0).val = 0 + (x 0).val; omega
    | ⟨1, _⟩ => rfl)]
  refine (congrArg (· * x1 x) (mm_apply _ rfl none x0 _ _)).trans ?_
  unfold proj
  refine congrArg₂ (· * ·) (Finset.sum_congr rfl fun k _ => ?_) (congrArg x1 hx)
  refine congrArg₂ (· * ·) ?_ ?_
  · refine congrArg x0 ?_
    funext a
    match a with
    | ⟨0, _⟩ => exact Fin.ext hy0.symm
    | ⟨1, _⟩ => rfl
  · show w _ = w _
    refine congrArg w ?_
    funext a
    match a with
    | ⟨0, _⟩ => exact Fin.ext (by show 0 + 1 * k.val = k.val; omega)
    | ⟨1, _⟩ => exact Fin.ext (by show b + 1 * (o + (x 1).val) = (y 1).val; omega)

/-- A lane tile's gated product at an index is the block's at the column under it. -/
theorem lane_glu (x0 : FVec Ideal S512x4096 .bf16) (x1 : FVec Ideal S512x128 .f32) (wa wg : FVec Ideal S4096x1024 .bf16)
    (o b : ℕ) (inb : ∀ a : Fin 2, ![0, b] a + S4096x256.size a ≤ S4096x1024.size a) (hs : S512x256.Slices ![0, o] S512x128)
    (hob : 128 ∣ o + b) (x : S512x128.Idx) :
    lsl o hs x0 x1 (View.ld (Val := Elt Ideal) (e' := EltTy.bf16) wa (Rect.unit (s := S4096x1024) ![0, b] S4096x256.size inb)) x
      * Ideal.logistic (lsl o hs x0 x1 (View.ld (Val := Elt Ideal) (e' := EltTy.bf16) wg (Rect.unit (s := S4096x1024) ![0, b] S4096x256.size inb)) x)
      = n2 (glu x0 x1 wa wg) (x 0).val (b + o + (x 1).val) := by
  have x0l : (x 0).val < 512 := (x 0).isLt
  have x1l : (x 1).val < 128 := (x 1).isLt
  have h1 : b + 256 ≤ 1024 := inb 1
  have ho : o + 128 ≤ 256 := hs.2 1
  rw [n2_of _ _ _ x0l (by omega)]
  unfold glu
  rw [lane_proj x0 x1 wa o b inb hs hob x (ix2 ⟨(x 0).val, x0l⟩ ⟨b + o + (x 1).val, by omega⟩) rfl rfl,
    lane_proj x0 x1 wg o b inb hs hob x (ix2 ⟨(x 0).val, x0l⟩ ⟨b + o + (x 1).val, by omega⟩) rfl rfl]

/-- A lane's buffer as the block's: 32 rows of the block before, then the gated product's rows. -/
def buf (hal g : ℕ → ℕ → EReal) (p j : ℕ) : EReal := if p < 32 then hal p j else g (p - 32) j

/-- What a lane's buffer holds at an index, from its two writes' values. -/
theorem c2_buf (h : ∀ a : Fin 2, ![32, 0] a + S512x128.size a ≤ S544x128.size a) (h' : ∀ a : Fin 2, ![0, 0] a + S32x128.size a ≤ S544x128.size a)
    (w : S512x128.Idx → EReal) (u : S32x128.Idx → EReal) (hal g : ℕ → ℕ → EReal) (b : ℕ)
    (hu : ∀ y : S32x128.Idx, u y = hal (y 0).val (b + (y 1).val)) (hw : ∀ y : S512x128.Idx, w y = g (y 0).val (b + (y 1).val))
    (p l : ℕ) (hp : p < 544) (hl : l < 128) :
    c2 [⟨Rect.unit (s := S544x128) ![32, 0] S512x128.size h, w⟩, ⟨Rect.unit (s := S544x128) ![0, 0] S32x128.size h', u⟩] p l = buf hal g p (b + l) := by
  refine (c2_two h h' w u p l hp hl).trans ?_
  unfold buf
  by_cases hq : p < 32
  · rw [dif_pos hq, if_pos hq]; exact hu _
  · rw [dif_neg hq, if_neg hq]; exact hw _

/-- A block read whole. -/
theorem ld_x (x : Vec Ideal S512x4096 .bf16) (h : ∀ a : Fin 2, ![0, 0] a + ![512, 4096] a ≤ S512x4096.size a) :
    View.ld (Val := Elt Ideal) (e' := EltTy.bf16) x (Rect.unit (s := S512x4096) ![0, 0] ![512, 4096] h) = x := by
  funext y
  show x _ = x _
  refine congrArg x (funext fun a => ?_)
  match a with
  | ⟨0, _⟩ => exact Fin.ext (by show 0 + 1 * (y 0).val = (y 0).val; omega)
  | ⟨1, _⟩ => exact Fin.ext (by show 0 + 1 * (y 1).val = (y 1).val; omega)

theorem ld_rs (x : Vec Ideal S512x128 .f32) (h : ∀ a : Fin 2, ![0, 0] a + ![512, 128] a ≤ S512x128.size a) :
    View.ld (Val := Elt Ideal) (e' := EltTy.f32) x (Rect.unit (s := S512x128) ![0, 0] ![512, 128] h) = x := by
  funext y
  show x _ = x _
  refine congrArg x (funext fun a => ?_)
  match a with
  | ⟨0, _⟩ => exact Fin.ext (by show 0 + 1 * (y 0).val = (y 0).val; omega)
  | ⟨1, _⟩ => exact Fin.ext (by show 0 + 1 * (y 1).val = (y 1).val; omega)

/-- A lane tile of the rows carried over. -/
theorem halo_at (x : Vec Ideal S32x1024 .f32) (b : ℕ) (h : ∀ a : Fin 2, ![0, b] a + ![32, 128] a ≤ S32x1024.size a) (y : S32x128.Idx) :
    (View.ld (Val := Elt Ideal) (e' := EltTy.f32) x (Rect.unit (s := S32x1024) ![0, b] ![32, 128] h) : S32x128.Idx → EReal) y = n2 (R := 32) (C := 1024) x (y 0).val (b + (y 1).val) := by
  have y0 : (y 0).val < 32 := (y 0).isLt
  have y1 : (y 1).val < 128 := (y 1).isLt
  have hb : b + 128 ≤ 1024 := h 1
  rw [n2_of _ _ _ y0 (by omega)]
  show x _ = x _
  refine congrArg x (funext fun a => ?_)
  match a with
  | ⟨0, _⟩ => exact Fin.ext (by show 0 + 1 * (y 0).val = (y 0).val; omega)
  | ⟨1, _⟩ => exact Fin.ext (by show b + 1 * (y 1).val = b + (y 1).val; omega)

/-- A read of the last 32 rows of a lane's buffer. -/
theorem rd2t (v : View sig .tc .vmem S544x128 .f32) (L : PL2) (h : ∀ a : Fin 2, ![512, 0] a + ![32, 128] a ≤ S544x128.size a) (y : S32x128.Idx) :
    v.readCov L (Rect.unit (s := S544x128) ![512, 0] ![32, 128] h).toLoadRect y = c2 L ((y 0).val + 512) (y 1).val := by
  have y0 : (y 0).val < 32 := (y 0).isLt
  have y1 : (y 1).val < 128 := (y 1).isLt
  rw [View.readCov_eq_canon']
  unfold c2
  rw [n2_of _ _ _ (by omega) y1]
  refine congrArg (View.canon L) ?_
  funext a
  match a with
  | ⟨0, _⟩ => exact Fin.ext (by show 512 + 1 * (y 0).val = (y 0).val + 512; omega)
  | ⟨1, _⟩ => exact Fin.ext (by show 0 + 1 * (y 1).val = (y 1).val; omega)

/-- 64 rows of a lane tile are the block's rows there. -/
theorem piece_row (x4 : Vec Ideal S1x31x1024 .f32) (x5 : Vec Ideal S1x1x1024 .f32) (L : PL2) (f : ℕ → ℕ → EReal) (cc r : ℕ)
    (hb : ∀ (p l : ℕ) (_ : p < 544) (_ : l < 128), c2 L p l = f p (cc + l)) (hr : r + 64 ≤ 512) (z : S64x128.Idx) (y : S512x1024.Idx)
    (hy0 : (y 0).val = r + (z 0).val) (hy1 : (y 1).val = cc + (z 1).val) :
    row (fun k l => n3 (A := 0) x4 k (cc + l)) (fun l => n3 (A := 0) x5 0 (cc + l)) (fun p l => c2 L ((z 0).val + p) l) r (z 1).val
      = row (n3 (A := 0) x4) (n3 (A := 0) x5 0) f (y 0).val (y 1).val := by
  have z0 : (z 0).val < 64 := (z 0).isLt
  have z1 : (z 1).val < 128 := (z 1).isLt
  refine row_congr _ _ _ _ _ _ _ _ _ _ (fun k _ => by rw [hy1]) (by rw [hy1]) (fun k hk => ?_)
  show c2 L _ _ = _
  rw [hb _ _ (by omega) z1, hy0, hy1]
  exact congrArg (fun q => f q _) (by omega)

/-- The last rows of a lane tile are the gated product's there. -/
theorem piece_last (L : PL2) (hal g : ℕ → ℕ → EReal) (cc : ℕ)
    (hb : ∀ (p l : ℕ) (_ : p < 544) (_ : l < 128), c2 L p l = buf hal g p (cc + l)) (z : S32x128.Idx) (y : S32x1024.Idx)
    (hy0 : (y 0).val = (z 0).val) (hy1 : (y 1).val = cc + (z 1).val) :
    c2 L ((z 0).val + 512) (z 1).val = g (480 + (y 0).val) (y 1).val := by
  have z0 : (z 0).val < 32 := (z 0).isLt
  rw [hb _ _ (by omega) (z 1).isLt, hy0, hy1]
  unfold buf
  rw [if_neg (by omega)]
  exact congrArg (fun q => g q _) (by omega)

end Cert.GluIdeal.RefValue

end
-- ==== Proof.GluPiece.lean ====
/-
  One lane tile of the gated convolution's block, stated for every tile and every 64 rows: the tile's buffer, the seven shifted copies of
  it, the sum of the taps over them, and what these are at an index. The block's modules apply these facts to every piece of the output.
-/
module

public import proofs.«01_k».proof.Proof.GluTiles

@[expose] public section

noncomputable section

namespace Cert.GluIdeal.RefValue

open Cert.GluIdeal Cert.GluIdeal.Gen Cert.Tiles Idealize.ShloMosaic Idealize.ShloMosaic.ValueIdx Idealize.ShloMosaic.TcCoe Idealize.SL.Sem

/-- A whole block's view, in the shape and type it has. -/
abbrev Blk (S : Shape) (e : EltTy) := Memref sig .tc .vmem S e

/-- One shifted copy: the lane's buffer from row `s + 1` on, written to copy `s` of half `t`. -/
def copy (v : View sig .tc .vmem S544x128 .f32) (L : PL2) (t s : ℕ) (h : ∀ a : Fin 4, ![t, s, 0, 0] a + S1x1x536x128.size a ≤ S2x7x536x128.size a)
    (h' : ∀ a : Fin 2, ![s + 1, 0] a + S536x128.size a ≤ S544x128.size a) : View.Piece (Elt Ideal) S2x7x536x128 .f32 :=
  ⟨Rect.unit (s := S2x7x536x128) ![t, s, 0, 0] S1x1x536x128.size h,
    shapeCast S1x1x536x128 (v.readCov L (Rect.unit (s := S544x128) ![s + 1, 0] S536x128.size h').toLoadRect) shapeCasts_S536x128_S1x1x536x128⟩

/-- Copy `s` of half `t` is within the shifted copies. -/
theorem copy_in (t s : ℕ) (ht : t < 2) (hs : s < 7) : ∀ a : Fin 4, ![t, s, 0, 0] a + S1x1x536x128.size a ≤ S2x7x536x128.size a := fun a => by
  match a with
  | ⟨0, _⟩ => show t + 1 ≤ 2; omega
  | ⟨1, _⟩ => show s + 1 ≤ 7; omega
  | ⟨2, _⟩ => show 0 + 536 ≤ 536; omega
  | ⟨3, _⟩ => show 0 + 128 ≤ 128; omega

/-- The rows that copy `s` takes are within the lane's buffer. -/
theorem from_in (s : ℕ) (hs : s < 7) : ∀ a : Fin 2, ![s + 1, 0] a + S536x128.size a ≤ S544x128.size a := fun a => by
  match a with
  | ⟨0, _⟩ => show s + 1 + 536 ≤ 544; omega
  | ⟨1, _⟩ => show 0 + 128 ≤ 128; omega

/-- The seven shifted copies of a lane's buffer, the last first, after what was there. -/
def copies (v : View sig .tc .vmem S544x128 .f32) (L : PL2) (t : ℕ) (ht : t < 2) (rest : PL4) : PL4 :=
  copy v L t 6 (copy_in t 6 ht (by decide)) (from_in 6 (by decide)) :: copy v L t 5 (copy_in t 5 ht (by decide)) (from_in 5 (by decide))
    :: copy v L t 4 (copy_in t 4 ht (by decide)) (from_in 4 (by decide)) :: copy v L t 3 (copy_in t 3 ht (by decide)) (from_in 3 (by decide))
    :: copy v L t 2 (copy_in t 2 ht (by decide)) (from_in 2 (by decide)) :: copy v L t 1 (copy_in t 1 ht (by decide)) (from_in 1 (by decide))
    :: copy v L t 0 (copy_in t 0 ht (by decide)) (from_in 0 (by decide)) :: rest

/-- A list of writes headed by copy `s`: copy `s` holds the lane's buffer `s + 1` rows on, another copy what it held. -/
theorem copy_cons (v : View sig .tc .vmem S544x128 .f32) (L : PL2) (t s s' : ℕ) (h : ∀ a : Fin 4, ![t, s', 0, 0] a + S1x1x536x128.size a ≤ S2x7x536x128.size a)
    (h' : ∀ a : Fin 2, ![s' + 1, 0] a + S536x128.size a ≤ S544x128.size a) (M : PL4) (p l : ℕ) (hp : p < 536) (hl : l < 128)
    (hM : s ≠ s' → c4 M t s p l = c2 L (p + (s + 1)) l) : c4 (copy v L t s' h h' :: M) t s p l = c2 L (p + (s + 1)) l := by
  by_cases e : s = s'
  · subst e
    exact (c4_hit _ _ _ _ _ p l hp hl).trans (cp _ _ _ _ _ p l hp hl)
  · exact (c4_miss _ _ _ _ _ _ _ _ _ (Ne.symm e)).trans (hM e)

/-- Each of the seven copies holds the lane's buffer some rows on. -/
theorem copies_at (v : View sig .tc .vmem S544x128 .f32) (L : PL2) (t : ℕ) (ht : t < 2) (rest : PL4) (s : ℕ) (hs : s < 7) (p l : ℕ) (hp : p < 536) (hl : l < 128) :
    c4 (copies v L t ht rest) t s p l = c2 L (p + (s + 1)) l := by
  unfold copies
  refine copy_cons v L t s 6 _ _ _ p l hp hl fun h6 => copy_cons v L t s 5 _ _ _ p l hp hl fun h5 => copy_cons v L t s 4 _ _ _ p l hp hl fun h4 =>
    copy_cons v L t s 3 _ _ _ p l hp hl fun h3 => copy_cons v L t s 2 _ _ _ p l hp hl fun h2 => copy_cons v L t s 1 _ _ _ p l hp hl fun h1 =>
    copy_cons v L t s 0 _ _ _ p l hp hl fun h0 => ?_
  omega

/-- 64 rows of a shifted copy are within it. -/
theorem at_in (t s r q : ℕ) (ht : t < 2) (hs : s < 7) (hr : r + 64 ≤ 512) (hq : q ≤ 24) :
    ∀ a : Fin 4, ![t, s, r + q, 0] a + S1x1x64x128.size a ≤ S2x7x536x128.size a := fun a => by
  match a with
  | ⟨0, _⟩ => show t + 1 ≤ 2; omega
  | ⟨1, _⟩ => show s + 1 ≤ 7; omega
  | ⟨2, _⟩ => show r + q + 64 ≤ 536; omega
  | ⟨3, _⟩ => show 0 + 128 ≤ 128; omega

/-- 64 rows of a lane's buffer are within it. -/
theorem of_in (r q : ℕ) (hr : r + 64 ≤ 512) (hq : q ≤ 32) : ∀ a : Fin 2, ![r + q, 0] a + S64x128.size a ≤ S544x128.size a := fun a => by
  match a with
  | ⟨0, _⟩ => show r + q + 64 ≤ 544; omega
  | ⟨1, _⟩ => show 0 + 128 ≤ 128; omega

/-- 64 rows of a shifted copy, as a tile. -/
def rowsAt (v4 : View sig .tc .vmem S2x7x536x128 .f32) (M : PL4) (t s o : ℕ)
    (h : ∀ a : Fin 4, ![t, s, o, 0] a + S1x1x64x128.size a ≤ S2x7x536x128.size a) : FVec Ideal S64x128 .f32 :=
  shapeCast S64x128 (v4.readCov M (Rect.unit (s := S2x7x536x128) ![t, s, o, 0] S1x1x64x128.size h).toLoadRect) shapeCasts_S1x1x64x128_S64x128

/-- 64 rows of a lane's buffer. -/
def rowsOf (v : View sig .tc .vmem S544x128 .f32) (L : PL2) (o : ℕ) (h : ∀ a : Fin 2, ![o, 0] a + S64x128.size a ≤ S544x128.size a) : FVec Ideal S64x128 .f32 :=
  v.readCov L (Rect.unit (s := S544x128) ![o, 0] S64x128.size h).toLoadRect

/-- One tap's weights, repeated over the rows. -/
def tapOf (w : FVec Ideal S31x128 .f32) (k : ℕ) (h : S31x128.Slices ![k, 0] S1x128) : FVec Ideal S64x128 .f32 :=
  broadcastTo S64x128 (extractStridedSlice S1x128 ![k, 0] w h) broadcasts_S1x128_S64x128

/-- A tap's row is one of the 31. -/
theorem tap_in (k : ℕ) (hk : k < 31) : S31x128.Slices ![k, 0] S1x128 := ⟨rfl, fun a => by
  match a with
  | ⟨0, _⟩ => show k + 1 ≤ 31; omega
  | ⟨1, _⟩ => show 0 + 128 ≤ 128; omega⟩

/-- The tile's taps as the block holds them: 128 lanes of the 31 rows. -/
def taps (a : Blk S1x31x1024 .f32) (ha : a.IsWhole) (x4 : Vec Ideal S1x31x1024 .f32) (b : ℕ)
    (h : ∀ a : Fin 3, ![0, 0, b] a + S1x31x128.size a ≤ S1x31x1024.size a) : FVec Ideal S31x128 .f32 :=
  shapeCast S31x128 (View.readAt (Elt Ideal) a.view (Rect.unit (s := S1x31x1024) ![0, 0, b] S1x31x128.size h).toLoadRect (ha.unread x4)) shapeCasts_S1x31x128_S31x128

/-- The tile's bias as the block holds it: 128 lanes. -/
def bias (a : Blk S1x1x1024 .f32) (ha : a.IsWhole) (x5 : Vec Ideal S1x1x1024 .f32) (b : ℕ)
    (h : ∀ a : Fin 3, ![0, 0, b] a + S1x1x128.size a ≤ S1x1x1024.size a) : FVec Ideal S1x128 .f32 :=
  shapeCast S1x128 (View.readAt (Elt Ideal) a.view (Rect.unit (s := S1x1x1024) ![0, 0, b] S1x1x128.size h).toLoadRect (ha.unread x5)) shapeCasts_S1x1x128_S1x128

/-- The sum of the taps over 64 rows from row `r` on, as the kernel adds it: a tap whose shift is a multiple of eight rows reads the lane's
    buffer, another the shifted copy. -/
def chunk (v : View sig .tc .vmem S544x128 .f32) (L : PL2) (v4 : View sig .tc .vmem S2x7x536x128 .f32) (M : PL4) (t : ℕ) (ht : t < 2)
    (w : FVec Ideal S31x128 .f32) (b : FVec Ideal S1x128 .f32) (r : ℕ) (hr : r + 64 ≤ 512) : FVec Ideal S64x128 .f32 :=
  addf (addf (addf (addf (addf (addf (addf (addf (addf (addf (addf (addf (addf (addf (addf (addf (addf (addf (addf (addf (addf (addf (addf (addf (addf (addf (addf (addf (addf (addf (addf (mulf (tapOf w 0 (tap_in 0 (by decide))) (rowsAt v4 M t 1 (r + 0) (at_in t 1 r 0 ht (by decide) hr (by decide)))) (mulf (tapOf w 1 (tap_in 1 (by decide))) (rowsAt v4 M t 2 (r + 0) (at_in t 2 r 0 ht (by decide) hr (by decide)))))
    (mulf (tapOf w 2 (tap_in 2 (by decide))) (rowsAt v4 M t 3 (r + 0) (at_in t 3 r 0 ht (by decide) hr (by decide)))))
    (mulf (tapOf w 3 (tap_in 3 (by decide))) (rowsAt v4 M t 4 (r + 0) (at_in t 4 r 0 ht (by decide) hr (by decide)))))
    (mulf (tapOf w 4 (tap_in 4 (by decide))) (rowsAt v4 M t 5 (r + 0) (at_in t 5 r 0 ht (by decide) hr (by decide)))))
    (mulf (tapOf w 5 (tap_in 5 (by decide))) (rowsAt v4 M t 6 (r + 0) (at_in t 6 r 0 ht (by decide) hr (by decide)))))
    (mulf (tapOf w 6 (tap_in 6 (by decide))) (rowsOf v L (r + 8) (of_in r 8 hr (by decide)))))
    (mulf (tapOf w 7 (tap_in 7 (by decide))) (rowsAt v4 M t 0 (r + 8) (at_in t 0 r 8 ht (by decide) hr (by decide)))))
    (mulf (tapOf w 8 (tap_in 8 (by decide))) (rowsAt v4 M t 1 (r + 8) (at_in t 1 r 8 ht (by decide) hr (by decide)))))
    (mulf (tapOf w 9 (tap_in 9 (by decide))) (rowsAt v4 M t 2 (r + 8) (at_in t 2 r 8 ht (by decide) hr (by decide)))))
    (mulf (tapOf w 10 (tap_in 10 (by decide))) (rowsAt v4 M t 3 (r + 8) (at_in t 3 r 8 ht (by decide) hr (by decide)))))
    (mulf (tapOf w 11 (tap_in 11 (by decide))) (rowsAt v4 M t 4 (r + 8) (at_in t 4 r 8 ht (by decide) hr (by decide)))))
    (mulf (tapOf w 12 (tap_in 12 (by decide))) (rowsAt v4 M t 5 (r + 8) (at_in t 5 r 8 ht (by decide) hr (by decide)))))
    (mulf (tapOf w 13 (tap_in 13 (by decide))) (rowsAt v4 M t 6 (r + 8) (at_in t 6 r 8 ht (by decide) hr (by decide)))))
    (mulf (tapOf w 14 (tap_in 14 (by decide))) (rowsOf v L (r + 16) (of_in r 16 hr (by decide)))))
    (mulf (tapOf w 15 (tap_in 15 (by decide))) (rowsAt v4 M t 0 (r + 16) (at_in t 0 r 16 ht (by decide) hr (by decide)))))
    (mulf (tapOf w 16 (tap_in 16 (by decide))) (rowsAt v4 M t 1 (r + 16) (at_in t 1 r 16 ht (by decide) hr (by decide)))))
    (mulf (tapOf w 17 (tap_in 17 (by decide))) (rowsAt v4 M t 2 (r + 16) (at_in t 2 r 16 ht (by decide) hr (by decide)))))
    (mulf (tapOf w 18 (tap_in 18 (by decide))) (rowsAt v4 M t 3 (r + 16) (at_in t 3 r 16 ht (by decide) hr (by decide)))))
    (mulf (tapOf w 19 (tap_in 19 (by decide))) (rowsAt v4 M t 4 (r + 16) (at_in t 4 r 16 ht (by decide) hr (by decide)))))
    (mulf (tapOf w 20 (tap_in 20 (by decide))) (rowsAt v4 M t 5 (r + 16) (at_in t 5 r 16 ht (by decide) hr (by decide)))))
    (mulf (tapOf w 21 (tap_in 21 (by decide))) (rowsAt v4 M t 6 (r + 16) (at_in t 6 r 16 ht (by decide) hr (by decide)))))
    (mulf (tapOf w 22 (tap_in 22 (by decide))) (rowsOf v L (r + 24) (of_in r 24 hr (by decide)))))
    (mulf (tapOf w 23 (tap_in 23 (by decide))) (rowsAt v4 M t 0 (r + 24) (at_in t 0 r 24 ht (by decide) hr (by decide)))))
    (mulf (tapOf w 24 (tap_in 24 (by decide))) (rowsAt v4 M t 1 (r + 24) (at_in t 1 r 24 ht (by decide) hr (by decide)))))
    (mulf (tapOf w 25 (tap_in 25 (by decide))) (rowsAt v4 M t 2 (r + 24) (at_in t 2 r 24 ht (by decide) hr (by decide)))))
    (mulf (tapOf w 26 (tap_in 26 (by decide))) (rowsAt v4 M t 3 (r + 24) (at_in t 3 r 24 ht (by decide) hr (by decide)))))
    (mulf (tapOf w 27 (tap_in 27 (by decide))) (rowsAt v4 M t 4 (r + 24) (at_in t 4 r 24 ht (by decide) hr (by decide)))))
    (mulf (tapOf w 28 (tap_in 28 (by decide))) (rowsAt v4 M t 5 (r + 24) (at_in t 5 r 24 ht (by decide) hr (by decide)))))
    (mulf (tapOf w 29 (tap_in 29 (by decide))) (rowsAt v4 M t 6 (r + 24) (at_in t 6 r 24 ht (by decide) hr (by decide)))))
    (mulf (tapOf w 30 (tap_in 30 (by decide))) (rowsOf v L (r + 32) (of_in r 32 hr (by decide))))) (broadcastTo S64x128 b broadcasts_S1x128_S64x128)

/-- A read of 64 rows of a copy, at an index. -/
theorem rowsAt_at (v : View sig .tc .vmem S544x128 .f32) (L : PL2) (v4 : View sig .tc .vmem S2x7x536x128 .f32) (t : ℕ) (ht : t < 2) (rest : PL4) (s o : ℕ) (hs : s < 7)
    (h : ∀ a : Fin 4, ![t, s, o, 0] a + S1x1x64x128.size a ≤ S2x7x536x128.size a) (y : S64x128.Idx) :
    rowsAt v4 (copies v L t ht rest) t s o h y = c2 L ((y 0).val + (o + (s + 1))) (y 1).val :=
  (cast_at _ _ y).trans (sh_of v4 _ L t s (s + 1) o h y fun p l hp hl => copies_at v L t ht rest s hs p l hp hl)

/-- A read of 64 rows of the lane's buffer, at an index. -/
theorem rowsOf_at (v : View sig .tc .vmem S544x128 .f32) (L : PL2) (o : ℕ) (h : ∀ a : Fin 2, ![o, 0] a + S64x128.size a ≤ S544x128.size a) (y : S64x128.Idx) :
    rowsOf v L o h y = c2 L ((y 0).val + o) (y 1).val := rd2 v L o h y

/-- A tap's weight, at an index. -/
theorem tapOf_at (a : Blk S1x31x1024 .f32) (ha : a.IsWhole) (x4 : Vec Ideal S1x31x1024 .f32) (b k : ℕ)
    (h : ∀ a : Fin 3, ![0, 0, b] a + S1x31x128.size a ≤ S1x31x1024.size a) (hk : S31x128.Slices ![k, 0] S1x128) (y : S64x128.Idx) :
    tapOf (taps a ha x4 b h) k hk y = n3 (A := 0) x4 k (b + (y 1).val) := by
  unfold tapOf taps
  rw [View.readAt_eq_ld, Memref.IsWhole.read_unread]
  exact tap_at b k x4 h _ hk _ y

/-- The bias, at an index. -/
theorem bias_at_rd (a : Blk S1x1x1024 .f32) (ha : a.IsWhole) (x5 : Vec Ideal S1x1x1024 .f32) (b : ℕ)
    (h : ∀ a : Fin 3, ![0, 0, b] a + S1x1x128.size a ≤ S1x1x1024.size a) (y : S64x128.Idx) :
    broadcastTo S64x128 (bias a ha x5 b h) broadcasts_S1x128_S64x128 y = n3 (A := 0) x5 0 (b + (y 1).val) := by
  unfold bias
  rw [View.readAt_eq_ld, Memref.IsWhole.read_unread]
  exact bias_at b x5 h _ _ y

/-- The sum of the taps over 64 rows, at an index. -/
theorem chunk_at (v : View sig .tc .vmem S544x128 .f32) (L : PL2) (v4 : View sig .tc .vmem S2x7x536x128 .f32) (t : ℕ) (ht : t < 2) (rest : PL4)
    (a6 : Blk S1x31x1024 .f32) (h6 : a6.IsWhole) (x4 : Vec Ideal S1x31x1024 .f32) (a7 : Blk S1x1x1024 .f32) (h7 : a7.IsWhole) (x5 : Vec Ideal S1x1x1024 .f32) (b : ℕ)
    (hw : ∀ a : Fin 3, ![0, 0, b] a + S1x31x128.size a ≤ S1x31x1024.size a) (hb : ∀ a : Fin 3, ![0, 0, b] a + S1x1x128.size a ≤ S1x1x1024.size a)
    (r : ℕ) (hr : r + 64 ≤ 512) (y : S64x128.Idx) :
    chunk v L v4 (copies v L t ht rest) t ht (taps a6 h6 x4 b hw) (bias a7 h7 x5 b hb) r hr y
      = row (fun k l => n3 (A := 0) x4 k (b + l)) (fun l => n3 (A := 0) x5 0 (b + l)) (fun p l => c2 L ((y 0).val + p) l) r (y 1).val := by
  unfold chunk
  simp only [add_at, mul_at, tapOf_at, bias_at_rd, rowsOf_at, rowsAt_at _ _ _ _ _ _ 0 _ (by decide), rowsAt_at _ _ _ _ _ _ 1 _ (by decide),
    rowsAt_at _ _ _ _ _ _ 2 _ (by decide), rowsAt_at _ _ _ _ _ _ 3 _ (by decide), rowsAt_at _ _ _ _ _ _ 4 _ (by decide),
    rowsAt_at _ _ _ _ _ _ 5 _ (by decide), rowsAt_at _ _ _ _ _ _ 6 _ (by decide), row_out, Nat.reduceAdd, Nat.add_assoc]

/-- A lane tile's gated product as the kernel computes it: lanes `o` to `o + 127` of the products with 256 columns of each weight, from
    column `b` on. -/
def gated (a2 : Blk S512x4096 .bf16) (h2 : a2.IsWhole) (x0 : Vec Ideal S512x4096 .bf16) (a3 : Blk S512x128 .f32) (h3 : a3.IsWhole) (x1 : Vec Ideal S512x128 .f32)
    (a4 : Blk S4096x1024 .bf16) (h4 : a4.IsWhole) (x2 : Vec Ideal S4096x1024 .bf16) (a5 : Blk S4096x1024 .bf16) (h5 : a5.IsWhole) (x3 : Vec Ideal S4096x1024 .bf16)
    (o b : ℕ) (hs : S512x256.Slices ![0, o] S512x128) (hb : ∀ a : Fin 2, ![0, b] a + S4096x256.size a ≤ S4096x1024.size a) : FVec Ideal S512x128 .f32 :=
  mulf
    (mulf (extractStridedSlice S512x128 ![0, o] (k0_pay20 (F := Ideal)
        (View.readAt (Elt Ideal) a2.view (Rect.unit (s := S512x4096) ![0, 0] S512x4096.size inb_S512x4096_S512x4096_0_0).toLoadRect (h2.unread x0))
        (View.readAt (Elt Ideal) a4.view (Rect.unit (s := S4096x1024) ![0, b] S4096x256.size hb).toLoadRect (h4.unread x2))) hs)
      (View.readAt (Elt Ideal) a3.view (Rect.unit (s := S512x128) ![0, 0] S512x128.size inb_S512x128_S512x128_0_0).toLoadRect (h3.unread x1)))
    (logistic (mulf (extractStridedSlice S512x128 ![0, o] (k0_pay20 (F := Ideal)
        (View.readAt (Elt Ideal) a2.view (Rect.unit (s := S512x4096) ![0, 0] S512x4096.size inb_S512x4096_S512x4096_0_0).toLoadRect (h2.unread x0))
        (View.readAt (Elt Ideal) a5.view (Rect.unit (s := S4096x1024) ![0, b] S4096x256.size hb).toLoadRect (h5.unread x3))) hs)
      (View.readAt (Elt Ideal) a3.view (Rect.unit (s := S512x128) ![0, 0] S512x128.size inb_S512x128_S512x128_0_0).toLoadRect (h3.unread x1))))

variable {a2 : Blk S512x4096 .bf16} {h2 : a2.IsWhole} {x0 : Vec Ideal S512x4096 .bf16} {a3 : Blk S512x128 .f32} {h3 : a3.IsWhole} {x1 : Vec Ideal S512x128 .f32}
  {a4 : Blk S4096x1024 .bf16} {h4 : a4.IsWhole} {x2 : Vec Ideal S4096x1024 .bf16} {a5 : Blk S4096x1024 .bf16} {h5 : a5.IsWhole} {x3 : Vec Ideal S4096x1024 .bf16}

/-- A lane tile's gated product, at an index. -/
theorem gated_at (o b : ℕ) (hs : S512x256.Slices ![0, o] S512x128) (hb : ∀ a : Fin 2, ![0, b] a + S4096x256.size a ≤ S4096x1024.size a) (hob : 128 ∣ o + b)
    (y : S512x128.Idx) : gated a2 h2 x0 a3 h3 x1 a4 h4 x2 a5 h5 x3 o b hs hb y = n2 (glu x0 x1 x2 x3) (y 0).val (b + o + (y 1).val) := by
  simp only [gated, k0_pay20, View.readAt_eq_ld, Memref.IsWhole.read_unread, ld_x, ld_rs]
  exact lane_glu x0 x1 x2 x3 o b hb hs hob y

/-- What is written to a lane tile's buffer: 32 rows from before, then the gated product. -/
def lane (a2 : Blk S512x4096 .bf16) (h2 : a2.IsWhole) (x0 : Vec Ideal S512x4096 .bf16) (a3 : Blk S512x128 .f32) (h3 : a3.IsWhole) (x1 : Vec Ideal S512x128 .f32)
    (a4 : Blk S4096x1024 .bf16) (h4 : a4.IsWhole) (x2 : Vec Ideal S4096x1024 .bf16) (a5 : Blk S4096x1024 .bf16) (h5 : a5.IsWhole) (x3 : Vec Ideal S4096x1024 .bf16)
    (o b : ℕ) (hs : S512x256.Slices ![0, o] S512x128) (hb : ∀ a : Fin 2, ![0, b] a + S4096x256.size a ≤ S4096x1024.size a) (u : FVec Ideal S32x128 .f32) : PL2 :=
  [⟨Rect.unit (s := S544x128) ![32, 0] S512x128.size inb_S544x128_S512x128_32_0,
      shapeCast S512x128 (gated a2 h2 x0 a3 h3 x1 a4 h4 x2 a5 h5 x3 o b hs hb) shapeCasts_S512x128_S512x128⟩,
    ⟨Rect.unit (s := S544x128) ![0, 0] S32x128.size inb_S544x128_S32x128_0_0, u⟩]

/-- What a lane tile's buffer holds. -/
theorem lane_at (o b : ℕ) (hs : S512x256.Slices ![0, o] S512x128) (hb : ∀ a : Fin 2, ![0, b] a + S4096x256.size a ≤ S4096x1024.size a) (hob : 128 ∣ o + b)
    (u : FVec Ideal S32x128 .f32) (hal : ℕ → ℕ → EReal) (hu : ∀ y : S32x128.Idx, u y = hal (y 0).val (b + o + (y 1).val)) (p l : ℕ) (hp : p < 544) (hl : l < 128) :
    c2 (lane a2 h2 x0 a3 h3 x1 a4 h4 x2 a5 h5 x3 o b hs hb u) p l = buf hal (n2 (glu x0 x1 x2 x3)) p (b + o + l) :=
  c2_buf _ _ _ _ hal _ (b + o) hu (fun y => by rw [shapeCast_self]; exact gated_at o b hs hb hob y) p l hp hl

/-- A piece written to an array agrees with a function there. -/
def Agrees {S : Shape} (f : S.Idx → EReal) (pc : View.Piece (Elt Ideal) S .f32) : Prop := ∀ x, pc.2 x = f (pc.1.emb x)

/-- Each piece of the output block: 64 rows of a lane tile are the convolution there. -/
theorem out_piece {x4 : Vec Ideal S1x31x1024 .f32} {x5 : Vec Ideal S1x1x1024 .f32} {hal : ℕ → ℕ → EReal} {r cc : ℕ}
    {hrc : ∀ a : Fin 2, ![r, cc] a + S64x128.size a ≤ S512x1024.size a} {v : View sig .tc .vmem S544x128 .f32} {L : PL2}
    {v4 : View sig .tc .vmem S2x7x536x128 .f32} {M : PL4} {t : ℕ} (ht : t < 2) {w : FVec Ideal S31x128 .f32} {bi : FVec Ideal S1x128 .f32} (hr : r + 64 ≤ 512)
    {rest : PL4} {a6 : Blk S1x31x1024 .f32} {h6 : a6.IsWhole} {a7 : Blk S1x1x1024 .f32} {h7 : a7.IsWhole}
    {hw : ∀ a : Fin 3, ![0, 0, cc] a + S1x31x128.size a ≤ S1x31x1024.size a} {hb : ∀ a : Fin 3, ![0, 0, cc] a + S1x1x128.size a ≤ S1x1x1024.size a}
    {o b : ℕ} {hs : S512x256.Slices ![0, o] S512x128} {hb' : ∀ a : Fin 2, ![0, b] a + S4096x256.size a ≤ S4096x1024.size a} {u : FVec Ideal S32x128 .f32}
    (eL : L = lane a2 h2 x0 a3 h3 x1 a4 h4 x2 a5 h5 x3 o b hs hb' u) (eM : M = copies v L t ht rest) (ew : w = taps a6 h6 x4 cc hw) (eb : bi = bias a7 h7 x5 cc hb)
    (hu : ∀ y : S32x128.Idx, u y = hal (y 0).val (b + o + (y 1).val)) (hcc : cc = b + o ∧ 128 ∣ o + b) :
    Agrees (S := S512x1024) (fun y => row (n3 (A := 0) x4) (n3 (A := 0) x5 0) (buf hal (n2 (glu x0 x1 x2 x3))) (y 0).val (y 1).val)
      ⟨Rect.unit (s := S512x1024) ![r, cc] S64x128.size hrc, chunk v L v4 M t ht w bi r hr⟩ := by
  intro x
  subst eM ew eb eL
  exact (chunk_at v _ v4 t ht rest a6 h6 x4 a7 h7 x5 cc hw hb r hr x).trans
    (piece_row x4 x5 _ _ cc r (fun p l hp hl => (lane_at o b hs hb' hcc.2 u hal hu p l hp hl).trans (by rw [hcc.1])) hr x _
      (by show r + 1 * (x 0).val = _; omega) (by show cc + 1 * (x 1).val = _; omega))

/-- The halves of a product's 256 columns. -/
theorem half_in (n : ℕ) : S512x256.Slices ![0, 128 * (n % 2)] S512x128 := ⟨rfl, fun a => by
  match a with
  | ⟨0, _⟩ => show 0 + 512 ≤ 512; omega
  | ⟨1, _⟩ => show 128 * (n % 2) + 128 ≤ 256; omega⟩

/-- The weights' columns for a lane tile. -/
theorem cols_in (n : ℕ) (hn : n < 8) : ∀ a : Fin 2, ![0, 256 * (n / 2)] a + S4096x256.size a ≤ S4096x1024.size a := fun a => by
  match a with
  | ⟨0, _⟩ => show 0 + 4096 ≤ 4096; omega
  | ⟨1, _⟩ => show 256 * (n / 2) + 256 ≤ 1024; omega

/-- The taps' lanes for a lane tile. -/
theorem taps_in (n : ℕ) (hn : n < 8) : ∀ a : Fin 3, ![0, 0, 128 * n] a + S1x31x128.size a ≤ S1x31x1024.size a := fun a => by
  match a with
  | ⟨0, _⟩ => show 0 + 1 ≤ 1; omega
  | ⟨1, _⟩ => show 0 + 31 ≤ 31; omega
  | ⟨2, _⟩ => show 128 * n + 128 ≤ 1024; omega

/-- The bias's lanes for a lane tile. -/
theorem bias_in (n : ℕ) (hn : n < 8) : ∀ a : Fin 3, ![0, 0, 128 * n] a + S1x1x128.size a ≤ S1x1x1024.size a := fun a => by
  match a with
  | ⟨0, _⟩ => show 0 + 1 ≤ 1; omega
  | ⟨1, _⟩ => show 0 + 1 ≤ 1; omega
  | ⟨2, _⟩ => show 128 * n + 128 ≤ 1024; omega

/-- Piece `k` of the output block lies within it. -/
theorem piece_in (k : ℕ) (hk : k < 64) : ∀ a : Fin 2, ![64 * (k % 8), 128 * (k / 8)] a + S64x128.size a ≤ S512x1024.size a := fun a => by
  match a with
  | ⟨0, _⟩ => show 64 * (k % 8) + 64 ≤ 512; omega
  | ⟨1, _⟩ => show 128 * (k / 8) + 128 ≤ 1024; omega

/-- A lane tile's columns of the carried rows lie within them. -/
theorem carry_in (n : ℕ) (hn : n < 8) : ∀ a : Fin 2, ![0, 128 * n] a + S32x128.size a ≤ S32x1024.size a := fun a => by
  match a with
  | ⟨0, _⟩ => show 0 + 32 ≤ 32; omega
  | ⟨1, _⟩ => show 128 * n + 128 ≤ 1024; omega

/-- The eight lane tiles' buffers, by number. -/
def bufs (v0 v1 v2 v3 v4 v5 v6 v7 : View sig .tc .vmem S544x128 .f32) : ℕ → View sig .tc .vmem S544x128 .f32
  | 0 => v0 | 1 => v1 | 2 => v2 | 3 => v3 | 4 => v4 | 5 => v5 | 6 => v6 | _ => v7

section Whole

variable (a2 h2 x0 a3 h3 x1 a4 h4 x2 a5 h5 x3) (vs : ℕ → View sig .tc .vmem S544x128 .f32) (u : ∀ n, n < 8 → FVec Ideal S32x128 .f32)

/-- What is written to lane tile `n`'s buffer. -/
def lanes (n : ℕ) (hn : n < 8) : PL2 :=
  lane a2 h2 x0 a3 h3 x1 a4 h4 x2 a5 h5 x3 (128 * (n % 2)) (256 * (n / 2)) (half_in n) (cols_in n hn) (u n hn)

/-- What the first `n` lane tiles write to the shifted copies. -/
def stack : ∀ n, n ≤ 8 → PL4
  | 0, _ => []
  | n + 1, h => copies (vs n) (lanes a2 h2 x0 a3 h3 x1 a4 h4 x2 a5 h5 x3 u n h) (n % 2) (Nat.mod_lt n (by decide)) (stack n (Nat.le_of_succ_le h))

variable (v4 : View sig .tc .vmem S2x7x536x128 .f32) (a6 : Blk S1x31x1024 .f32) (h6 : a6.IsWhole) (x4 : Vec Ideal S1x31x1024 .f32)
  (a7 : Blk S1x1x1024 .f32) (h7 : a7.IsWhole) (x5 : Vec Ideal S1x1x1024 .f32)

/-- Piece `k` of the output block: rows `64 * (k % 8)` on of lane tile `k / 8`. -/
def piece (k : ℕ) (hk : k < 64) : View.Piece (Elt Ideal) S512x1024 .f32 :=
  have hn : k / 8 < 8 := by omega
  ⟨Rect.unit (s := S512x1024) ![64 * (k % 8), 128 * (k / 8)] S64x128.size (piece_in k hk),
    chunk (vs (k / 8)) (lanes a2 h2 x0 a3 h3 x1 a4 h4 x2 a5 h5 x3 u (k / 8) hn) v4 (stack a2 h2 x0 a3 h3 x1 a4 h4 x2 a5 h5 x3 vs u (k / 8 + 1) hn)
      ((k / 8) % 2) (Nat.mod_lt _ (by decide)) (taps a6 h6 x4 (128 * (k / 8)) (taps_in _ hn)) (bias a7 h7 x5 (128 * (k / 8)) (bias_in _ hn))
      (64 * (k % 8)) (by omega)⟩

/-- The first `k` pieces of the output block, the last one first. -/
def pieces : ∀ k, k ≤ 64 → List (View.Piece (Elt Ideal) S512x1024 .f32)
  | 0, _ => []
  | k + 1, h => piece a2 h2 x0 a3 h3 x1 a4 h4 x2 a5 h5 x3 vs u v4 a6 h6 x4 a7 h7 x5 k h :: pieces k (Nat.le_of_succ_le h)

/-- Every piece of the output block is the convolution there. -/
theorem pieces_agree (hal : ℕ → ℕ → EReal) (hu : ∀ n hn (y : S32x128.Idx), u n hn y = hal (y 0).val (128 * n + (y 1).val)) :
    ∀ k h, ∀ pc ∈ pieces a2 h2 x0 a3 h3 x1 a4 h4 x2 a5 h5 x3 vs u v4 a6 h6 x4 a7 h7 x5 k h,
      Agrees (S := S512x1024) (fun y => row (n3 (A := 0) x4) (n3 (A := 0) x5 0) (buf hal (n2 (glu x0 x1 x2 x3))) (y 0).val (y 1).val) pc
  | 0, _ => List.forall_mem_nil _
  | k + 1, h => by
    refine List.forall_mem_cons.mpr ⟨?_, pieces_agree hal hu k (Nat.le_of_succ_le h)⟩
    have e : 128 * (k / 8) = 256 * (k / 8 / 2) + 128 * (k / 8 % 2) := by omega
    exact out_piece _ _ rfl rfl rfl rfl (fun y => by rw [← e]; exact hu _ _ y) ⟨e, by omega⟩

end Whole

/-- Each piece of the rows carried over: the last 32 rows of a lane tile's buffer. -/
theorem last_piece {hal : ℕ → ℕ → EReal} {cc : ℕ} {hrc : ∀ a : Fin 2, ![0, cc] a + S32x128.size a ≤ S32x1024.size a} {v : View sig .tc .vmem S544x128 .f32}
    {hl : ∀ a : Fin 2, ![512, 0] a + S32x128.size a ≤ S544x128.size a} {hc : S32x128.ShapeCasts S32x128}
    {o b : ℕ} {hs : S512x256.Slices ![0, o] S512x128} {hb' : ∀ a : Fin 2, ![0, b] a + S4096x256.size a ≤ S4096x1024.size a}
    {u : FVec Ideal S32x128 .f32} (hu : ∀ y : S32x128.Idx, u y = hal (y 0).val (b + o + (y 1).val)) (hcc : cc = b + o ∧ 128 ∣ o + b) :
    Agrees (S := S32x1024) (fun y => n2 (glu x0 x1 x2 x3) (480 + (y 0).val) (y 1).val)
      ⟨Rect.unit (s := S32x1024) ![0, cc] S32x128.size hrc,
        shapeCast S32x128 (v.readCov (lane a2 h2 x0 a3 h3 x1 a4 h4 x2 a5 h5 x3 o b hs hb' u) (Rect.unit (s := S544x128) ![512, 0] S32x128.size hl).toLoadRect) hc⟩ := fun x =>
  (congrFun (shapeCast_self _ hc) x).trans <| (rd2t v _ hl x).trans
    (piece_last _ hal _ cc (fun p l hp hl => (lane_at o b hs hb' hcc.2 u hal hu p l hp hl).trans (by rw [hcc.1])) x _
      (by show 0 + 1 * (x 0).val = _; omega) (by show cc + 1 * (x 1).val = _; omega))

/-- The zero rows before a column block's first row. -/
theorem zeros_at (hc : S32x128.ShapeCasts S32x128) (y : S32x128.Idx) :
    shapeCast S32x128 (broadcast S32x128 (Scalar.ofBits (F := Ideal) .f32 0x00000000#32)) hc y = 0 := by
  rw [shapeCast_self]
  exact Ideal.ofBits_zero_f32

/-- The rows before a later row block: those carried over. -/
theorem carry_at (a9 : Blk S32x1024 .f32) (h9 : a9.IsWhole) (xs0 : Vec Ideal S32x1024 .f32) (b : ℕ) (h : ∀ a : Fin 2, ![0, b] a + S32x128.size a ≤ S32x1024.size a)
    (hc : S32x128.ShapeCasts S32x128) (y : S32x128.Idx) :
    (shapeCast S32x128 (View.readAt (Elt Ideal) a9.view (Rect.unit (s := S32x1024) ![0, b] S32x128.size h).toLoadRect (h9.unread xs0)) hc : FVec Ideal S32x128 .f32) y
      = n2 (R := 32) (C := 1024) xs0 (y 0).val (b + (y 1).val) := by
  refine (congrFun (shapeCast_self (s := S32x128) _ hc) y).trans ?_
  rw [View.readAt_eq_ld, Memref.IsWhole.read_unread]
  exact halo_at xs0 b h y

end Cert.GluIdeal.RefValue

end
-- ==== Proof.GluFirst.lean ====
/-
  The gated convolution's block at a column block’s first rows: the output block, and the rows carried over to the next block.
-/
module

public import proofs.«01_k».proof.Proof.GluPiece
public import Idealize.ShloMosaic.Lib.KernelVsHost

@[expose] public section

noncomputable section

namespace Cert.GluIdeal.RefValue.First

open Cert.GluIdeal Cert.GluIdeal.Gen Cert.Tiles Idealize.ShloMosaic Idealize.ShloMosaic.ValueIdx Idealize.ShloMosaic.TcCoe Idealize.SL.Sem
open Cert.GluIdeal.Gen.kernelRun0_A.sl

variable (c : Dev nD) (a2 : Memref sig .tc .vmem S512x4096 .bf16) (h2 : a2.IsWhole) (a3 : Memref sig .tc .vmem S512x128 .f32) (h3 : a3.IsWhole) (a4 : Memref sig .tc .vmem S4096x1024 .bf16) (h4 : a4.IsWhole) (a5 : Memref sig .tc .vmem S4096x1024 .bf16) (h5 : a5.IsWhole) (a6 : Memref sig .tc .vmem S1x31x1024 .f32) (h6 : a6.IsWhole) (a7 : Memref sig .tc .vmem S1x1x1024 .f32) (h7 : a7.IsWhole) (a8 : Memref sig .tc .vmem S512x1024 .f32) (h8 : a8.IsWhole) (a9 : Memref sig .tc .vmem S32x1024 .f32) (h9 : a9.IsWhole) (a10 : Memref sig .tc .vmem S2x7x536x128 .f32) (h10 : a10.IsWhole) (a11 : Memref sig .tc .vmem S544x128 .f32) (h11 : a11.IsWhole) (a12 : Memref sig .tc .vmem S544x128 .f32) (h12 : a12.IsWhole) (a13 : Memref sig .tc .vmem S544x128 .f32) (h13 : a13.IsWhole) (a14 : Memref sig .tc .vmem S544x128 .f32) (h14 : a14.IsWhole) (a15 : Memref sig .tc .vmem S544x128 .f32) (h15 : a15.IsWhole) (a16 : Memref sig .tc .vmem S544x128 .f32) (h16 : a16.IsWhole) (a17 : Memref sig .tc .vmem S544x128 .f32) (h17 : a17.IsWhole) (a18 : Memref sig .tc .vmem S544x128 .f32) (h18 : a18.IsWhole)
  (x0 : Vec Ideal S512x4096 .bf16) (x1 : Vec Ideal S512x128 .f32) (x2 : Vec Ideal S4096x1024 .bf16) (x3 : Vec Ideal S4096x1024 .bf16) (x4 : Vec Ideal S1x31x1024 .f32) (x5 : Vec Ideal S1x1x1024 .f32)

/-- The rows before the first ones: zeros. -/
def before (n : ℕ) (_ : n < 8) : FVec Ideal S32x128 .f32 :=
  shapeCast S32x128 (broadcast S32x128 (Scalar.ofBits (F := Ideal) .f32 0x00000000#32)) shapeCasts_S32x128_S32x128

/-- The output block's writes are the pieces: zeros before them. -/
theorem writes_eq (i : grid0.Coords) (hc0 : cond0_0 i) (hc1 : ¬cond0_1 i) :
    (kernelRun0_A (F := Ideal) c i a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5).1
      = pieces a2 h2 x0 a3 h3 x1 a4 h4 x2 a5 h5 x3 (bufs a11.view a12.view a13.view a14.view a15.view a16.view a17.view a18.view) before a10.view a6 h6 x4 a7 h7 x5 64 (Nat.le_refl 64) := by
  sl_kernel_rfl

/-- The output block. -/
theorem out_rows (i : grid0.Coords) (hc0 : cond0_0 i) (hc1 : ¬cond0_1 i) (y : S512x1024.Idx) :
    out0_A_6 (F := Ideal) c i a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 y = row (n3 (A := 0) x4) (n3 (A := 0) x5 0) (buf (fun _ _ => 0) (n2 (glu x0 x1 x2 x3))) (y 0).val (y 1).val := by
  unfold out0_A_6
  rw [View.read_writes_junk_apply_eq_canon]
  refine View.canon_apply_of_pieces (Val := Elt Ideal) (e := .f32) (S := S512x1024) (fun y => row (n3 (A := 0) x4) (n3 (A := 0) x5 0) (buf (fun _ _ => 0) (n2 (glu x0 x1 x2 x3))) (y 0).val (y 1).val) _ ?_ y ?_
  · rw [writes_eq]
    exact pieces_agree _ _ _ _ _ _ _ _ _ _ _ _ _ _ _ _ _ _ _ _ _ _ (fun _ _ y => zeros_at _ y) _ _
  · exact View.cover_of_tiledL (s := S512x1024) _ S64x128.size (by sl_kernel_rfl) y

/-- The rows carried over. -/
theorem last_rows (i : grid0.Coords) (hc0 : cond0_0 i) (hc1 : ¬cond0_1 i) (y : S32x1024.Idx) :
    sout0_A_0 (F := Ideal) c i a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 y = (n2 (glu x0 x1 x2 x3)) (480 + (y 0).val) (y 1).val := by
  unfold sout0_A_0
  unfold kernelRun0_A
  dsimp only
  rw [View.read_writes_junk_apply_eq_canon]
  refine View.canon_apply_of_pieces (Val := Elt Ideal) (e := .f32) (S := S32x1024) (fun y => (n2 (glu x0 x1 x2 x3)) (480 + (y 0).val) (y 1).val) _ ?_ y ?_
  · repeat refine List.forall_mem_cons.mpr ⟨last_piece (hal := fun _ _ => 0) (fun y => zeros_at shapeCasts_S32x128_S32x128 y) (by decide), ?_⟩
    exact List.forall_mem_nil _
  · exact View.cover_of_tiledL (s := S32x1024) _ S32x128.size (by sl_kernel_rfl) y

end Cert.GluIdeal.RefValue.First

end
-- ==== Proof.GluLater.lean ====
/-
  The gated convolution's block after a column block’s first rows: the output block, and the rows carried over to the next block.
-/
module

public import proofs.«01_k».proof.Proof.GluPiece
public import Idealize.ShloMosaic.Lib.KernelVsHost

@[expose] public section

noncomputable section

namespace Cert.GluIdeal.RefValue.Later

open Cert.GluIdeal Cert.GluIdeal.Gen Cert.Tiles Idealize.ShloMosaic Idealize.ShloMosaic.ValueIdx Idealize.ShloMosaic.TcCoe Idealize.SL.Sem
open Cert.GluIdeal.Gen.kernelRun0_B.sl

variable (c : Dev nD) (a2 : Memref sig .tc .vmem S512x4096 .bf16) (h2 : a2.IsWhole) (a3 : Memref sig .tc .vmem S512x128 .f32) (h3 : a3.IsWhole) (a4 : Memref sig .tc .vmem S4096x1024 .bf16) (h4 : a4.IsWhole) (a5 : Memref sig .tc .vmem S4096x1024 .bf16) (h5 : a5.IsWhole) (a6 : Memref sig .tc .vmem S1x31x1024 .f32) (h6 : a6.IsWhole) (a7 : Memref sig .tc .vmem S1x1x1024 .f32) (h7 : a7.IsWhole) (a8 : Memref sig .tc .vmem S512x1024 .f32) (h8 : a8.IsWhole) (a9 : Memref sig .tc .vmem S32x1024 .f32) (h9 : a9.IsWhole) (a10 : Memref sig .tc .vmem S2x7x536x128 .f32) (h10 : a10.IsWhole) (a11 : Memref sig .tc .vmem S544x128 .f32) (h11 : a11.IsWhole) (a12 : Memref sig .tc .vmem S544x128 .f32) (h12 : a12.IsWhole) (a13 : Memref sig .tc .vmem S544x128 .f32) (h13 : a13.IsWhole) (a14 : Memref sig .tc .vmem S544x128 .f32) (h14 : a14.IsWhole) (a15 : Memref sig .tc .vmem S544x128 .f32) (h15 : a15.IsWhole) (a16 : Memref sig .tc .vmem S544x128 .f32) (h16 : a16.IsWhole) (a17 : Memref sig .tc .vmem S544x128 .f32) (h17 : a17.IsWhole) (a18 : Memref sig .tc .vmem S544x128 .f32) (h18 : a18.IsWhole)
  (x0 : Vec Ideal S512x4096 .bf16) (x1 : Vec Ideal S512x128 .f32) (x2 : Vec Ideal S4096x1024 .bf16) (x3 : Vec Ideal S4096x1024 .bf16) (x4 : Vec Ideal S1x31x1024 .f32) (x5 : Vec Ideal S1x1x1024 .f32) (xs0 : Vec Ideal S32x1024 .f32)

/-- The rows before: those carried over. -/
def before (n : ℕ) (hn : n < 8) : FVec Ideal S32x128 .f32 :=
  shapeCast S32x128 (View.readAt (Elt Ideal) a9.view (Rect.unit (s := S32x1024) ![0, 128 * n] S32x128.size (carry_in n hn)).toLoadRect (h9.unread xs0)) shapeCasts_S32x128_S32x128

/-- The output block's writes are the pieces: the carried rows before them. -/
theorem writes_eq (i : grid0.Coords) (hc0 : ¬cond0_0 i) (hc1 : cond0_1 i) :
    (kernelRun0_B (F := Ideal) c i a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 xs0).1
      = pieces a2 h2 x0 a3 h3 x1 a4 h4 x2 a5 h5 x3 (bufs a11.view a12.view a13.view a14.view a15.view a16.view a17.view a18.view) (before a9 h9 xs0) a10.view a6 h6 x4 a7 h7 x5 64 (Nat.le_refl 64) := by
  sl_kernel_rfl

/-- The output block. -/
theorem out_rows (i : grid0.Coords) (hc0 : ¬cond0_0 i) (hc1 : cond0_1 i) (y : S512x1024.Idx) :
    out0_B_6 (F := Ideal) c i a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 xs0 y = row (n3 (A := 0) x4) (n3 (A := 0) x5 0) (buf (n2 (R := 32) (C := 1024) xs0) (n2 (glu x0 x1 x2 x3))) (y 0).val (y 1).val := by
  unfold out0_B_6
  rw [View.read_writes_junk_apply_eq_canon]
  refine View.canon_apply_of_pieces (Val := Elt Ideal) (e := .f32) (S := S512x1024) (fun y => row (n3 (A := 0) x4) (n3 (A := 0) x5 0) (buf (n2 (R := 32) (C := 1024) xs0) (n2 (glu x0 x1 x2 x3))) (y 0).val (y 1).val) _ ?_ y ?_
  · rw [writes_eq]
    exact pieces_agree _ _ _ _ _ _ _ _ _ _ _ _ _ _ _ _ _ _ _ _ _ _ (fun n hn y => carry_at _ _ xs0 _ (carry_in n hn) _ y) _ _
  · exact View.cover_of_tiledL (s := S512x1024) _ S64x128.size (by sl_kernel_rfl) y

/-- The rows carried over. -/
theorem last_rows (i : grid0.Coords) (hc0 : ¬cond0_0 i) (hc1 : cond0_1 i) (y : S32x1024.Idx) :
    sout0_B_0 (F := Ideal) c i a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 xs0 y = (n2 (glu x0 x1 x2 x3)) (480 + (y 0).val) (y 1).val := by
  unfold sout0_B_0
  unfold kernelRun0_B
  dsimp only
  rw [View.read_writes_junk_apply_eq_canon]
  refine View.canon_apply_of_pieces (Val := Elt Ideal) (e := .f32) (S := S32x1024) (fun y => (n2 (glu x0 x1 x2 x3)) (480 + (y 0).val) (y 1).val) _ ?_ y ?_
  · repeat refine List.forall_mem_cons.mpr ⟨last_piece (fun y => carry_at _ _ xs0 _ _ shapeCasts_S32x128_S32x128 y) (by decide), ?_⟩
    exact List.forall_mem_nil _
  · exact View.cover_of_tiledL (s := S32x1024) _ S32x128.size (by sl_kernel_rfl) y

end Cert.GluIdeal.RefValue.Later

end
-- ==== Proof.GluValue.lean ====
/-
  The gated convolution over the whole arrays: each block the kernel writes back is its block of one function of the arguments, the rows
  carried from one block to the next being the gated product's there, and that function is the reference's, element by element.
-/
module

public import proofs.«01_k».proof.Proof.GluFirst
public import proofs.«01_k».proof.Proof.GluLater
public import proofs.«01_k».proof.Proof.Gen.GluRefIdeal.Read

@[expose] public section

noncomputable section

namespace Cert.GluIdeal.RefValue

open Cert.GluIdeal Cert.GluIdeal.Gen Cert.Tiles Idealize.ShloMosaic Idealize.ShloMosaic.ValueIdx Idealize.ShloMosaic.TcCoe Idealize.SL.Sem
open Idealize.ShloMosaic.Pipeline (Dat)

/-- The weight's columns of the gated operand. -/
def colsA (w : FVec Ideal S4096x10240 .bf16) : FVec Ideal ⟨2, ![4096, 2048]⟩ .bf16 :=
  fun i => w (ix2 (i 0 : Fin 4096) (⟨6144 + (i 1).val, by have h : (i 1).val < 2048 := (i 1).isLt; omega⟩ : Fin 10240))

/-- The weight's columns of the gate. -/
def colsG (w : FVec Ideal S4096x10240 .bf16) : FVec Ideal ⟨2, ![4096, 2048]⟩ .bf16 :=
  fun i => w (ix2 (i 0 : Fin 4096) (⟨8192 + (i 1).val, by have h : (i 1).val < 2048 := (i 1).isLt; omega⟩ : Fin 10240))

/-- The gated product over the whole arrays, at a row number and a column number. -/
def gl (x : FVec Ideal S8192x4096 .bf16) (rs : FVec Ideal S8192x128 .f32) (w : FVec Ideal S4096x10240 .bf16) : ℕ → ℕ → EReal :=
  n2 (glu (R := 8192) (C := 2048) x rs (colsA w) (colsG w))

/-- The convolution of the gated product, 32 rows of zeros before it, over the whole arrays. -/
def conv (x : FVec Ideal S8192x4096 .bf16) (rs : FVec Ideal S8192x128 .f32) (w : FVec Ideal S4096x10240 .bf16) (cw : FVec Ideal S4x31x2048 .f32)
    (cb : FVec Ideal S4x2048 .f32) (y : S8192x2048.Idx) : EReal :=
  row (n3 (A := 3) (R := 31) (C := 2048) cw) (n2 (R := 4) (C := 2048) cb 0) (buf (fun _ _ => 0) (gl x rs w)) (y 0).val (y 1).val

/-- A block's buffer is the whole array's, from the block's first row on. -/
theorem buf_shift (hal g G : ℕ → ℕ → EReal) (I q l L : ℕ) (hq : q < 544) (hI : I = 0 ∨ 32 ≤ I)
    (h0 : q < 32 → hal q l = if I = 0 then 0 else G (I + q - 32) L) (h1 : ∀ r, r < 512 → g r l = G (I + r) L) :
    buf hal g q l = buf (fun _ _ => 0) G (I + q) L := by
  unfold buf
  by_cases hq' : q < 32
  · rw [if_pos hq', h0 hq']
    by_cases hz : I = 0
    · rw [if_pos hz, if_pos (by omega)]
    · rw [if_neg hz, if_neg (by omega)]
  · rw [if_neg hq', if_neg (by omega), h1 _ (by omega)]
    exact congrArg (fun r => G r L) (by omega)

variable (m : (ℓ : Loc nD τ sig) → Buf (Elt Ideal) ℓ)

/-- Which blocks a grid point's windows are, decided over the points. -/
theorem idx_facts : ∀ t : Fin cfg0.N,
    (win0_0.index t 0 = t.val % 16 ∧ win0_0.index t 1 = 0 ∧ win0_1.index t 0 = t.val % 16 ∧ win0_1.index t 1 = 0)
    ∧ (win0_2.index t 0 = 0 ∧ win0_2.index t 1 = 6 + t.val / 16 ∧ win0_3.index t 0 = 0 ∧ win0_3.index t 1 = 8 + t.val / 16)
    ∧ (win0_4.index t 0 = 0 ∧ win0_4.index t 1 = 0 ∧ win0_4.index t 2 = t.val / 16)
    ∧ (win0_5.index t 0 = 0 ∧ win0_5.index t 1 = 0 ∧ win0_5.index t 2 = t.val / 16)
    ∧ win0_6.index t 0 = t.val % 16 ∧ win0_6.index t 1 = t.val / 16 :=
  (by decide +kernel : ∀ t : Fin grid0.N, _)

/-- The bias as the launch passes it: one row a layer. -/
theorem V_bias (c : Dev nD) (a : Fin 4) (b : Fin 1) (k : Fin 2048) :
    V m c main_v0 (ix3 a b k : S4x1x2048.Idx) = m ((c : Thread nD τ).loc main_arg4) (ix2 a k : S4x2048.Idx) := by
  have e : V m c main_v0 = shapeCast S4x1x2048 (m ((c : Thread nD τ).loc main_arg4)) shapeCasts_S4x2048_S4x1x2048 := rfl
  rw [e]
  refine shapeCast_apply _ shapeCasts_S4x2048_S4x1x2048 _ _ ?_
  rw [Shape.rowMajor_val_two, Shape.rowMajor_val_three]
  show a.val * 2048 + k.val = (a.val * 1 + b.val) * 2048 + k.val
  have := b.isLt
  omega

/-- The gated product over the launch's arguments. -/
abbrev Gm (c : Dev nD) : ℕ → ℕ → EReal :=
  gl (m ((c : Thread nD τ).loc main_arg0)) (m ((c : Thread nD τ).loc main_arg1)) (m ((c : Thread nD τ).loc main_arg2))

/-- The result over the launch's arguments. -/
abbrev Out (c : Dev nD) : Buf (Elt Ideal) ((c : Thread nD τ).loc main_v1) :=
  conv (m ((c : Thread nD τ).loc main_arg0)) (m ((c : Thread nD τ).loc main_arg1)) (m ((c : Thread nD τ).loc main_arg2))
    (m ((c : Thread nD τ).loc main_arg3)) (m ((c : Thread nD τ).loc main_arg4))

/-- A block's gated product is the whole array's there. -/
theorem glu_block (c : Dev nD) (t : Fin cfg0.N) (r l : ℕ) (hr : r < 512) (hl : l < 1024) :
    n2 (glu (R := 512) (C := 1024) (iblk m c 0 t) (iblk m c 1 t) (iblk m c 2 t) (iblk m c 3 t)) r l
      = Gm m c (512 * (t.val % 16) + r) (1024 * (t.val / 16) + l) := by
  have hN : t.val < 32 := lt_of_lt_of_eq t.isLt (show cfg0.N = 32 from N_0)
  obtain ⟨⟨h00, h01, h10, h11⟩, ⟨h20, h21, h30, h31⟩, -⟩ := idx_facts t
  have hR : 512 * (t.val % 16) + r < 8192 := by omega
  have hL : 1024 * (t.val / 16) + l < 2048 := by omega
  unfold Gm gl
  rw [n2_of _ _ _ hr hl, n2_of _ _ _ hR hL]
  have e0 : ∀ k : Fin 4096, iblk m c 0 t (ix2 ⟨r, hr⟩ k : S512x4096.Idx) = m ((c : Thread nD τ).loc main_arg0) (ix2 ⟨512 * (t.val % 16) + r, hR⟩ k : S8192x4096.Idx) := fun k => by
    show V m c main_arg0 ((win0_0.rect t).emb (ix2 ⟨r, hr⟩ k : S512x4096.Idx)) = _
    rw [V_main_arg0]
    refine congrArg _ (funext fun a => Fin.ext ?_)
    match a with
    | ⟨0, _⟩ => show win0_0.index t 0 * 512 + 1 * r = 512 * (t.val % 16) + r; rw [h00]; omega
    | ⟨1, _⟩ => show win0_0.index t 1 * 4096 + 1 * k.val = k.val; rw [h01]; omega
  have e1 : ∀ k : Fin 128, iblk m c 1 t (ix2 ⟨r, hr⟩ k : S512x128.Idx) = m ((c : Thread nD τ).loc main_arg1) (ix2 ⟨512 * (t.val % 16) + r, hR⟩ k : S8192x128.Idx) := fun k => by
    show V m c main_arg1 ((win0_1.rect t).emb (ix2 ⟨r, hr⟩ k : S512x128.Idx)) = _
    rw [V_main_arg1]
    refine congrArg _ (funext fun a => Fin.ext ?_)
    match a with
    | ⟨0, _⟩ => show win0_1.index t 0 * 512 + 1 * r = 512 * (t.val % 16) + r; rw [h10]; omega
    | ⟨1, _⟩ => show win0_1.index t 1 * 128 + 1 * k.val = k.val; rw [h11]; omega
  have e2 : ∀ k : Fin 4096, iblk m c 2 t (ix2 k ⟨l, hl⟩ : S4096x1024.Idx) = colsA (m ((c : Thread nD τ).loc main_arg2)) (ix2 k ⟨1024 * (t.val / 16) + l, hL⟩) := fun k => by
    show V m c main_arg2 ((win0_2.rect t).emb (ix2 k ⟨l, hl⟩ : S4096x1024.Idx)) = _
    rw [V_main_arg2]
    unfold colsA
    refine congrArg (m ((c : Thread nD τ).loc main_arg2)) (funext fun a => Fin.ext ?_)
    match a with
    | ⟨0, _⟩ => show win0_2.index t 0 * 4096 + 1 * k.val = k.val; rw [h20]; omega
    | ⟨1, _⟩ => show win0_2.index t 1 * 1024 + 1 * l = 6144 + (1024 * (t.val / 16) + l); rw [h21]; omega
  have e3 : ∀ k : Fin 4096, iblk m c 3 t (ix2 k ⟨l, hl⟩ : S4096x1024.Idx) = colsG (m ((c : Thread nD τ).loc main_arg2)) (ix2 k ⟨1024 * (t.val / 16) + l, hL⟩) := fun k => by
    show V m c main_arg2 ((win0_3.rect t).emb (ix2 k ⟨l, hl⟩ : S4096x1024.Idx)) = _
    rw [V_main_arg2]
    unfold colsG
    refine congrArg (m ((c : Thread nD τ).loc main_arg2)) (funext fun a => Fin.ext ?_)
    match a with
    | ⟨0, _⟩ => show win0_3.index t 0 * 4096 + 1 * k.val = k.val; rw [h30]; omega
    | ⟨1, _⟩ => show win0_3.index t 1 * 1024 + 1 * l = 8192 + (1024 * (t.val / 16) + l); rw [h31]; omega
  have hm : (⟨l % 128, Nat.mod_lt _ (by decide)⟩ : Fin 128) = ⟨(1024 * (t.val / 16) + l) % 128, Nat.mod_lt _ (by decide)⟩ := Fin.ext (by show l % 128 = (1024 * (t.val / 16) + l) % 128; omega)
  have p2 : proj (R := 512) (C := 1024) (iblk m c 0 t) (iblk m c 1 t) (iblk m c 2 t) ⟨r, hr⟩ ⟨l, hl⟩
      = proj (m ((c : Thread nD τ).loc main_arg0)) (m ((c : Thread nD τ).loc main_arg1)) (colsA (m ((c : Thread nD τ).loc main_arg2))) ⟨512 * (t.val % 16) + r, hR⟩ ⟨1024 * (t.val / 16) + l, hL⟩ := by
    unfold proj
    rw [← hm]
    exact congrArg₂ (fun u v : EReal => u * v) (Finset.sum_congr rfl fun k _ => congrArg₂ (fun u v : EReal => u * v) (e0 k) (e2 k)) (e1 _)
  have p3 : proj (R := 512) (C := 1024) (iblk m c 0 t) (iblk m c 1 t) (iblk m c 3 t) ⟨r, hr⟩ ⟨l, hl⟩
      = proj (m ((c : Thread nD τ).loc main_arg0)) (m ((c : Thread nD τ).loc main_arg1)) (colsG (m ((c : Thread nD τ).loc main_arg2))) ⟨512 * (t.val % 16) + r, hR⟩ ⟨1024 * (t.val / 16) + l, hL⟩ := by
    unfold proj
    rw [← hm]
    exact congrArg₂ (fun u v : EReal => u * v) (Finset.sum_congr rfl fun k _ => congrArg₂ (fun u v : EReal => u * v) (e0 k) (e3 k)) (e1 _)
  exact congrArg₂ (fun u v : EReal => u * Ideal.logistic v) p2 p3

/-- The rows a point carries over are the last of its block's gated product. -/
theorem carried (c : Dev nD) (t : Fin cfg0.N) (y : S32x1024.Idx) :
    (outsAt0 m c t.val t.isLt).2 y = Gm m c (512 * (t.val % 16) + (480 + (y 0).val)) (1024 * (t.val / 16) + (y 1).val) := by
  have y0 : (y 0).val < 32 := (y 0).isLt
  by_cases h0 : t.val % 16 = 0
  · rw [outsAt0_A m c t h0 (by omega)]
    dsimp only
    exact (First.last_rows ..).trans (glu_block m c t _ _ (by omega) (y 1).isLt)
  · rw [outsAt0_B m c t h0 (by omega)]
    dsimp only
    exact (Later.last_rows ..).trans (glu_block m c t _ _ (by omega) (y 1).isLt)

/-- A block's convolution is the whole array's there, when the rows carried over are the array's before the block. -/
theorem block (c : Dev nD) (t : Fin cfg0.N) (hal : ℕ → ℕ → EReal) (y : S512x1024.Idx)
    (hh : ∀ q : ℕ, q < 32 → hal q (y 1).val = if 512 * (t.val % 16) = 0 then 0 else Gm m c (512 * (t.val % 16) + q - 32) (1024 * (t.val / 16) + (y 1).val)) :
    row (n3 (A := 0) (R := 31) (C := 1024) (iblk m c 4 t)) (n3 (A := 0) (R := 1) (C := 1024) (iblk m c 5 t) 0)
        (buf hal (n2 (glu (R := 512) (C := 1024) (iblk m c 0 t) (iblk m c 1 t) (iblk m c 2 t) (iblk m c 3 t)))) (y 0).val (y 1).val
      = Out m c ((win0_6.rect t).emb y) := by
  have hN : t.val < 32 := lt_of_lt_of_eq t.isLt (show cfg0.N = 32 from N_0)
  have y0 : (y 0).val < 512 := (y 0).isLt
  have y1 : (y 1).val < 1024 := (y 1).isLt
  obtain ⟨-, -, ⟨h40, h41, h42⟩, ⟨h50, h51, h52⟩, h60, h61⟩ := idx_facts t
  have g0 : ((win0_6.rect t).emb y 0).val = 512 * (t.val % 16) + (y 0).val := by
    show win0_6.index t 0 * 512 + 1 * (y 0).val = _; rw [h60]; omega
  have g1 : ((win0_6.rect t).emb y 1).val = 1024 * (t.val / 16) + (y 1).val := by
    show win0_6.index t 1 * 1024 + 1 * (y 1).val = _; rw [h61]; omega
  unfold Out conv
  refine row_congr _ _ _ _ _ _ _ _ _ _ (fun k hk => ?_) ?_ (fun k hk => ?_)
  · rw [g1, n3_of _ _ _ hk y1, n3_of _ _ _ hk (by omega)]
    show V m c main_arg3 ((win0_4.rect t).emb (ix3 0 ⟨k, hk⟩ ⟨(y 1).val, y1⟩ : S1x31x1024.Idx)) = _
    rw [V_main_arg3]
    refine congrArg (m ((c : Thread nD τ).loc main_arg3)) (funext fun a => Fin.ext ?_)
    match a with
    | ⟨0, _⟩ => show win0_4.index t 0 * 1 + 1 * 0 = 0; rw [h40]
    | ⟨1, _⟩ => show win0_4.index t 1 * 31 + 1 * k = k; rw [h41]; omega
    | ⟨2, _⟩ => show win0_4.index t 2 * 1024 + 1 * (y 1).val = 1024 * (t.val / 16) + (y 1).val; rw [h42]; omega
  · rw [g1, n3_of _ _ _ (by decide) y1, n2_of _ _ _ (by decide) (by omega)]
    show V m c main_v0 ((win0_5.rect t).emb (ix3 0 0 ⟨(y 1).val, y1⟩ : S1x1x1024.Idx)) = _
    refine Eq.trans ?_ (V_bias m c (0 : Fin 4) (0 : Fin 1) ⟨1024 * (t.val / 16) + (y 1).val, by omega⟩)
    refine congrArg (V m c main_v0) (funext fun a => Fin.ext ?_)
    match a with
    | ⟨0, _⟩ => show win0_5.index t 0 * 1 + 1 * 0 = 0; rw [h50]
    | ⟨1, _⟩ => show win0_5.index t 1 * 1 + 1 * 0 = 0; rw [h51]
    | ⟨2, _⟩ => show win0_5.index t 2 * 1024 + 1 * (y 1).val = 1024 * (t.val / 16) + (y 1).val; rw [h52]; omega
  · rw [g0, g1, Nat.add_assoc]
    exact buf_shift _ _ _ _ _ _ _ (by omega) (by omega) (hh _) fun r hr => glu_block m c t r _ hr y1

/-- What a point writes back is its block of the whole array's. -/
theorem flushed_eq (c : Dev nD) (t : Fin cfg0.N) : (dats m 0 c).flushed 6 t = ((cfg0.win 6).blk t).view.read (Elt Ideal) (Out m c) := by
  by_cases h0 : t.val % 16 = 0
  · rw [Value.flushed6_A m c t h0 (by omega)]
    exact funext fun y => (First.out_rows .. : _ = _).trans (block m c t _ y fun q _ => by rw [if_pos (by omega)])
  · rw [Value.flushed6_B m c t h0 (by omega)]
    refine funext fun y => (Later.out_rows .. : _ = _).trans (block m c t _ y fun q hq => ?_)
    have y1 : (y 1).val < 1024 := (y 1).isLt
    rw [if_neg (by omega), n2_of _ _ _ hq y1]
    refine (carried m c ⟨t.val - 1, Nat.lt_of_le_of_lt (Nat.sub_le _ _) t.isLt⟩ _).trans (congrArg₂ (Gm m c) ?_ ?_)
    · show 512 * ((t.val - 1) % 16) + (480 + q) = _; omega
    · show 1024 * ((t.val - 1) / 16) + (y 1).val = _; omega

/-- The result's array after the run. -/
theorem final (c : Dev nD) : (dats m 0 c).arrAt 6 cfg0.N = Out m c :=
  (dats m 0 c).arrAt_eq_of_cover 6 (Out m c) (fun t _ => flushed_eq m c t) fun i => (Value.covered_iff6 i).2
    (by have h0 : (i 0).val < 8192 := (i 0).isLt; have h1 : (i 1).val < 2048 := (i 1).isLt; omega)

section Reference

open Cert.GluRefIdeal.Read
open Cert.GluRefIdeal (S8222x2048)

variable (x0 : Vec Ideal S8192x4096 .bf16) (x1 : Vec Ideal S8192x128 .f32) (x2 : Vec Ideal S4096x10240 .bf16) (x3 : Vec Ideal S4x31x2048 .f32) (x4 : Vec Ideal S4x2048 .f32)

/-- The reference's gated product is the same function. -/
theorem ref_gl (i : S8192x2048.Idx) : val_main_v15 (F := Ideal) x0 x1 x2 i = gl x0 x1 x2 (i 0).val (i 1).val := by
  have h0 : (i 0).val < 8192 := (i 0).isLt
  have h1 : (i 1).val < 2048 := (i 1).isLt
  have hs : val_main_v2 (F := Ideal) x1 i = x1 (ix2 (i 0) ⟨(i 1).val % 128, Nat.mod_lt _ (by decide)⟩) := by
    rw [val_main_v2_apply, val_main_v1_apply, val_main_v0_apply]
    refine congrArg x1 (funext fun a => Fin.ext ?_)
    match a with
    | ⟨0, _⟩ => show (((0 * 8192 + ((i 0).val * 2048 + (i 1).val) / 2048 % 8192) * 1 + 0) * 128 + ((i 0).val * 2048 + (i 1).val) % 128) / 128 = (i 0).val; omega
    | ⟨1, _⟩ => show (((0 * 8192 + ((i 0).val * 2048 + (i 1).val) / 2048 % 8192) * 1 + 0) * 128 + ((i 0).val * 2048 + (i 1).val) % 128) % 128 = (i 1).val % 128; omega
  have hx : ∀ k : Fin 4096, lidx_main_v4 i k = ix2 (i 0) k := fun k => by
    funext a
    match a with
    | ⟨0, _⟩ => rfl
    | ⟨1, _⟩ => rfl
  have g5 : val_main_v5 (F := Ideal) x0 x1 x2 i = proj x0 x1 (colsA x2) (i 0) (i 1) := by
    rw [val_main_v5_apply, val_main_v4_apply, hs]
    refine congrArg (fun u : EReal => u * _) (Finset.sum_congr rfl fun k _ => congrArg₂ (fun u v : EReal => u * v) (congrArg x0 (hx k)) ?_)
    rw [val_main_v3_apply]
    refine congrArg x2 (funext fun a => Fin.ext ?_)
    match a with
    | ⟨0, _⟩ => rfl
    | ⟨1, _⟩ => rfl
  have g8 : val_main_v8 (F := Ideal) x0 x1 x2 i = proj x0 x1 (colsG x2) (i 0) (i 1) := by
    rw [val_main_v8_apply, val_main_v7_apply, hs]
    refine congrArg (fun u : EReal => u * _) (Finset.sum_congr rfl fun k _ => congrArg₂ (fun u v : EReal => u * v) (congrArg x0 (hx k)) ?_)
    rw [val_main_v6_apply]
    refine congrArg x2 (funext fun a => Fin.ext ?_)
    match a with
    | ⟨0, _⟩ => rfl
    | ⟨1, _⟩ => rfl
  rw [val_main_v15_apply, val_main_v14_apply, val_main_v13_apply, val_main_v12_apply, val_main_v11_apply, val_main_v10_apply, val_main_v9_apply, g5, g8]
  unfold gl
  rw [n2_of _ _ _ h0 h1]
  show proj x0 x1 (colsA x2) (i 0) (i 1) * Ideal.div (Ideal.ofBits .f32 0x3F800000#32) (Ideal.ofBits .f32 0x3F800000#32 + Ideal.exp (-proj x0 x1 (colsG x2) (i 0) (i 1))) = _
  rw [one_bits]
  rfl

/-- The reference's padded product: 30 rows of zeros, then the product. -/
theorem ref_pad (i : S8222x2048.Idx) : val_main_v16 (F := Ideal) x0 x1 x2 i = buf (fun _ _ => 0) (gl x0 x1 x2) ((i 0).val + 2) (i 1).val := by
  have h0 : (i 0).val < 8222 := (i 0).isLt
  have h1 : (i 1).val < 2048 := (i 1).isLt
  unfold val_main_v16 buf
  by_cases h : (i 0).val < 30
  · rw [if_pos (by omega)]
    refine (pad_apply_of_not_inside _ _ _ _ _ _ _ i (0 : Fin 2) (fun hh => ?_)).trans ?_
    · have : 30 ≤ (i 0).val := hh.1
      omega
    · exact sitofp_zero (φ := .f32)
  · rw [if_neg (by omega)]
    refine (pad_apply_of_inside _ _ _ _ _ _ _ i (ix2 (⟨(i 0).val - 30, by omega⟩ : Fin 8192) (⟨(i 1).val, h1⟩ : Fin 2048) : S8192x2048.Idx) (fun a => by
      match a with
      | ⟨0, _⟩ => show (i 0).val = 30 + ((i 0).val - 30) * (0 + 1); omega
      | ⟨1, _⟩ => show (i 1).val = 0 + (i 1).val * (0 + 1); omega)).trans ?_
    refine (ref_gl x0 x1 x2 _).trans ?_
    exact congrArg (fun r => gl x0 x1 x2 r (i 1).val) (by show (i 0).val - 30 = (i 0).val + 2 - 32; omega)

/-- One tap's product in the reference. -/
theorem ref_tap (k : ℕ) (a : S4x31x2048.Idx) (b : S8222x2048.Idx) (i : S8192x2048.Idx) (ha0 : (a 0).val = 0) (ha1 : (a 1).val = k)
    (ha2 : (a 2).val = (i 1).val % 2048) (hb0 : (b 0).val = k + (i 0).val) (hb1 : (b 1).val = (i 1).val) :
    x3 a * val_main_v16 (F := Ideal) x0 x1 x2 b = n3 (A := 3) (R := 31) (C := 2048) x3 k (i 1).val * buf (fun _ _ => 0) (gl x0 x1 x2) ((i 0).val + (k + 2)) (i 1).val := by
  have h1 : (i 1).val < 2048 := (i 1).isLt
  have hk : (a 1).val < 31 := (a 1).isLt
  refine congrArg₂ (fun u v : EReal => u * v) ?_ ?_
  · rw [n3_of _ _ _ (by omega) h1]
    refine congrArg x3 (funext fun d => Fin.ext ?_)
    match d with
    | ⟨0, _⟩ => exact ha0
    | ⟨1, _⟩ => exact ha1
    | ⟨2, _⟩ => exact ha2.trans (Nat.mod_eq_of_lt h1)
  · rw [ref_pad, hb0, hb1]
    exact congrArg (fun r => buf _ _ r _) (by omega)

theorem tp0 (i : S8192x2048.Idx) : val_main_v22 (F := Ideal) x0 x1 x2 x3 i = n3 (A := 3) (R := 31) (C := 2048) x3 0 (i 1).val * buf (fun _ _ => 0) (gl x0 x1 x2) ((i 0).val + 2) (i 1).val := by
  rw [val_main_v22_apply, val_main_v21_apply, val_main_v20_apply, val_main_v18_apply, val_main_v17_apply, val_main_v19_apply]
  exact ref_tap x0 x1 x2 x3 0 _ _ i rfl rfl rfl (Nat.zero_add _).symm rfl

theorem tp1 (i : S8192x2048.Idx) : val_main_v28 (F := Ideal) x0 x1 x2 x3 i = n3 (A := 3) (R := 31) (C := 2048) x3 1 (i 1).val * buf (fun _ _ => 0) (gl x0 x1 x2) ((i 0).val + 3) (i 1).val := by
  rw [val_main_v28_apply, val_main_v27_apply, val_main_v26_apply, val_main_v24_apply, val_main_v23_apply, val_main_v25_apply]
  exact ref_tap x0 x1 x2 x3 1 _ _ i rfl rfl rfl (by show 1 + (i 0).val = _; rfl) rfl

theorem tp2 (i : S8192x2048.Idx) : val_main_v35 (F := Ideal) x0 x1 x2 x3 i = n3 (A := 3) (R := 31) (C := 2048) x3 2 (i 1).val * buf (fun _ _ => 0) (gl x0 x1 x2) ((i 0).val + 4) (i 1).val := by
  rw [val_main_v35_apply, val_main_v34_apply, val_main_v33_apply, val_main_v31_apply, val_main_v30_apply, val_main_v32_apply]
  exact ref_tap x0 x1 x2 x3 2 _ _ i rfl rfl rfl (by show 2 + (i 0).val = _; rfl) rfl

theorem tp3 (i : S8192x2048.Idx) : val_main_v42 (F := Ideal) x0 x1 x2 x3 i = n3 (A := 3) (R := 31) (C := 2048) x3 3 (i 1).val * buf (fun _ _ => 0) (gl x0 x1 x2) ((i 0).val + 5) (i 1).val := by
  rw [val_main_v42_apply, val_main_v41_apply, val_main_v40_apply, val_main_v38_apply, val_main_v37_apply, val_main_v39_apply]
  exact ref_tap x0 x1 x2 x3 3 _ _ i rfl rfl rfl (by show 3 + (i 0).val = _; rfl) rfl

theorem tp4 (i : S8192x2048.Idx) : val_main_v49 (F := Ideal) x0 x1 x2 x3 i = n3 (A := 3) (R := 31) (C := 2048) x3 4 (i 1).val * buf (fun _ _ => 0) (gl x0 x1 x2) ((i 0).val + 6) (i 1).val := by
  rw [val_main_v49_apply, val_main_v48_apply, val_main_v47_apply, val_main_v45_apply, val_main_v44_apply, val_main_v46_apply]
  exact ref_tap x0 x1 x2 x3 4 _ _ i rfl rfl rfl (by show 4 + (i 0).val = _; rfl) rfl

theorem tp5 (i : S8192x2048.Idx) : val_main_v56 (F := Ideal) x0 x1 x2 x3 i = n3 (A := 3) (R := 31) (C := 2048) x3 5 (i 1).val * buf (fun _ _ => 0) (gl x0 x1 x2) ((i 0).val + 7) (i 1).val := by
  rw [val_main_v56_apply, val_main_v55_apply, val_main_v54_apply, val_main_v52_apply, val_main_v51_apply, val_main_v53_apply]
  exact ref_tap x0 x1 x2 x3 5 _ _ i rfl rfl rfl (by show 5 + (i 0).val = _; rfl) rfl

theorem tp6 (i : S8192x2048.Idx) : val_main_v63 (F := Ideal) x0 x1 x2 x3 i = n3 (A := 3) (R := 31) (C := 2048) x3 6 (i 1).val * buf (fun _ _ => 0) (gl x0 x1 x2) ((i 0).val + 8) (i 1).val := by
  rw [val_main_v63_apply, val_main_v62_apply, val_main_v61_apply, val_main_v59_apply, val_main_v58_apply, val_main_v60_apply]
  exact ref_tap x0 x1 x2 x3 6 _ _ i rfl rfl rfl (by show 6 + (i 0).val = _; rfl) rfl

theorem tp7 (i : S8192x2048.Idx) : val_main_v70 (F := Ideal) x0 x1 x2 x3 i = n3 (A := 3) (R := 31) (C := 2048) x3 7 (i 1).val * buf (fun _ _ => 0) (gl x0 x1 x2) ((i 0).val + 9) (i 1).val := by
  rw [val_main_v70_apply, val_main_v69_apply, val_main_v68_apply, val_main_v66_apply, val_main_v65_apply, val_main_v67_apply]
  exact ref_tap x0 x1 x2 x3 7 _ _ i rfl rfl rfl (by show 7 + (i 0).val = _; rfl) rfl

theorem tp8 (i : S8192x2048.Idx) : val_main_v77 (F := Ideal) x0 x1 x2 x3 i = n3 (A := 3) (R := 31) (C := 2048) x3 8 (i 1).val * buf (fun _ _ => 0) (gl x0 x1 x2) ((i 0).val + 10) (i 1).val := by
  rw [val_main_v77_apply, val_main_v76_apply, val_main_v75_apply, val_main_v73_apply, val_main_v72_apply, val_main_v74_apply]
  exact ref_tap x0 x1 x2 x3 8 _ _ i rfl rfl rfl (by show 8 + (i 0).val = _; rfl) rfl

theorem tp9 (i : S8192x2048.Idx) : val_main_v84 (F := Ideal) x0 x1 x2 x3 i = n3 (A := 3) (R := 31) (C := 2048) x3 9 (i 1).val * buf (fun _ _ => 0) (gl x0 x1 x2) ((i 0).val + 11) (i 1).val := by
  rw [val_main_v84_apply, val_main_v83_apply, val_main_v82_apply, val_main_v80_apply, val_main_v79_apply, val_main_v81_apply]
  exact ref_tap x0 x1 x2 x3 9 _ _ i rfl rfl rfl (by show 9 + (i 0).val = _; rfl) rfl

theorem tp10 (i : S8192x2048.Idx) : val_main_v91 (F := Ideal) x0 x1 x2 x3 i = n3 (A := 3) (R := 31) (C := 2048) x3 10 (i 1).val * buf (fun _ _ => 0) (gl x0 x1 x2) ((i 0).val + 12) (i 1).val := by
  rw [val_main_v91_apply, val_main_v90_apply, val_main_v89_apply, val_main_v87_apply, val_main_v86_apply, val_main_v88_apply]
  exact ref_tap x0 x1 x2 x3 10 _ _ i rfl rfl rfl (by show 10 + (i 0).val = _; rfl) rfl

theorem tp11 (i : S8192x2048.Idx) : val_main_v98 (F := Ideal) x0 x1 x2 x3 i = n3 (A := 3) (R := 31) (C := 2048) x3 11 (i 1).val * buf (fun _ _ => 0) (gl x0 x1 x2) ((i 0).val + 13) (i 1).val := by
  rw [val_main_v98_apply, val_main_v97_apply, val_main_v96_apply, val_main_v94_apply, val_main_v93_apply, val_main_v95_apply]
  exact ref_tap x0 x1 x2 x3 11 _ _ i rfl rfl rfl (by show 11 + (i 0).val = _; rfl) rfl

theorem tp12 (i : S8192x2048.Idx) : val_main_v105 (F := Ideal) x0 x1 x2 x3 i = n3 (A := 3) (R := 31) (C := 2048) x3 12 (i 1).val * buf (fun _ _ => 0) (gl x0 x1 x2) ((i 0).val + 14) (i 1).val := by
  rw [val_main_v105_apply, val_main_v104_apply, val_main_v103_apply, val_main_v101_apply, val_main_v100_apply, val_main_v102_apply]
  exact ref_tap x0 x1 x2 x3 12 _ _ i rfl rfl rfl (by show 12 + (i 0).val = _; rfl) rfl

theorem tp13 (i : S8192x2048.Idx) : val_main_v112 (F := Ideal) x0 x1 x2 x3 i = n3 (A := 3) (R := 31) (C := 2048) x3 13 (i 1).val * buf (fun _ _ => 0) (gl x0 x1 x2) ((i 0).val + 15) (i 1).val := by
  rw [val_main_v112_apply, val_main_v111_apply, val_main_v110_apply, val_main_v108_apply, val_main_v107_apply, val_main_v109_apply]
  exact ref_tap x0 x1 x2 x3 13 _ _ i rfl rfl rfl (by show 13 + (i 0).val = _; rfl) rfl

theorem tp14 (i : S8192x2048.Idx) : val_main_v119 (F := Ideal) x0 x1 x2 x3 i = n3 (A := 3) (R := 31) (C := 2048) x3 14 (i 1).val * buf (fun _ _ => 0) (gl x0 x1 x2) ((i 0).val + 16) (i 1).val := by
  rw [val_main_v119_apply, val_main_v118_apply, val_main_v117_apply, val_main_v115_apply, val_main_v114_apply, val_main_v116_apply]
  exact ref_tap x0 x1 x2 x3 14 _ _ i rfl rfl rfl (by show 14 + (i 0).val = _; rfl) rfl

theorem tp15 (i : S8192x2048.Idx) : val_main_v126 (F := Ideal) x0 x1 x2 x3 i = n3 (A := 3) (R := 31) (C := 2048) x3 15 (i 1).val * buf (fun _ _ => 0) (gl x0 x1 x2) ((i 0).val + 17) (i 1).val := by
  rw [val_main_v126_apply, val_main_v125_apply, val_main_v124_apply, val_main_v122_apply, val_main_v121_apply, val_main_v123_apply]
  exact ref_tap x0 x1 x2 x3 15 _ _ i rfl rfl rfl (by show 15 + (i 0).val = _; rfl) rfl

theorem tp16 (i : S8192x2048.Idx) : val_main_v133 (F := Ideal) x0 x1 x2 x3 i = n3 (A := 3) (R := 31) (C := 2048) x3 16 (i 1).val * buf (fun _ _ => 0) (gl x0 x1 x2) ((i 0).val + 18) (i 1).val := by
  rw [val_main_v133_apply, val_main_v132_apply, val_main_v131_apply, val_main_v129_apply, val_main_v128_apply, val_main_v130_apply]
  exact ref_tap x0 x1 x2 x3 16 _ _ i rfl rfl rfl (by show 16 + (i 0).val = _; rfl) rfl

theorem tp17 (i : S8192x2048.Idx) : val_main_v140 (F := Ideal) x0 x1 x2 x3 i = n3 (A := 3) (R := 31) (C := 2048) x3 17 (i 1).val * buf (fun _ _ => 0) (gl x0 x1 x2) ((i 0).val + 19) (i 1).val := by
  rw [val_main_v140_apply, val_main_v139_apply, val_main_v138_apply, val_main_v136_apply, val_main_v135_apply, val_main_v137_apply]
  exact ref_tap x0 x1 x2 x3 17 _ _ i rfl rfl rfl (by show 17 + (i 0).val = _; rfl) rfl

theorem tp18 (i : S8192x2048.Idx) : val_main_v147 (F := Ideal) x0 x1 x2 x3 i = n3 (A := 3) (R := 31) (C := 2048) x3 18 (i 1).val * buf (fun _ _ => 0) (gl x0 x1 x2) ((i 0).val + 20) (i 1).val := by
  rw [val_main_v147_apply, val_main_v146_apply, val_main_v145_apply, val_main_v143_apply, val_main_v142_apply, val_main_v144_apply]
  exact ref_tap x0 x1 x2 x3 18 _ _ i rfl rfl rfl (by show 18 + (i 0).val = _; rfl) rfl

theorem tp19 (i : S8192x2048.Idx) : val_main_v154 (F := Ideal) x0 x1 x2 x3 i = n3 (A := 3) (R := 31) (C := 2048) x3 19 (i 1).val * buf (fun _ _ => 0) (gl x0 x1 x2) ((i 0).val + 21) (i 1).val := by
  rw [val_main_v154_apply, val_main_v153_apply, val_main_v152_apply, val_main_v150_apply, val_main_v149_apply, val_main_v151_apply]
  exact ref_tap x0 x1 x2 x3 19 _ _ i rfl rfl rfl (by show 19 + (i 0).val = _; rfl) rfl

theorem tp20 (i : S8192x2048.Idx) : val_main_v161 (F := Ideal) x0 x1 x2 x3 i = n3 (A := 3) (R := 31) (C := 2048) x3 20 (i 1).val * buf (fun _ _ => 0) (gl x0 x1 x2) ((i 0).val + 22) (i 1).val := by
  rw [val_main_v161_apply, val_main_v160_apply, val_main_v159_apply, val_main_v157_apply, val_main_v156_apply, val_main_v158_apply]
  exact ref_tap x0 x1 x2 x3 20 _ _ i rfl rfl rfl (by show 20 + (i 0).val = _; rfl) rfl

theorem tp21 (i : S8192x2048.Idx) : val_main_v168 (F := Ideal) x0 x1 x2 x3 i = n3 (A := 3) (R := 31) (C := 2048) x3 21 (i 1).val * buf (fun _ _ => 0) (gl x0 x1 x2) ((i 0).val + 23) (i 1).val := by
  rw [val_main_v168_apply, val_main_v167_apply, val_main_v166_apply, val_main_v164_apply, val_main_v163_apply, val_main_v165_apply]
  exact ref_tap x0 x1 x2 x3 21 _ _ i rfl rfl rfl (by show 21 + (i 0).val = _; rfl) rfl

theorem tp22 (i : S8192x2048.Idx) : val_main_v175 (F := Ideal) x0 x1 x2 x3 i = n3 (A := 3) (R := 31) (C := 2048) x3 22 (i 1).val * buf (fun _ _ => 0) (gl x0 x1 x2) ((i 0).val + 24) (i 1).val := by
  rw [val_main_v175_apply, val_main_v174_apply, val_main_v173_apply, val_main_v171_apply, val_main_v170_apply, val_main_v172_apply]
  exact ref_tap x0 x1 x2 x3 22 _ _ i rfl rfl rfl (by show 22 + (i 0).val = _; rfl) rfl

theorem tp23 (i : S8192x2048.Idx) : val_main_v182 (F := Ideal) x0 x1 x2 x3 i = n3 (A := 3) (R := 31) (C := 2048) x3 23 (i 1).val * buf (fun _ _ => 0) (gl x0 x1 x2) ((i 0).val + 25) (i 1).val := by
  rw [val_main_v182_apply, val_main_v181_apply, val_main_v180_apply, val_main_v178_apply, val_main_v177_apply, val_main_v179_apply]
  exact ref_tap x0 x1 x2 x3 23 _ _ i rfl rfl rfl (by show 23 + (i 0).val = _; rfl) rfl

theorem tp24 (i : S8192x2048.Idx) : val_main_v189 (F := Ideal) x0 x1 x2 x3 i = n3 (A := 3) (R := 31) (C := 2048) x3 24 (i 1).val * buf (fun _ _ => 0) (gl x0 x1 x2) ((i 0).val + 26) (i 1).val := by
  rw [val_main_v189_apply, val_main_v188_apply, val_main_v187_apply, val_main_v185_apply, val_main_v184_apply, val_main_v186_apply]
  exact ref_tap x0 x1 x2 x3 24 _ _ i rfl rfl rfl (by show 24 + (i 0).val = _; rfl) rfl

theorem tp25 (i : S8192x2048.Idx) : val_main_v196 (F := Ideal) x0 x1 x2 x3 i = n3 (A := 3) (R := 31) (C := 2048) x3 25 (i 1).val * buf (fun _ _ => 0) (gl x0 x1 x2) ((i 0).val + 27) (i 1).val := by
  rw [val_main_v196_apply, val_main_v195_apply, val_main_v194_apply, val_main_v192_apply, val_main_v191_apply, val_main_v193_apply]
  exact ref_tap x0 x1 x2 x3 25 _ _ i rfl rfl rfl (by show 25 + (i 0).val = _; rfl) rfl

theorem tp26 (i : S8192x2048.Idx) : val_main_v203 (F := Ideal) x0 x1 x2 x3 i = n3 (A := 3) (R := 31) (C := 2048) x3 26 (i 1).val * buf (fun _ _ => 0) (gl x0 x1 x2) ((i 0).val + 28) (i 1).val := by
  rw [val_main_v203_apply, val_main_v202_apply, val_main_v201_apply, val_main_v199_apply, val_main_v198_apply, val_main_v200_apply]
  exact ref_tap x0 x1 x2 x3 26 _ _ i rfl rfl rfl (by show 26 + (i 0).val = _; rfl) rfl

theorem tp27 (i : S8192x2048.Idx) : val_main_v210 (F := Ideal) x0 x1 x2 x3 i = n3 (A := 3) (R := 31) (C := 2048) x3 27 (i 1).val * buf (fun _ _ => 0) (gl x0 x1 x2) ((i 0).val + 29) (i 1).val := by
  rw [val_main_v210_apply, val_main_v209_apply, val_main_v208_apply, val_main_v206_apply, val_main_v205_apply, val_main_v207_apply]
  exact ref_tap x0 x1 x2 x3 27 _ _ i rfl rfl rfl (by show 27 + (i 0).val = _; rfl) rfl

theorem tp28 (i : S8192x2048.Idx) : val_main_v217 (F := Ideal) x0 x1 x2 x3 i = n3 (A := 3) (R := 31) (C := 2048) x3 28 (i 1).val * buf (fun _ _ => 0) (gl x0 x1 x2) ((i 0).val + 30) (i 1).val := by
  rw [val_main_v217_apply, val_main_v216_apply, val_main_v215_apply, val_main_v213_apply, val_main_v212_apply, val_main_v214_apply]
  exact ref_tap x0 x1 x2 x3 28 _ _ i rfl rfl rfl (by show 28 + (i 0).val = _; rfl) rfl

theorem tp29 (i : S8192x2048.Idx) : val_main_v224 (F := Ideal) x0 x1 x2 x3 i = n3 (A := 3) (R := 31) (C := 2048) x3 29 (i 1).val * buf (fun _ _ => 0) (gl x0 x1 x2) ((i 0).val + 31) (i 1).val := by
  rw [val_main_v224_apply, val_main_v223_apply, val_main_v222_apply, val_main_v220_apply, val_main_v219_apply, val_main_v221_apply]
  exact ref_tap x0 x1 x2 x3 29 _ _ i rfl rfl rfl (by show 29 + (i 0).val = _; rfl) rfl

theorem tp30 (i : S8192x2048.Idx) : val_main_v231 (F := Ideal) x0 x1 x2 x3 i = n3 (A := 3) (R := 31) (C := 2048) x3 30 (i 1).val * buf (fun _ _ => 0) (gl x0 x1 x2) ((i 0).val + 32) (i 1).val := by
  rw [val_main_v231_apply, val_main_v230_apply, val_main_v229_apply, val_main_v227_apply, val_main_v226_apply, val_main_v228_apply]
  exact ref_tap x0 x1 x2 x3 30 _ _ i rfl rfl rfl (by show 30 + (i 0).val = _; rfl) rfl

/-- The reference's result is the same function. -/
theorem ref_conv : val_main_v237 (F := Ideal) x0 x1 x2 x3 x4 = conv x0 x1 x2 x3 x4 := by
  funext i
  have h1 : (i 1).val < 2048 := (i 1).isLt
  have hb : val_main_v236 (F := Ideal) x4 i = n2 (R := 4) (C := 2048) x4 0 (i 1).val := by
    rw [val_main_v236_apply, val_main_v235_apply, val_main_v234_apply, val_main_v233_apply, n2_of _ _ _ (by decide) h1]
    refine congrArg x4 (funext fun d => Fin.ext ?_)
    match d with
    | ⟨0, _⟩ => rfl
    | ⟨1, _⟩ => exact Nat.mod_eq_of_lt h1
  unfold conv
  rw [row_out, val_main_v237_apply, val_main_v232_apply, val_main_v225_apply, val_main_v218_apply, val_main_v211_apply, val_main_v204_apply, val_main_v197_apply, val_main_v190_apply, val_main_v183_apply, val_main_v176_apply, val_main_v169_apply, val_main_v162_apply, val_main_v155_apply, val_main_v148_apply, val_main_v141_apply, val_main_v134_apply, val_main_v127_apply, val_main_v120_apply, val_main_v113_apply, val_main_v106_apply, val_main_v99_apply, val_main_v92_apply, val_main_v85_apply, val_main_v78_apply, val_main_v71_apply, val_main_v64_apply, val_main_v57_apply, val_main_v50_apply, val_main_v43_apply, val_main_v36_apply, val_main_v29_apply, hb, tp0, tp1, tp2, tp3, tp4, tp5, tp6, tp7, tp8, tp9, tp10, tp11, tp12, tp13, tp14, tp15, tp16, tp17, tp18, tp19, tp20, tp21, tp22, tp23, tp24, tp25, tp26, tp27, tp28, tp29, tp30]
  rfl

end Reference

end Cert.GluIdeal.RefValue

end
-- ==== Proof.GluClaim.lean ====
/-
  The gated convolution's value claim: the kernel's run and the reference's, each ending at the same function.
-/
module

public import proofs.«01_k».proof.Defs
public import proofs.«01_k».proof.Proof.GluValue

@[expose] public section

noncomputable section

namespace Cert.GluIdeal.RefValue

open Idealize.ShloMosaic Idealize.ShloMosaic.TcCoe Idealize.SL.Sem

/-- The kernel's result is the convolution of the gated product, and so is the reference's. -/
theorem algebraic : @Cert.algebraic_GluIdeal_GluRefIdeal Cert.GluIdeal.Gen.facts Cert.GluRefIdeal.Gen.facts := by
  intro m g m' g' _ hag
  refine ⟨fun c => Out m c, ?_, ?_⟩
  · exact (θ_run _ _ _).mono (fun _ h c => ⟨(h c).1.trans (final m c), (h c).2⟩) (Cert.GluIdeal.Value.run_blocks m g)
  · refine (θ_run _ _ _).mono (fun _ h c => ⟨(h c).1.trans ?_, (h c).2⟩) (Cert.GluRefIdeal.Value.run (F := Ideal) m' g')
    obtain ⟨h0, h1, h2, h3, h4⟩ := hag c
    refine (Cert.GluRefIdeal.Read.val_main_v237_eq ..).trans ((ref_conv ..).trans ?_)
    exact congr (congr (congr (congr (congrArg conv h0) h1) h2) h3) h4

end Cert.GluIdeal.RefValue

end
-- ==== Proof.lean ====
/- The certificate's claims, each from the module that proves it. -/
module

public import proofs.«01_k».proof.Defs
public import proofs.«01_k».proof.Proof.AttnFrame
public import proofs.«01_k».proof.Proof.AttnIdealFrame
public import Idealize.ShloMosaic.Lib.Quiescent
public import proofs.«01_k».proof.Proof.Gen.Swi.Frame
public import proofs.«01_k».proof.Proof.Gen.SwiIdeal.Value
public import proofs.«01_k».proof.Proof.Gen.SwiRefIdeal.Run
public import proofs.«01_k».proof.Proof.Gen.SwiRefIdeal.Read
public import proofs.«01_k».proof.Proof.SwiClaim
public import proofs.«01_k».proof.Proof.Gen.Res.Frame
public import proofs.«01_k».proof.Proof.Gen.ResIdeal.Value
public import proofs.«01_k».proof.Proof.Gen.ResRefIdeal.Run
public import proofs.«01_k».proof.Proof.Gen.ResRefIdeal.Read
public import proofs.«01_k».proof.Proof.ResClaim
public import proofs.«01_k».proof.Proof.Gen.Mix.Frame
public import proofs.«01_k».proof.Proof.Gen.MixIdeal.Value
public import proofs.«01_k».proof.Proof.Gen.MixRefIdeal.Run
public import proofs.«01_k».proof.Proof.Gen.MixRefIdeal.Read
public import proofs.«01_k».proof.Proof.MixClaim
public import proofs.«01_k».proof.Proof.Gen.Qkv.Frame
public import proofs.«01_k».proof.Proof.Gen.QkvIdeal.Value
public import proofs.«01_k».proof.Proof.Gen.QkvRefIdeal.Run
public import proofs.«01_k».proof.Proof.Gen.QkvRefIdeal.Read
public import proofs.«01_k».proof.Proof.QkvClaim
public import proofs.«01_k».proof.Proof.Gen.Glu.Frame
public import proofs.«01_k».proof.Proof.Gen.GluIdeal.Value
public import proofs.«01_k».proof.Proof.Gen.GluRefIdeal.Run
public import proofs.«01_k».proof.Proof.Gen.GluRefIdeal.Read
public import proofs.«01_k».proof.Proof.GluClaim

@[expose] public section

namespace Cert.Proof

open Idealize.ShloMosaic Idealize.SL.Sem

/-- Everything this certificate claims. -/
theorem claim : Cert.Claim :=
  ⟨Cert.Kernel.Gen.facts, Cert.KernelIdeal.Gen.facts, Cert.Swi.Gen.facts, Cert.SwiIdeal.Gen.facts, Cert.SwiRefIdeal.Gen.facts, Cert.Res.Gen.facts, Cert.ResIdeal.Gen.facts, Cert.ResRefIdeal.Gen.facts, Cert.Mix.Gen.facts, Cert.MixIdeal.Gen.facts, Cert.MixRefIdeal.Gen.facts, Cert.Qkv.Gen.facts, Cert.QkvIdeal.Gen.facts, Cert.QkvRefIdeal.Gen.facts, Cert.Glu.Gen.facts, Cert.GluIdeal.Gen.facts, Cert.GluRefIdeal.Gen.facts,
    fun m ρ _ => Cert.Proof.Kernel.frame_all m ρ,
    fun m ρ _ => Cert.Proof.KernelIdeal.frame_all m ρ,
    fun m ρ _ => Cert.Swi.Gen.frame m ρ,
    fun m ρ _ => Cert.SwiIdeal.Gen.frame m ρ,
    fun m ρ _ => (θ_run _ _ _).mono (fun _ h => ⟨fun c => (h c).2.2, sem_eq_zero_of_no_sems rfl _⟩) (Cert.SwiRefIdeal.Value.run (F := Ideal) m ρ),
    fun m ρ _ => Cert.Res.Gen.frame m ρ,
    fun m ρ _ => Cert.ResIdeal.Gen.frame m ρ,
    fun m ρ _ => (θ_run _ _ _).mono (fun _ h => ⟨fun c => (h c).2.2.2, sem_eq_zero_of_no_sems rfl _⟩) (Cert.ResRefIdeal.Value.run (F := Ideal) m ρ),
    fun m ρ _ => Cert.Mix.Gen.frame m ρ,
    fun m ρ _ => Cert.MixIdeal.Gen.frame m ρ,
    fun m ρ _ => (θ_run _ _ _).mono (fun _ h => ⟨fun c => (h c).2.2.2, sem_eq_zero_of_no_sems rfl _⟩) (Cert.MixRefIdeal.Value.run (F := Ideal) m ρ),
    fun m ρ _ => Cert.Qkv.Gen.frame m ρ,
    fun m ρ _ => Cert.QkvIdeal.Gen.frame m ρ,
    fun m ρ _ => (θ_run _ _ _).mono (fun _ h => ⟨fun c => (h c).2.2.2, sem_eq_zero_of_no_sems rfl _⟩) (Cert.QkvRefIdeal.Value.run (F := Ideal) m ρ),
    fun m ρ _ => Cert.Glu.Gen.frame m ρ,
    fun m ρ _ => Cert.GluIdeal.Gen.frame m ρ,
    fun m ρ _ => (θ_run _ _ _).mono (fun _ h => ⟨fun c => (h c).2, sem_eq_zero_of_no_sems rfl _⟩) (Cert.GluRefIdeal.Value.run (F := Ideal) m ρ),
    trivial,
    trivial, Cert.SwiIdeal.RefValue.algebraic,
    trivial, Cert.ResIdeal.RefValue.algebraic,
    trivial, Cert.MixIdeal.RefValue.algebraic,
    trivial, Cert.QkvIdeal.RefValue.algebraic,
    trivial, Cert.GluIdeal.RefValue.algebraic⟩

end Cert.Proof

end
